-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v75) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_PostIdeal_PostReferenceIdeal (hPostIdeal := hPostIdeal) (hPostReferenceIdeal := hPostReferenceIdeal)
-- ==== Pre_finite.lean ====
abbrev S1x16384x8x2x64 : Shape := ⟨5, ![1, 16384, 8, 2, 64]⟩
abbrev S1x16384x8x128 : Shape := ⟨4, ![1, 16384, 8, 128]⟩
abbrev S1x64 : Shape := ⟨2, ![1, 64]⟩
abbrev S1x128 : Shape := ⟨2, ![1, 128]⟩
abbrev S_ : Shape := ⟨0, ![]⟩

class Facts : Prop where
  bcast_S_S1x16384x8x2x64 : S_.BroadcastsInDim S1x16384x8x2x64 (![] : Fin 0 → Fin S1x16384x8x2x64.rank)
  reducesTo_S1x16384x8x2x64_S_d0_1_2_3_4 : S1x16384x8x2x64.ReducesTo [0, 1, 2, 3, 4] S_
  h_S_ : 0 < S_.numel
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S1x16384x8x2x64 .f32) (main_arg1 : FVec F S1x16384x8x2x64 .f32) (main_arg2 : FVec F S1x16384x8x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S1x16384x8x2x64 .f32 := Host.absf main_arg0
  let main_cst : FVec F S_ .f32 := constant S_ .f32 0x7F800000#32
  let main_v1 : FVec F S1x16384x8x2x64 .f32 := broadcastInDim S1x16384x8x2x64 ![] bcast_S_S1x16384x8x2x64 main_cst
  let main_v2 : IVec S1x16384x8x2x64 1 := cmpf .olt main_v0 main_v1
  let main_c : IVec S_ 1 := constantI S_ 1 1#1
  let main_v3 : IVec S_ 1 := (fun x v => Host.reduce IntOp.andi x v reducesTo_S1x16384x8x2x64_S_d0_1_2_3_4 h_S_) main_v2 main_c
  let main_v4 : FVec F S1x16384x8x2x64 .f32 := Host.absf main_arg1
  let main_cst_0 : FVec F S_ .f32 := constant S_ .f32 0x7F800000#32
  let main_v5 : FVec F S1x16384x8x2x64 .f32 := broadcastInDim S1x16384x8x2x64 ![] bcast_S_S1x16384x8x2x64 main_cst_0
  let main_v6 : IVec S1x16384x8x2x64 1 := cmpf .olt main_v4 main_v5
  let main_c_1 : IVec S_ 1 := constantI S_ 1 1#1
  let main_v7 : IVec S_ 1 := (fun x v => Host.reduce IntOp.andi x v reducesTo_S1x16384x8x2x64_S_d0_1_2_3_4 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S1x16384x8x2x64 : Shape := ⟨5, ![1, 16384, 8, 2, 64]⟩
abbrev S1x16384x8x128 : Shape := ⟨4, ![1, 16384, 8, 128]⟩
abbrev S1x64 : Shape := ⟨2, ![1, 64]⟩
abbrev S1x128 : Shape := ⟨2, ![1, 128]⟩
abbrev S_ : Shape := ⟨0, ![]⟩
abbrev S16384x1024 : Shape := ⟨2, ![16384, 1024]⟩
abbrev S1024x16384 : Shape := ⟨2, ![1024, 16384]⟩
abbrev S8x2x64x16384 : Shape := ⟨4, ![8, 2, 64, 16384]⟩
abbrev S1x8x2x64x16384 : Shape := ⟨5, ![1, 8, 2, 64, 16384]⟩
abbrev S2x8x2x64x16384 : Shape := ⟨5, ![2, 8, 2, 64, 16384]⟩
abbrev S2x1024x16384 : Shape := ⟨3, ![2, 1024, 16384]⟩
abbrev S8x128x16384 : Shape := ⟨3, ![8, 128, 16384]⟩
abbrev S8x1x16384 : Shape := ⟨3, ![8, 1, 16384]⟩
abbrev S8x15x16384 : Shape := ⟨3, ![8, 15, 16384]⟩
abbrev S8x144x16384 : Shape := ⟨3, ![8, 144, 16384]⟩
abbrev S1152x16384 : Shape := ⟨2, ![1152, 16384]⟩
abbrev S4x64 : Shape := ⟨2, ![4, 64]⟩
abbrev S128x1 : Shape := ⟨2, ![128, 1]⟩
abbrev S2x128x16384 : Shape := ⟨3, ![2, 128, 16384]⟩
abbrev S16384x128 : Shape := ⟨2, ![16384, 128]⟩
abbrev S144x16384 : Shape := ⟨2, ![144, 16384]⟩
abbrev S128x16384 : Shape := ⟨2, ![128, 16384]⟩
abbrev S2x1x1024 : Shape := ⟨3, ![2, 1, 1024]⟩
abbrev S2x2x144x1024 : Shape := ⟨4, ![2, 2, 144, 1024]⟩
abbrev S2x1024x1024 : Shape := ⟨3, ![2, 1024, 1024]⟩
abbrev S2x2x1024x1024 : Shape := ⟨4, ![2, 2, 1024, 1024]⟩
abbrev S2x2x1x1024 : Shape := ⟨4, ![2, 2, 1, 1024]⟩
abbrev S1024x1024 : Shape := ⟨2, ![1024, 1024]⟩
abbrev S1024x128 : Shape := ⟨2, ![1024, 128]⟩
abbrev S1x128x1024 : Shape := ⟨3, ![1, 128, 1024]⟩
abbrev S128x1024 : Shape := ⟨2, ![128, 1024]⟩
abbrev S1x1024x1024 : Shape := ⟨3, ![1, 1024, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1 : Shape := ⟨2, ![1, 1]⟩
abbrev S1x1x128x1024 : Shape := ⟨4, ![1, 1, 128, 1024]⟩
abbrev S1x1x1x1024 : Shape := ⟨4, ![1, 1, 1, 1024]⟩
abbrev S144x1024 : Shape := ⟨2, ![144, 1024]⟩
abbrev S1x1x144x1024 : Shape := ⟨4, ![1, 1, 144, 1024]⟩
abbrev S1x1x1024x1024 : Shape := ⟨4, ![1, 1, 1024, 1024]⟩

abbrev nBuf : Space → Nat
  | .hbm => 50
  | .vmem => 15
  | .smem => 0
  | _ => 0

abbrev bufTy : (tb : Table) → Fin (tcTables nBuf tb) → BufTy
  | .hbm, ⟨0, _⟩ => ⟨S1x16384x8x2x64, .f32⟩
  | .hbm, ⟨1, _⟩ => ⟨S1x16384x8x2x64, .f32⟩
  | .hbm, ⟨2, _⟩ => ⟨S1x16384x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S1x16384x8x2x64, .f32⟩
  | .hbm, ⟨10, _⟩ => ⟨S1x16384x8x2x64, .f32⟩
  | .hbm, ⟨11, _⟩ => ⟨S_, .f32⟩
  | .hbm, ⟨12, _⟩ => ⟨S_, .f32⟩
  | .hbm, ⟨13, _⟩ => ⟨S1x16384x8x2x64, .f32⟩
  | .hbm, ⟨14, _⟩ => ⟨S1x16384x8x2x64, .f32⟩
  | .hbm, ⟨15, _⟩ => ⟨S16384x1024, .f32⟩
  | .hbm, ⟨16, _⟩ => ⟨S1024x16384, .f32⟩
  | .hbm, ⟨17, _⟩ => ⟨S8x2x64x16384, .f32⟩
  | .hbm, ⟨18, _⟩ => ⟨S8x2x64x16384, .i32⟩
  | .hbm, ⟨19, _⟩ => ⟨S_, .i32⟩
  | .hbm, ⟨20, _⟩ => ⟨S8x2x64x16384, .i32⟩
  | .hbm, ⟨21, _⟩ => ⟨S8x2x64x16384, .i1⟩
  | .hbm, ⟨22, _⟩ => ⟨S_, .f32⟩
  | .hbm, ⟨23, _⟩ => ⟨S_, .f32⟩
  | .hbm, ⟨24, _⟩ => ⟨S8x2x64x16384, .f32⟩
  | .hbm, ⟨25, _⟩ => ⟨S8x2x64x16384, .f32⟩
  | .hbm, ⟨26, _⟩ => ⟨S_, .f32⟩
  | .hbm, ⟨27, _⟩ => ⟨S_, .f32⟩
  | .hbm, ⟨28, _⟩ => ⟨S8x2x64x16384, .f32⟩
  | .hbm, ⟨29, _⟩ => ⟨S8x2x64x16384, .f32⟩
  | .hbm, ⟨30, _⟩ => ⟨S1x8x2x64x16384, .f32⟩
  | .hbm, ⟨31, _⟩ => ⟨S1x8x2x64x16384, .f32⟩
  | .hbm, ⟨32, _⟩ => ⟨S2x8x2x64x16384, .f32⟩
  | .hbm, ⟨33, _⟩ => ⟨S2x1024x16384, .f32⟩
  | .hbm, ⟨34, _⟩ => ⟨S2x1024x16384, .bf16⟩
  | .hbm, ⟨35, _⟩ => ⟨S16384x1024, .f32⟩
  | .hbm, ⟨36, _⟩ => ⟨S16384x1024, .bf16⟩
  | .hbm, ⟨37, _⟩ => ⟨S16384x1024, .f32⟩
  | .hbm, ⟨38, _⟩ => ⟨S1024x16384, .f32⟩
  | .hbm, ⟨39, _⟩ => ⟨S8x128x16384, .f32⟩
  | .hbm, ⟨40, _⟩ => ⟨S_, .f32⟩
  | .hbm, ⟨41, _⟩ => ⟨S8x1x16384, .f32⟩
  | .hbm, ⟨42, _⟩ => ⟨S_, .f32⟩
  | .hbm, ⟨43, _⟩ => ⟨S8x15x16384, .f32⟩
  | .hbm, ⟨44, _⟩ => ⟨S8x144x16384, .f32⟩
  | .hbm, ⟨45, _⟩ => ⟨S1152x16384, .f32⟩
  | .hbm, ⟨46, _⟩ => ⟨S1152x16384, .bf16⟩
  | .hbm, ⟨47, _⟩ => ⟨S4x64, .f32⟩
  | .hbm, ⟨48, _⟩ => ⟨S128x1, .f32⟩
  | .hbm, ⟨49, _⟩ => ⟨S1024x16384, .bf16⟩
  | .local _ .vmem, ⟨0, _⟩ => ⟨S4x64, .f32⟩
  | .local _ .vmem, ⟨1, _⟩ => ⟨S128x1, .f32⟩
  | .local _ .vmem, ⟨2, _⟩ => ⟨S2x128x16384, .bf16⟩
  | .local _ .vmem, ⟨3, _⟩ => ⟨S16384x128, .bf16⟩
  | .local _ .vmem, ⟨4, _⟩ => ⟨S16384x128, .bf16⟩
  | .local _ .vmem, ⟨5, _⟩ => ⟨S144x16384, .bf16⟩
  | .local _ .vmem, ⟨6, _⟩ => ⟨S144x16384, .bf16⟩
  | .local _ .vmem, ⟨7, _⟩ => ⟨S128x16384, .bf16⟩
  | .local _ .vmem, ⟨8, _⟩ => ⟨S128x16384, .bf16⟩
  | .local _ .vmem, ⟨9, _⟩ => ⟨S2x1x1024, .f32⟩
  | .local _ .vmem, ⟨10, _⟩ => ⟨S2x2x144x1024, .f32⟩
  | .local _ .vmem, ⟨11, _⟩ => ⟨S2x1024x1024, .f32⟩
  | .local _ .vmem, ⟨12, _⟩ => ⟨S2x2x1024x1024, .bf16⟩
  | .local _ .vmem, ⟨13, _⟩ => ⟨S2x2x1x1024, .f32⟩
  | .local _ .vmem, ⟨14, _⟩ => ⟨S2x1x1024, .f32⟩
  | _, _ => ⟨S1x16384x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_mult1 : BitVec 32 :=
  let c0_i32_28 : BitVec 32 := 0#32
  c0_i32_28
def k0_mult2 : BitVec 32 :=
  let c0_i32_30 : BitVec 32 := 0#32
  c0_i32_30
@[reducible] def k0_t1_loop : Scf.Loop 32 :=
  let c0_i32_65 : BitVec 32 := 0#32
  let c69_i32 : BitVec 32 := 69#32
  let v106 : BitVec 32 := Scalar.addi c0_i32_65 c69_i32
  let c1_i32_66 : BitVec 32 := 1#32
  ⟨c0_i32_65, v106, c1_i32_66⟩
def k0_off1 (arg22 : BitVec 32) : Fin 4 → Nat :=
  let c2_i32_89 : BitVec 32 := 2#32
  let c0_i32_90 : BitVec 32 := 0#32
  let v154 : BitVec 1 := Scalar.cmpi .eq c2_i32_89 c0_i32_90
  let c1_i32_91 : BitVec 32 := 1#32
  let v155 : BitVec 32 := Scalar.select v154 c1_i32_91 c2_i32_89
  let v156 : BitVec 32 := Scalar.remsi arg22 v155
  let c0_i32_93 : BitVec 32 := 0#32
  let v158 : BitVec 1 := Scalar.cmpi .slt v156 c0_i32_93
  let c0_i32_94 : BitVec 32 := 0#32
  let v159 : BitVec 1 := Scalar.cmpi .slt v155 c0_i32_94
  let v160 : BitVec 1 := Scalar.xori v158 v159
  let c0_i32_92 : BitVec 32 := 0#32
  let v157 : BitVec 1 := Scalar.cmpi .ne v156 c0_i32_92
  let v161 : BitVec 1 := Scalar.andi v160 v157
  let v162 : BitVec 32 := Scalar.addi v156 v155
  let v163 : BitVec 32 := Scalar.select v161 v162 v156
  let v164 : Index := Scalar.indexCast v163
  let c0_95 : Index := 0#32
  let c0_96 : Index := 0#32
  let c0_97 : Index := 0#32
  ![v164.toNat, 0, 0, 0]
def k0_cond1 (arg22 : BitVec 32) : BitVec 1 :=
  let c0_i32_69 : BitVec 32 := 0#32
  let v111 : BitVec 1 := Scalar.cmpi .sge arg22 c0_i32_69
  let v112 : BitVec 32 := Scalar.extui v111
  let c0_i32_70 : BitVec 32 := 0#32
  let v113 : BitVec 1 := Scalar.cmpi .ne v112 c0_i32_70
  v113

def k0_off2 (arg22 : BitVec 32) : Fin 4 → Nat :=
  let c2_i32_89 : BitVec 32 := 2#32
  let c0_i32_90 : BitVec 32 := 0#32
  let v154 : BitVec 1 := Scalar.cmpi .eq c2_i32_89 c0_i32_90
  let c1_i32_91 : BitVec 32 := 1#32
  let v155 : BitVec 32 := Scalar.select v154 c1_i32_91 c2_i32_89
  let v156 : BitVec 32 := Scalar.remsi arg22 v155
  let c0_i32_93 : BitVec 32 := 0#32
  let v158 : BitVec 1 := Scalar.cmpi .slt v156 c0_i32_93
  let c0_i32_94 : BitVec 32 := 0#32
  let v159 : BitVec 1 := Scalar.cmpi .slt v155 c0_i32_94
  let v160 : BitVec 1 := Scalar.xori v158 v159
  let c0_i32_92 : BitVec 32 := 0#32
  let v157 : BitVec 1 := Scalar.cmpi .ne v156 c0_i32_92
  let v161 : BitVec 1 := Scalar.andi v160 v157
  let v162 : BitVec 32 := Scalar.addi v156 v155
  let v163 : BitVec 32 := Scalar.select v161 v162 v156
  let v167 : Index := Scalar.indexCast v163
  let c0_98 : Index := 0#32
  let c128 : Index := 128#32
  let c0_99 : Index := 0#32
  ![v167.toNat, 0, 128, 0]
def k0_off3 (arg22 : BitVec 32) : Fin 4 → Nat :=
  let c2_i32_89 : BitVec 32 := 2#32
  let c0_i32_90 : BitVec 32 := 0#32
  let v154 : BitVec 1 := Scalar.cmpi .eq c2_i32_89 c0_i32_90
  let c1_i32_91 : BitVec 32 := 1#32
  let v155 : BitVec 32 := Scalar.select v154 c1_i32_91 c2_i32_89
  let v156 : BitVec 32 := Scalar.remsi arg22 v155
  let c0_i32_93 : BitVec 32 := 0#32
  let v158 : BitVec 1 := Scalar.cmpi .slt v156 c0_i32_93
  let c0_i32_94 : BitVec 32 := 0#32
  let v159 : BitVec 1 := Scalar.cmpi .slt v155 c0_i32_94
  let v160 : BitVec 1 := Scalar.xori v158 v159
  let c0_i32_92 : BitVec 32 := 0#32
  let v157 : BitVec 1 := Scalar.cmpi .ne v156 c0_i32_92
  let v161 : BitVec 1 := Scalar.andi v160 v157
  let v162 : BitVec 32 := Scalar.addi v156 v155
  let v163 : BitVec 32 := Scalar.select v161 v162 v156
  let v172 : Index := Scalar.indexCast v163
  let c1_100 : Index := 1#32
  let c0_101 : Index := 0#32
  let c0_102 : Index := 0#32
  ![v172.toNat, 1, 0, 0]
def k0_off4 (arg22 : BitVec 32) : Fin 4 → Nat :=
  let c2_i32_89 : BitVec 32 := 2#32
  let c0_i32_90 : BitVec 32 := 0#32
  let v154 : BitVec 1 := Scalar.cmpi .eq c2_i32_89 c0_i32_90
  let c1_i32_91 : BitVec 32 := 1#32
  let v155 : BitVec 32 := Scalar.select v154 c1_i32_91 c2_i32_89
  let v156 : BitVec 32 := Scalar.remsi arg22 v155
  let c0_i32_93 : BitVec 32 := 0#32
  let v158 : BitVec 1 := Scalar.cmpi .slt v156 c0_i32_93
  let c0_i32_94 : BitVec 32 := 0#32
  let v159 : BitVec 1 := Scalar.cmpi .slt v155 c0_i32_94
  let v160 : BitVec 1 := Scalar.xori v158 v159
  let c0_i32_92 : BitVec 32 := 0#32
  let v157 : BitVec 1 := Scalar.cmpi .ne v156 c0_i32_92
  let v161 : BitVec 1 := Scalar.andi v160 v157
  let v162 : BitVec 32 := Scalar.addi v156 v155
  let v163 : BitVec 32 := Scalar.select v161 v162 v156
  let v175 : Index := Scalar.indexCast v163
  let c1_103 : Index := 1#32
  let c128_104 : Index := 128#32
  let c0_105 : Index := 0#32
  ![v175.toNat, 1, 128, 0]
def k0_mult3 (arg22 : BitVec 32) : BitVec 32 :=
  let c1024_i32 : BitVec 32 := 1024#32
  let v200 : BitVec 32 := Scalar.muli arg22 c1024_i32
  v200
def k0_off5 (arg22 : BitVec 32) : Fin 2 → Nat :=
  let c0_112 : Index := 0#32
  let c1024_i32 : BitVec 32 := 1024#32
  let v200 : BitVec 32 := Scalar.muli arg22 c1024_i32
  let v201 : BitVec 32 := v200
  let v202 : Index := Scalar.indexCast v201
  ![0, v202.toNat]

def k0_chk1 (arg22 : BitVec 32) : Prop :=
  (∀ (k0_h1 : k0_cond1 arg22 = 1#1), ∀ a, (k0_off1 arg22) a + S1x1x128x1024.size a ≤ S2x2x144x1024.size a) ∧
  (∀ (k0_h1 : k0_cond1 arg22 = 1#1), ∀ a, (k0_off2 arg22) a + S1x1x1x1024.size a ≤ S2x2x144x1024.size a) ∧
  (∀ (k0_h1 : k0_cond1 arg22 = 1#1), ∀ a, (k0_off3 arg22) a + S1x1x128x1024.size a ≤ S2x2x144x1024.size a) ∧
  (∀ (k0_h1 : k0_cond1 arg22 = 1#1), ∀ a, (k0_off4 arg22) a + S1x1x1x1024.size a ≤ S2x2x144x1024.size a) ∧
  (∀ (k0_h1 : k0_cond1 arg22 = 1#1), 1024 ∣ (k0_mult3 arg22).toNat) ∧
  (∀ (k0_h1 : k0_cond1 arg22 = 1#1), ∀ a, (k0_off5 arg22) a + S128x1024.size a ≤ S128x16384.size a) ∧
  (∀ (k0_h1 : k0_cond1 arg22 = 1#1), ∀ (hinb : ∀ a, (k0_off5 arg22) a + S128x1024.size a ≤ S128x16384.size a), (Rect.unit (s := S128x16384) (k0_off5 arg22) S128x1024.size hinb).PackedRows (EltTy.packing .bf16))
theorem k0_off1_inb : ∀ (arg22 : BitVec 32) (k0_hw1 : k0_chk1 arg22), ∀ (k0_h1 : k0_cond1 arg22 = 1#1), ∀ a, (k0_off1 arg22) a + S1x1x128x1024.size a ≤ S2x2x144x1024.size a := fun arg22 k0_hw1 k0_h1 => k0_hw1.1 k0_h1
theorem k0_off2_inb : ∀ (arg22 : BitVec 32) (k0_hw1 : k0_chk1 arg22), ∀ (k0_h1 : k0_cond1 arg22 = 1#1), ∀ a, (k0_off2 arg22) a + S1x1x1x1024.size a ≤ S2x2x144x1024.size a := fun arg22 k0_hw1 k0_h1 => k0_hw1.2.1 k0_h1
theorem k0_off3_inb : ∀ (arg22 : BitVec 32) (k0_hw1 : k0_chk1 arg22), ∀ (k0_h1 : k0_cond1 arg22 = 1#1), ∀ a, (k0_off3 arg22) a + S1x1x128x1024.size a ≤ S2x2x144x1024.size a := fun arg22 k0_hw1 k0_h1 => k0_hw1.2.2.1 k0_h1
theorem k0_off4_inb : ∀ (arg22 : BitVec 32) (k0_hw1 : k0_chk1 arg22), ∀ (k0_h1 : k0_cond1 arg22 = 1#1), ∀ a, (k0_off4 arg22) a + S1x1x1x1024.size a ≤ S2x2x144x1024.size a := fun arg22 k0_hw1 k0_h1 => k0_hw1.2.2.2.1 k0_h1
theorem k0_mult3_dvd : ∀ (arg22 : BitVec 32) (k0_hw1 : k0_chk1 arg22), ∀ (k0_h1 : k0_cond1 arg22 = 1#1), 1024 ∣ (k0_mult3 arg22).toNat := fun arg22 k0_hw1 k0_h1 => k0_hw1.2.2.2.2.1 k0_h1
theorem k0_off5_inb : ∀ (arg22 : BitVec 32) (k0_hw1 : k0_chk1 arg22), ∀ (k0_h1 : k0_cond1 arg22 = 1#1), ∀ a, (k0_off5 arg22) a + S128x1024.size a ≤ S128x16384.size a := fun arg22 k0_hw1 k0_h1 => k0_hw1.2.2.2.2.2.1 k0_h1
theorem k0_off5_packedbf16 : ∀ (arg22 : BitVec 32) (k0_hw1 : k0_chk1 arg22), ∀ (k0_h1 : k0_cond1 arg22 = 1#1), (Rect.unit (s := S128x16384) (k0_off5 arg22) S128x1024.size (k0_off5_inb arg22 k0_hw1 k0_h1)).PackedRows (EltTy.packing .bf16) := fun arg22 k0_hw1 k0_h1 => k0_hw1.2.2.2.2.2.2 k0_h1 (k0_off5_inb arg22 k0_hw1 k0_h1)

def k0_mult4 (arg15 : BitVec 32) : BitVec 32 :=
  let c15_i32 : BitVec 32 := 15#32
  let v139 : BitVec 32 := Scalar.minsi arg15 c15_i32
  let c1024_i32 : BitVec 32 := 1024#32
  let v140 : BitVec 32 := Scalar.muli v139 c1024_i32
  v140
def k0_cond2 (arg16 : BitVec 32) (arg17 : BitVec 32) (arg18 : BitVec 32) (arg19 : BitVec 32) : BitVec 1 :=
  let v114 : BitVec 1 := Scalar.cmpi .eq arg17 arg16
  let c1_i32_72 : BitVec 32 := 1#32
  let v115 : BitVec 1 := Scalar.cmpi .eq arg19 arg18
  let c2_i32 : BitVec 32 := 2#32
  let c0_i32_71 : BitVec 32 := 0#32
  let v116 : BitVec 32 := Scalar.select v115 c2_i32 c0_i32_71
  let v117 : BitVec 32 := Scalar.select v114 c1_i32_72 v116
  let c0_i32_73 : BitVec 32 := 0#32
  let v118 : BitVec 32 := Scalar.maxsi v117 c0_i32_73
  let c2_i32_74 : BitVec 32 := 2#32
  let v119 : BitVec 32 := Scalar.minsi v118 c2_i32_74
  let c0_i32_75 : BitVec 32 := 0#32
  let v120 : BitVec 1 := Scalar.cmpi .ne v119 c0_i32_75
  v120

def k0_cond3 (arg16 : BitVec 32) (arg17 : BitVec 32) (arg18 : BitVec 32) (arg19 : BitVec 32) : BitVec 1 :=
  let v114 : BitVec 1 := Scalar.cmpi .eq arg17 arg16
  let c1_i32_72 : BitVec 32 := 1#32
  let v115 : BitVec 1 := Scalar.cmpi .eq arg19 arg18
  let c2_i32 : BitVec 32 := 2#32
  let c0_i32_71 : BitVec 32 := 0#32
  let v116 : BitVec 32 := Scalar.select v115 c2_i32 c0_i32_71
  let v117 : BitVec 32 := Scalar.select v114 c1_i32_72 v116
  let c0_i32_73 : BitVec 32 := 0#32
  let v118 : BitVec 32 := Scalar.maxsi v117 c0_i32_73
  let c2_i32_74 : BitVec 32 := 2#32
  let v119 : BitVec 32 := Scalar.minsi v118 c2_i32_74
  let c1_i32_84 : BitVec 32 := 1#32
  let v137 : BitVec 32 := Scalar.subi v119 c1_i32_84
  let c0_i32_85 : BitVec 32 := 0#32
  let v138 : BitVec 1 := Scalar.cmpi .ne v137 c0_i32_85
  v138

def k0_off6 (arg15 : BitVec 32) : Fin 2 → Nat :=
  let c0_86 : Index := 0#32
  let c15_i32 : BitVec 32 := 15#32
  let v139 : BitVec 32 := Scalar.minsi arg15 c15_i32
  let c1024_i32 : BitVec 32 := 1024#32
  let v140 : BitVec 32 := Scalar.muli v139 c1024_i32
  let v141 : BitVec 32 := v140
  let v142 : Index := Scalar.indexCast v141
  ![0, v142.toNat]
def k0_off7 (arg14 : BitVec 32) : Fin 4 → Nat :=
  let c2_i32_87 : BitVec 32 := 2#32
  let c0_i32_88 : BitVec 32 := 0#32
  let v145 : BitVec 1 := Scalar.cmpi .eq c2_i32_87 c0_i32_88
  let c1_i32_89 : BitVec 32 := 1#32
  let v146 : BitVec 32 := Scalar.select v145 c1_i32_89 c2_i32_87
  let v147 : BitVec 32 := Scalar.remsi arg14 v146
  let c0_i32_91 : BitVec 32 := 0#32
  let v149 : BitVec 1 := Scalar.cmpi .slt v147 c0_i32_91
  let c0_i32_92 : BitVec 32 := 0#32
  let v150 : BitVec 1 := Scalar.cmpi .slt v146 c0_i32_92
  let v151 : BitVec 1 := Scalar.xori v149 v150
  let c0_i32_90 : BitVec 32 := 0#32
  let v148 : BitVec 1 := Scalar.cmpi .ne v147 c0_i32_90
  let v152 : BitVec 1 := Scalar.andi v151 v148
  let v153 : BitVec 32 := Scalar.addi v147 v146
  let v154 : BitVec 32 := Scalar.select v152 v153 v147
  let v157 : Index := Scalar.indexCast v154
  let c0_97 : Index := 0#32
  let c0_98 : Index := 0#32
  let c0_99 : Index := 0#32
  ![v157.toNat, 0, 0, 0]
def k0_off8 (arg14 : BitVec 32) : Fin 4 → Nat :=
  let c2_i32_87 : BitVec 32 := 2#32
  let c0_i32_88 : BitVec 32 := 0#32
  let v145 : BitVec 1 := Scalar.cmpi .eq c2_i32_87 c0_i32_88
  let c1_i32_89 : BitVec 32 := 1#32
  let v146 : BitVec 32 := Scalar.select v145 c1_i32_89 c2_i32_87
  let v147 : BitVec 32 := Scalar.remsi arg14 v146
  let c0_i32_91 : BitVec 32 := 0#32
  let v149 : BitVec 1 := Scalar.cmpi .slt v147 c0_i32_91
  let c0_i32_92 : BitVec 32 := 0#32
  let v150 : BitVec 1 := Scalar.cmpi .slt v146 c0_i32_92
  let v151 : BitVec 1 := Scalar.xori v149 v150
  let c0_i32_90 : BitVec 32 := 0#32
  let v148 : BitVec 1 := Scalar.cmpi .ne v147 c0_i32_90
  let v152 : BitVec 1 := Scalar.andi v151 v148
  let v153 : BitVec 32 := Scalar.addi v147 v146
  let v154 : BitVec 32 := Scalar.select v152 v153 v147
  let v172 : Index := Scalar.indexCast v154
  let c1_112 : Index := 1#32
  let c0_113 : Index := 0#32
  let c0_114 : Index := 0#32
  ![v172.toNat, 1, 0, 0]
def k0_mult5 (arg19 : BitVec 32) : BitVec 32 :=
  let c15_i32_168 : BitVec 32 := 15#32
  let v236 : BitVec 32 := Scalar.minsi arg19 c15_i32_168
  let c1024_i32_169 : BitVec 32 := 1024#32
  let v237 : BitVec 32 := Scalar.muli v236 c1024_i32_169
  v237
def k0_off9 (arg19 : BitVec 32) : Fin 2 → Nat :=
  let c15_i32_168 : BitVec 32 := 15#32
  let v236 : BitVec 32 := Scalar.minsi arg19 c15_i32_168
  let c1024_i32_169 : BitVec 32 := 1024#32
  let v237 : BitVec 32 := Scalar.muli v236 c1024_i32_169
  let v238 : BitVec 32 := v237
  let v239 : Index := Scalar.indexCast v238
  let c0_170 : Index := 0#32
  ![v239.toNat, 0]
def k0_mult6 (arg18 : BitVec 32) : BitVec 32 :=
  let c15_i32_167 : BitVec 32 := 15#32
  let v235 : BitVec 32 := Scalar.minsi arg18 c15_i32_167
  let c1024_i32_171 : BitVec 32 := 1024#32
  let v242 : BitVec 32 := Scalar.muli v235 c1024_i32_171
  v242
def k0_off10 (arg18 : BitVec 32) : Fin 3 → Nat :=
  let c0_172 : Index := 0#32
  let c0_173 : Index := 0#32
  let c15_i32_167 : BitVec 32 := 15#32
  let v235 : BitVec 32 := Scalar.minsi arg18 c15_i32_167
  let c1024_i32_171 : BitVec 32 := 1024#32
  let v242 : BitVec 32 := Scalar.muli v235 c1024_i32_171
  let v243 : BitVec 32 := v242
  let v244 : Index := Scalar.indexCast v243
  ![0, 0, v244.toNat]
def k0_off11 (arg18 : BitVec 32) : Fin 3 → Nat :=
  let c1_182 : Index := 1#32
  let c0_183 : Index := 0#32
  let c15_i32_167 : BitVec 32 := 15#32
  let v235 : BitVec 32 := Scalar.minsi arg18 c15_i32_167
  let c1024_i32_171 : BitVec 32 := 1024#32
  let v242 : BitVec 32 := Scalar.muli v235 c1024_i32_171
  let v243 : BitVec 32 := v242
  let v256 : Index := Scalar.indexCast v243
  ![1, 0, v256.toNat]
def k0_mult7 (arg17 : BitVec 32) : BitVec 32 :=
  let c15_i32_192 : BitVec 32 := 15#32
  let v268 : BitVec 32 := Scalar.minsi arg17 c15_i32_192
  let c1024_i32_193 : BitVec 32 := 1024#32
  let v269 : BitVec 32 := Scalar.muli v268 c1024_i32_193
  v269
def k0_off12 (arg17 : BitVec 32) : Fin 2 → Nat :=
  let c0_194 : Index := 0#32
  let c15_i32_192 : BitVec 32 := 15#32
  let v268 : BitVec 32 := Scalar.minsi arg17 c15_i32_192
  let c1024_i32_193 : BitVec 32 := 1024#32
  let v269 : BitVec 32 := Scalar.muli v268 c1024_i32_193
  let v270 : BitVec 32 := v269
  let v271 : Index := Scalar.indexCast v270
  ![0, v271.toNat]
def k0_off13 (arg16 : BitVec 32) : Fin 4 → Nat :=
  let c2_i32_195 : BitVec 32 := 2#32
  let c0_i32_196 : BitVec 32 := 0#32
  let v274 : BitVec 1 := Scalar.cmpi .eq c2_i32_195 c0_i32_196
  let c1_i32_197 : BitVec 32 := 1#32
  let v275 : BitVec 32 := Scalar.select v274 c1_i32_197 c2_i32_195
  let v276 : BitVec 32 := Scalar.remsi arg16 v275
  let c0_i32_199 : BitVec 32 := 0#32
  let v278 : BitVec 1 := Scalar.cmpi .slt v276 c0_i32_199
  let c0_i32_200 : BitVec 32 := 0#32
  let v279 : BitVec 1 := Scalar.cmpi .slt v275 c0_i32_200
  let v280 : BitVec 1 := Scalar.xori v278 v279
  let c0_i32_198 : BitVec 32 := 0#32
  let v277 : BitVec 1 := Scalar.cmpi .ne v276 c0_i32_198
  let v281 : BitVec 1 := Scalar.andi v280 v277
  let v282 : BitVec 32 := Scalar.addi v276 v275
  let v283 : BitVec 32 := Scalar.select v281 v282 v276
  let v286 : Index := Scalar.indexCast v283
  let c0_205 : Index := 0#32
  let c0_206 : Index := 0#32
  let c0_207 : Index := 0#32
  ![v286.toNat, 0, 0, 0]
def k0_off14 (arg16 : BitVec 32) : Fin 4 → Nat :=
  let c2_i32_195 : BitVec 32 := 2#32
  let c0_i32_196 : BitVec 32 := 0#32
  let v274 : BitVec 1 := Scalar.cmpi .eq c2_i32_195 c0_i32_196
  let c1_i32_197 : BitVec 32 := 1#32
  let v275 : BitVec 32 := Scalar.select v274 c1_i32_197 c2_i32_195
  let v276 : BitVec 32 := Scalar.remsi arg16 v275
  let c0_i32_199 : BitVec 32 := 0#32
  let v278 : BitVec 1 := Scalar.cmpi .slt v276 c0_i32_199
  let c0_i32_200 : BitVec 32 := 0#32
  let v279 : BitVec 1 := Scalar.cmpi .slt v275 c0_i32_200
  let v280 : BitVec 1 := Scalar.xori v278 v279
  let c0_i32_198 : BitVec 32 := 0#32
  let v277 : BitVec 1 := Scalar.cmpi .ne v276 c0_i32_198
  let v281 : BitVec 1 := Scalar.andi v280 v277
  let v282 : BitVec 32 := Scalar.addi v276 v275
  let v283 : BitVec 32 := Scalar.select v281 v282 v276
  let v301 : Index := Scalar.indexCast v283
  let c1_220 : Index := 1#32
  let c0_221 : Index := 0#32
  let c0_222 : Index := 0#32
  ![v301.toNat, 1, 0, 0]
def k0_mult8 (arg21 : BitVec 32) : BitVec 32 :=
  let c15_i32_274 : BitVec 32 := 15#32
  let v369 : BitVec 32 := Scalar.minsi arg21 c15_i32_274
  let c1024_i32_275 : BitVec 32 := 1024#32
  let v370 : BitVec 32 := Scalar.muli v369 c1024_i32_275
  v370

def k0_off15 (arg21 : BitVec 32) : Fin 2 → Nat :=
  let c15_i32_274 : BitVec 32 := 15#32
  let v369 : BitVec 32 := Scalar.minsi arg21 c15_i32_274
  let c1024_i32_275 : BitVec 32 := 1024#32
  let v370 : BitVec 32 := Scalar.muli v369 c1024_i32_275
  let v371 : BitVec 32 := v370
  let v372 : Index := Scalar.indexCast v371
  let c0_276 : Index := 0#32
  ![v372.toNat, 0]
def k0_mult9 (arg20 : BitVec 32) : BitVec 32 :=
  let c15_i32_273 : BitVec 32 := 15#32
  let v368 : BitVec 32 := Scalar.minsi arg20 c15_i32_273
  let c1024_i32_277 : BitVec 32 := 1024#32
  let v375 : BitVec 32 := Scalar.muli v368 c1024_i32_277
  v375

def k0_off16 (arg20 : BitVec 32) : Fin 3 → Nat :=
  let c0_278 : Index := 0#32
  let c0_279 : Index := 0#32
  let c15_i32_273 : BitVec 32 := 15#32
  let v368 : BitVec 32 := Scalar.minsi arg20 c15_i32_273
  let c1024_i32_277 : BitVec 32 := 1024#32
  let v375 : BitVec 32 := Scalar.muli v368 c1024_i32_277
  let v376 : BitVec 32 := v375
  let v377 : Index := Scalar.indexCast v376
  ![0, 0, v377.toNat]
def k0_off17 (arg20 : BitVec 32) : Fin 3 → Nat :=
  let c1_288 : Index := 1#32
  let c0_289 : Index := 0#32
  let c15_i32_273 : BitVec 32 := 15#32
  let v368 : BitVec 32 := Scalar.minsi arg20 c15_i32_273
  let c1024_i32_277 : BitVec 32 := 1024#32
  let v375 : BitVec 32 := Scalar.muli v368 c1024_i32_277
  let v376 : BitVec 32 := v375
  let v389 : Index := Scalar.indexCast v376
  ![1, 0, v389.toNat]
def k0_mult10 (arg15 : BitVec 32) : BitVec 32 :=
  let c15_i32 : BitVec 32 := 15#32
  let v139 : BitVec 32 := Scalar.minsi arg15 c15_i32
  let c1024_i32 : BitVec 32 := 1024#32
  let v140 : BitVec 32 := Scalar.muli v139 c1024_i32
  v140
def k0_off18 (arg15 : BitVec 32) : Fin 2 → Nat :=
  let c0_86 : Index := 0#32
  let c15_i32 : BitVec 32 := 15#32
  let v139 : BitVec 32 := Scalar.minsi arg15 c15_i32
  let c1024_i32 : BitVec 32 := 1024#32
  let v140 : BitVec 32 := Scalar.muli v139 c1024_i32
  let v141 : BitVec 32 := v140
  let v142 : Index := Scalar.indexCast v141
  ![0, v142.toNat]
def k0_off19 (arg14 : BitVec 32) : Fin 4 → Nat :=
  let c2_i32_87 : BitVec 32 := 2#32
  let c0_i32_88 : BitVec 32 := 0#32
  let v145 : BitVec 1 := Scalar.cmpi .eq c2_i32_87 c0_i32_88
  let c1_i32_89 : BitVec 32 := 1#32
  let v146 : BitVec 32 := Scalar.select v145 c1_i32_89 c2_i32_87
  let v147 : BitVec 32 := Scalar.remsi arg14 v146
  let c0_i32_91 : BitVec 32 := 0#32
  let v149 : BitVec 1 := Scalar.cmpi .slt v147 c0_i32_91
  let c0_i32_92 : BitVec 32 := 0#32
  let v150 : BitVec 1 := Scalar.cmpi .slt v146 c0_i32_92
  let v151 : BitVec 1 := Scalar.xori v149 v150
  let c0_i32_90 : BitVec 32 := 0#32
  let v148 : BitVec 1 := Scalar.cmpi .ne v147 c0_i32_90
  let v152 : BitVec 1 := Scalar.andi v151 v148
  let v153 : BitVec 32 := Scalar.addi v147 v146
  let v154 : BitVec 32 := Scalar.select v152 v153 v147
  let v157 : Index := Scalar.indexCast v154
  let c0_97 : Index := 0#32
  let c0_98 : Index := 0#32
  let c0_99 : Index := 0#32
  ![v157.toNat, 0, 0, 0]
def k0_off20 (arg14 : BitVec 32) : Fin 4 → Nat :=
  let c2_i32_87 : BitVec 32 := 2#32
  let c0_i32_88 : BitVec 32 := 0#32
  let v145 : BitVec 1 := Scalar.cmpi .eq c2_i32_87 c0_i32_88
  let c1_i32_89 : BitVec 32 := 1#32
  let v146 : BitVec 32 := Scalar.select v145 c1_i32_89 c2_i32_87
  let v147 : BitVec 32 := Scalar.remsi arg14 v146
  let c0_i32_91 : BitVec 32 := 0#32
  let v149 : BitVec 1 := Scalar.cmpi .slt v147 c0_i32_91
  let c0_i32_92 : BitVec 32 := 0#32
  let v150 : BitVec 1 := Scalar.cmpi .slt v146 c0_i32_92
  let v151 : BitVec 1 := Scalar.xori v149 v150
  let c0_i32_90 : BitVec 32 := 0#32
  let v148 : BitVec 1 := Scalar.cmpi .ne v147 c0_i32_90
  let v152 : BitVec 1 := Scalar.andi v151 v148
  let v153 : BitVec 32 := Scalar.addi v147 v146
  let v154 : BitVec 32 := Scalar.select v152 v153 v147
  let v172 : Index := Scalar.indexCast v154
  let c1_112 : Index := 1#32
  let c0_113 : Index := 0#32
  let c0_114 : Index := 0#32
  ![v172.toNat, 1, 0, 0]
def k0_mult11 (arg19 : BitVec 32) : BitVec 32 :=
  let c15_i32_166 : BitVec 32 := 15#32
  let v240 : BitVec 32 := Scalar.minsi arg19 c15_i32_166
  let c1024_i32_167 : BitVec 32 := 1024#32
  let v241 : BitVec 32 := Scalar.muli v240 c1024_i32_167
  v241
def k0_off21 (arg19 : BitVec 32) : Fin 2 → Nat :=
  let c15_i32_166 : BitVec 32 := 15#32
  let v240 : BitVec 32 := Scalar.minsi arg19 c15_i32_166
  let c1024_i32_167 : BitVec 32 := 1024#32
  let v241 : BitVec 32 := Scalar.muli v240 c1024_i32_167
  let v242 : BitVec 32 := v241
  let v243 : Index := Scalar.indexCast v242
  let c0_168 : Index := 0#32
  ![v243.toNat, 0]
def k0_mult12 (arg18 : BitVec 32) : BitVec 32 :=
  let c15_i32_165 : BitVec 32 := 15#32
  let v239 : BitVec 32 := Scalar.minsi arg18 c15_i32_165
  let c1024_i32_169 : BitVec 32 := 1024#32
  let v246 : BitVec 32 := Scalar.muli v239 c1024_i32_169
  v246
def k0_off22 (arg18 : BitVec 32) : Fin 3 → Nat :=
  let c0_170 : Index := 0#32
  let c0_171 : Index := 0#32
  let c15_i32_165 : BitVec 32 := 15#32
  let v239 : BitVec 32 := Scalar.minsi arg18 c15_i32_165
  let c1024_i32_169 : BitVec 32 := 1024#32
  let v246 : BitVec 32 := Scalar.muli v239 c1024_i32_169
  let v247 : BitVec 32 := v246
  let v248 : Index := Scalar.indexCast v247
  ![0, 0, v248.toNat]
def k0_off23 (arg18 : BitVec 32) : Fin 3 → Nat :=
  let c1_180 : Index := 1#32
  let c0_181 : Index := 0#32
  let c15_i32_165 : BitVec 32 := 15#32
  let v239 : BitVec 32 := Scalar.minsi arg18 c15_i32_165
  let c1024_i32_169 : BitVec 32 := 1024#32
  let v246 : BitVec 32 := Scalar.muli v239 c1024_i32_169
  let v247 : BitVec 32 := v246
  let v260 : Index := Scalar.indexCast v247
  ![1, 0, v260.toNat]
def k0_mult13 (arg17 : BitVec 32) : BitVec 32 :=
  let c15_i32_190 : BitVec 32 := 15#32
  let v272 : BitVec 32 := Scalar.minsi arg17 c15_i32_190
  let c1024_i32_191 : BitVec 32 := 1024#32
  let v273 : BitVec 32 := Scalar.muli v272 c1024_i32_191
  v273
def k0_off24 (arg17 : BitVec 32) : Fin 2 → Nat :=
  let c0_192 : Index := 0#32
  let c15_i32_190 : BitVec 32 := 15#32
  let v272 : BitVec 32 := Scalar.minsi arg17 c15_i32_190
  let c1024_i32_191 : BitVec 32 := 1024#32
  let v273 : BitVec 32 := Scalar.muli v272 c1024_i32_191
  let v274 : BitVec 32 := v273
  let v275 : Index := Scalar.indexCast v274
  ![0, v275.toNat]
def k0_off25 (arg16 : BitVec 32) : Fin 4 → Nat :=
  let c2_i32_193 : BitVec 32 := 2#32
  let c0_i32_194 : BitVec 32 := 0#32
  let v278 : BitVec 1 := Scalar.cmpi .eq c2_i32_193 c0_i32_194
  let c1_i32_195 : BitVec 32 := 1#32
  let v279 : BitVec 32 := Scalar.select v278 c1_i32_195 c2_i32_193
  let v280 : BitVec 32 := Scalar.remsi arg16 v279
  let c0_i32_197 : BitVec 32 := 0#32
  let v282 : BitVec 1 := Scalar.cmpi .slt v280 c0_i32_197
  let c0_i32_198 : BitVec 32 := 0#32
  let v283 : BitVec 1 := Scalar.cmpi .slt v279 c0_i32_198
  let v284 : BitVec 1 := Scalar.xori v282 v283
  let c0_i32_196 : BitVec 32 := 0#32
  let v281 : BitVec 1 := Scalar.cmpi .ne v280 c0_i32_196
  let v285 : BitVec 1 := Scalar.andi v284 v281
  let v286 : BitVec 32 := Scalar.addi v280 v279
  let v287 : BitVec 32 := Scalar.select v285 v286 v280
  let v290 : Index := Scalar.indexCast v287
  let c0_203 : Index := 0#32
  let c0_204 : Index := 0#32
  let c0_205 : Index := 0#32
  ![v290.toNat, 0, 0, 0]
def k0_off26 (arg16 : BitVec 32) : Fin 4 → Nat :=
  let c2_i32_193 : BitVec 32 := 2#32
  let c0_i32_194 : BitVec 32 := 0#32
  let v278 : BitVec 1 := Scalar.cmpi .eq c2_i32_193 c0_i32_194
  let c1_i32_195 : BitVec 32 := 1#32
  let v279 : BitVec 32 := Scalar.select v278 c1_i32_195 c2_i32_193
  let v280 : BitVec 32 := Scalar.remsi arg16 v279
  let c0_i32_197 : BitVec 32 := 0#32
  let v282 : BitVec 1 := Scalar.cmpi .slt v280 c0_i32_197
  let c0_i32_198 : BitVec 32 := 0#32
  let v283 : BitVec 1 := Scalar.cmpi .slt v279 c0_i32_198
  let v284 : BitVec 1 := Scalar.xori v282 v283
  let c0_i32_196 : BitVec 32 := 0#32
  let v281 : BitVec 1 := Scalar.cmpi .ne v280 c0_i32_196
  let v285 : BitVec 1 := Scalar.andi v284 v281
  let v286 : BitVec 32 := Scalar.addi v280 v279
  let v287 : BitVec 32 := Scalar.select v285 v286 v280
  let v305 : Index := Scalar.indexCast v287
  let c1_218 : Index := 1#32
  let c0_219 : Index := 0#32
  let c0_220 : Index := 0#32
  ![v305.toNat, 1, 0, 0]
def k0_mult14 (arg21 : BitVec 32) : BitVec 32 :=
  let c15_i32_274 : BitVec 32 := 15#32
  let v369 : BitVec 32 := Scalar.minsi arg21 c15_i32_274
  let c1024_i32_275 : BitVec 32 := 1024#32
  let v370 : BitVec 32 := Scalar.muli v369 c1024_i32_275
  v370
def k0_off27 (arg21 : BitVec 32) : Fin 2 → Nat :=
  let c15_i32_274 : BitVec 32 := 15#32
  let v369 : BitVec 32 := Scalar.minsi arg21 c15_i32_274
  let c1024_i32_275 : BitVec 32 := 1024#32
  let v370 : BitVec 32 := Scalar.muli v369 c1024_i32_275
  let v371 : BitVec 32 := v370
  let v372 : Index := Scalar.indexCast v371
  let c0_276 : Index := 0#32
  ![v372.toNat, 0]
def k0_mult15 (arg20 : BitVec 32) : BitVec 32 :=
  let c15_i32_273 : BitVec 32 := 15#32
  let v368 : BitVec 32 := Scalar.minsi arg20 c15_i32_273
  let c1024_i32_277 : BitVec 32 := 1024#32
  let v375 : BitVec 32 := Scalar.muli v368 c1024_i32_277
  v375
def k0_off28 (arg20 : BitVec 32) : Fin 3 → Nat :=
  let c0_278 : Index := 0#32
  let c0_279 : Index := 0#32
  let c15_i32_273 : BitVec 32 := 15#32
  let v368 : BitVec 32 := Scalar.minsi arg20 c15_i32_273
  let c1024_i32_277 : BitVec 32 := 1024#32
  let v375 : BitVec 32 := Scalar.muli v368 c1024_i32_277
  let v376 : BitVec 32 := v375
  let v377 : Index := Scalar.indexCast v376
  ![0, 0, v377.toNat]
def k0_off29 (arg20 : BitVec 32) : Fin 3 → Nat :=
  let c1_288 : Index := 1#32
  let c0_289 : Index := 0#32
  let c15_i32_273 : BitVec 32 := 15#32
  let v368 : BitVec 32 := Scalar.minsi arg20 c15_i32_273
  let c1024_i32_277 : BitVec 32 := 1024#32
  let v375 : BitVec 32 := Scalar.muli v368 c1024_i32_277
  let v376 : BitVec 32 := v375
  let v389 : Index := Scalar.indexCast v376
  ![1, 0, v389.toNat]
def k0_mult16 (arg15 : BitVec 32) : BitVec 32 :=
  let c15_i32 : BitVec 32 := 15#32
  let v137 : BitVec 32 := Scalar.minsi arg15 c15_i32
  let c1024_i32 : BitVec 32 := 1024#32
  let v138 : BitVec 32 := Scalar.muli v137 c1024_i32
  v138
def k0_off30 (arg15 : BitVec 32) : Fin 2 → Nat :=
  let c0_84 : Index := 0#32
  let c15_i32 : BitVec 32 := 15#32
  let v137 : BitVec 32 := Scalar.minsi arg15 c15_i32
  let c1024_i32 : BitVec 32 := 1024#32
  let v138 : BitVec 32 := Scalar.muli v137 c1024_i32
  let v139 : BitVec 32 := v138
  let v140 : Index := Scalar.indexCast v139
  ![0, v140.toNat]
def k0_off31 (arg14 : BitVec 32) : Fin 4 → Nat :=
  let c2_i32_85 : BitVec 32 := 2#32
  let c0_i32_86 : BitVec 32 := 0#32
  let v143 : BitVec 1 := Scalar.cmpi .eq c2_i32_85 c0_i32_86
  let c1_i32_87 : BitVec 32 := 1#32
  let v144 : BitVec 32 := Scalar.select v143 c1_i32_87 c2_i32_85
  let v145 : BitVec 32 := Scalar.remsi arg14 v144
  let c0_i32_89 : BitVec 32 := 0#32
  let v147 : BitVec 1 := Scalar.cmpi .slt v145 c0_i32_89
  let c0_i32_90 : BitVec 32 := 0#32
  let v148 : BitVec 1 := Scalar.cmpi .slt v144 c0_i32_90
  let v149 : BitVec 1 := Scalar.xori v147 v148
  let c0_i32_88 : BitVec 32 := 0#32
  let v146 : BitVec 1 := Scalar.cmpi .ne v145 c0_i32_88
  let v150 : BitVec 1 := Scalar.andi v149 v146
  let v151 : BitVec 32 := Scalar.addi v145 v144
  let v152 : BitVec 32 := Scalar.select v150 v151 v145
  let v155 : Index := Scalar.indexCast v152
  let c0_95 : Index := 0#32
  let c0_96 : Index := 0#32
  let c0_97 : Index := 0#32
  ![v155.toNat, 0, 0, 0]
def k0_off32 (arg14 : BitVec 32) : Fin 4 → Nat :=
  let c2_i32_85 : BitVec 32 := 2#32
  let c0_i32_86 : BitVec 32 := 0#32
  let v143 : BitVec 1 := Scalar.cmpi .eq c2_i32_85 c0_i32_86
  let c1_i32_87 : BitVec 32 := 1#32
  let v144 : BitVec 32 := Scalar.select v143 c1_i32_87 c2_i32_85
  let v145 : BitVec 32 := Scalar.remsi arg14 v144
  let c0_i32_89 : BitVec 32 := 0#32
  let v147 : BitVec 1 := Scalar.cmpi .slt v145 c0_i32_89
  let c0_i32_90 : BitVec 32 := 0#32
  let v148 : BitVec 1 := Scalar.cmpi .slt v144 c0_i32_90
  let v149 : BitVec 1 := Scalar.xori v147 v148
  let c0_i32_88 : BitVec 32 := 0#32
  let v146 : BitVec 1 := Scalar.cmpi .ne v145 c0_i32_88
  let v150 : BitVec 1 := Scalar.andi v149 v146
  let v151 : BitVec 32 := Scalar.addi v145 v144
  let v152 : BitVec 32 := Scalar.select v150 v151 v145
  let v170 : Index := Scalar.indexCast v152
  let c1_110 : Index := 1#32
  let c0_111 : Index := 0#32
  let c0_112 : Index := 0#32
  ![v170.toNat, 1, 0, 0]
def k0_mult17 (arg19 : BitVec 32) : BitVec 32 :=
  let c15_i32_166 : BitVec 32 := 15#32
  let v234 : BitVec 32 := Scalar.minsi arg19 c15_i32_166
  let c1024_i32_167 : BitVec 32 := 1024#32
  let v235 : BitVec 32 := Scalar.muli v234 c1024_i32_167
  v235
def k0_off33 (arg19 : BitVec 32) : Fin 2 → Nat :=
  let c15_i32_166 : BitVec 32 := 15#32
  let v234 : BitVec 32 := Scalar.minsi arg19 c15_i32_166
  let c1024_i32_167 : BitVec 32 := 1024#32
  let v235 : BitVec 32 := Scalar.muli v234 c1024_i32_167
  let v236 : BitVec 32 := v235
  let v237 : Index := Scalar.indexCast v236
  let c0_168 : Index := 0#32
  ![v237.toNat, 0]
def k0_mult18 (arg18 : BitVec 32) : BitVec 32 :=
  let c15_i32_165 : BitVec 32 := 15#32
  let v233 : BitVec 32 := Scalar.minsi arg18 c15_i32_165
  let c1024_i32_169 : BitVec 32 := 1024#32
  let v240 : BitVec 32 := Scalar.muli v233 c1024_i32_169
  v240
def k0_off34 (arg18 : BitVec 32) : Fin 3 → Nat :=
  let c0_170 : Index := 0#32
  let c0_171 : Index := 0#32
  let c15_i32_165 : BitVec 32 := 15#32
  let v233 : BitVec 32 := Scalar.minsi arg18 c15_i32_165
  let c1024_i32_169 : BitVec 32 := 1024#32
  let v240 : BitVec 32 := Scalar.muli v233 c1024_i32_169
  let v241 : BitVec 32 := v240
  let v242 : Index := Scalar.indexCast v241
  ![0, 0, v242.toNat]
def k0_off35 (arg18 : BitVec 32) : Fin 3 → Nat :=
  let c1_180 : Index := 1#32
  let c0_181 : Index := 0#32
  let c15_i32_165 : BitVec 32 := 15#32
  let v233 : BitVec 32 := Scalar.minsi arg18 c15_i32_165
  let c1024_i32_169 : BitVec 32 := 1024#32
  let v240 : BitVec 32 := Scalar.muli v233 c1024_i32_169
  let v241 : BitVec 32 := v240
  let v254 : Index := Scalar.indexCast v241
  ![1, 0, v254.toNat]
def k0_mult19 (arg17 : BitVec 32) : BitVec 32 :=
  let c15_i32_190 : BitVec 32 := 15#32
  let v266 : BitVec 32 := Scalar.minsi arg17 c15_i32_190
  let c1024_i32_191 : BitVec 32 := 1024#32
  let v267 : BitVec 32 := Scalar.muli v266 c1024_i32_191
  v267
def k0_off36 (arg17 : BitVec 32) : Fin 2 → Nat :=
  let c0_192 : Index := 0#32
  let c15_i32_190 : BitVec 32 := 15#32
  let v266 : BitVec 32 := Scalar.minsi arg17 c15_i32_190
  let c1024_i32_191 : BitVec 32 := 1024#32
  let v267 : BitVec 32 := Scalar.muli v266 c1024_i32_191
  let v268 : BitVec 32 := v267
  let v269 : Index := Scalar.indexCast v268
  ![0, v269.toNat]
def k0_off37 (arg16 : BitVec 32) : Fin 4 → Nat :=
  let c2_i32_193 : BitVec 32 := 2#32
  let c0_i32_194 : BitVec 32 := 0#32
  let v272 : BitVec 1 := Scalar.cmpi .eq c2_i32_193 c0_i32_194
  let c1_i32_195 : BitVec 32 := 1#32
  let v273 : BitVec 32 := Scalar.select v272 c1_i32_195 c2_i32_193
  let v274 : BitVec 32 := Scalar.remsi arg16 v273
  let c0_i32_197 : BitVec 32 := 0#32
  let v276 : BitVec 1 := Scalar.cmpi .slt v274 c0_i32_197
  let c0_i32_198 : BitVec 32 := 0#32
  let v277 : BitVec 1 := Scalar.cmpi .slt v273 c0_i32_198
  let v278 : BitVec 1 := Scalar.xori v276 v277
  let c0_i32_196 : BitVec 32 := 0#32
  let v275 : BitVec 1 := Scalar.cmpi .ne v274 c0_i32_196
  let v279 : BitVec 1 := Scalar.andi v278 v275
  let v280 : BitVec 32 := Scalar.addi v274 v273
  let v281 : BitVec 32 := Scalar.select v279 v280 v274
  let v284 : Index := Scalar.indexCast v281
  let c0_203 : Index := 0#32
  let c0_204 : Index := 0#32
  let c0_205 : Index := 0#32
  ![v284.toNat, 0, 0, 0]
def k0_off38 (arg16 : BitVec 32) : Fin 4 → Nat :=
  let c2_i32_193 : BitVec 32 := 2#32
  let c0_i32_194 : BitVec 32 := 0#32
  let v272 : BitVec 1 := Scalar.cmpi .eq c2_i32_193 c0_i32_194
  let c1_i32_195 : BitVec 32 := 1#32
  let v273 : BitVec 32 := Scalar.select v272 c1_i32_195 c2_i32_193
  let v274 : BitVec 32 := Scalar.remsi arg16 v273
  let c0_i32_197 : BitVec 32 := 0#32
  let v276 : BitVec 1 := Scalar.cmpi .slt v274 c0_i32_197
  let c0_i32_198 : BitVec 32 := 0#32
  let v277 : BitVec 1 := Scalar.cmpi .slt v273 c0_i32_198
  let v278 : BitVec 1 := Scalar.xori v276 v277
  let c0_i32_196 : BitVec 32 := 0#32
  let v275 : BitVec 1 := Scalar.cmpi .ne v274 c0_i32_196
  let v279 : BitVec 1 := Scalar.andi v278 v275
  let v280 : BitVec 32 := Scalar.addi v274 v273
  let v281 : BitVec 32 := Scalar.select v279 v280 v274
  let v299 : Index := Scalar.indexCast v281
  let c1_218 : Index := 1#32
  let c0_219 : Index := 0#32
  let c0_220 : Index := 0#32
  ![v299.toNat, 1, 0, 0]

def k0_chk2_0 (arg14 : BitVec 32) (arg15 : BitVec 32) (arg16 : BitVec 32) (arg17 : BitVec 32) (arg18 : BitVec 32) (arg19 : BitVec 32) : Prop :=
  (∀ (k0_h2 : k0_cond2 arg16 arg17 arg18 arg19 = 1#1), ∀ (k0_h3 : k0_cond3 arg16 arg17 arg18 arg19 = 1#1), 1024 ∣ (k0_mult4 arg15).toNat) ∧
  (∀ (k0_h2 : k0_cond2 arg16 arg17 arg18 arg19 = 1#1), ∀ (k0_h3 : k0_cond3 arg16 arg17 arg18 arg19 = 1#1), ∀ a, (k0_off6 arg15) a + S144x1024.size a ≤ S144x16384.size a) ∧
  (∀ (k0_h2 : k0_cond2 arg16 arg17 arg18 arg19 = 1#1), ∀ (k0_h3 : k0_cond3 arg16 arg17 arg18 arg19 = 1#1), ∀ a, (k0_off7 arg14) a + S1x1x144x1024.size a ≤ S2x2x144x1024.size a) ∧
  (∀ (k0_h2 : k0_cond2 arg16 arg17 arg18 arg19 = 1#1), ∀ (k0_h3 : k0_cond3 arg16 arg17 arg18 arg19 = 1#1), ∀ a, (k0_off8 arg14) a + S1x1x144x1024.size a ≤ S2x2x144x1024.size a) ∧
  (∀ (k0_h2 : k0_cond2 arg16 arg17 arg18 arg19 = 1#1), ∀ (k0_h3 : k0_cond3 arg16 arg17 arg18 arg19 = 1#1), 1024 ∣ (k0_mult5 arg19).toNat) ∧
  (∀ (k0_h2 : k0_cond2 arg16 arg17 arg18 arg19 = 1#1), ∀ (k0_h3 : k0_cond3 arg16 arg17 arg18 arg19 = 1#1), ∀ a, (k0_off9 arg19) a + S1024x128.size a ≤ S16384x128.size a) ∧
  (∀ (k0_h2 : k0_cond2 arg16 arg17 arg18 arg19 = 1#1), ∀ (k0_h3 : k0_cond3 arg16 arg17 arg18 arg19 = 1#1), 1024 ∣ (k0_mult6 arg18).toNat) ∧
  (∀ (k0_h2 : k0_cond2 arg16 arg17 arg18 arg19 = 1#1), ∀ (k0_h3 : k0_cond3 arg16 arg17 arg18 arg19 = 1#1), ∀ a, (k0_off10 arg18) a + S1x128x1024.size a ≤ S2x128x16384.size a) ∧
  (∀ (k0_h2 : k0_cond2 arg16 arg17 arg18 arg19 = 1#1), ∀ (k0_h3 : k0_cond3 arg16 arg17 arg18 arg19 = 1#1), ∀ a, (k0_off11 arg18) a + S1x128x1024.size a ≤ S2x128x16384.size a) ∧
  (∀ (k0_h2 : k0_cond2 arg16 arg17 arg18 arg19 = 1#1), ∀ (k0_h3 : k0_cond3 arg16 arg17 arg18 arg19 = 1#1), 1024 ∣ (k0_mult7 arg17).toNat) ∧
  (∀ (k0_h2 : k0_cond2 arg16 arg17 arg18 arg19 = 1#1), ∀ (k0_h3 : k0_cond3 arg16 arg17 arg18 arg19 = 1#1), ∀ a, (k0_off12 arg17) a + S144x1024.size a ≤ S144x16384.size a) ∧
  (∀ (k0_h2 : k0_cond2 arg16 arg17 arg18 arg19 = 1#1), ∀ (k0_h3 : k0_cond3 arg16 arg17 arg18 arg19 = 1#1), ∀ a, (k0_off13 arg16) a + S1x1x144x1024.size a ≤ S2x2x144x1024.size a) ∧
  (∀ (k0_h2 : k0_cond2 arg16 arg17 arg18 arg19 = 1#1), ∀ (k0_h3 : k0_cond3 arg16 arg17 arg18 arg19 = 1#1), ∀ a, (k0_off14 arg16) a + S1x1x144x1024.size a ≤ S2x2x144x1024.size a) ∧
  (∀ (k0_h2 : k0_cond2 arg16 arg17 arg18 arg19 = 1#1), ∀ (k0_h3 : ¬(k0_cond3 arg16 arg17 arg18 arg19 = 1#1)), 1024 ∣ (k0_mult10 arg15).toNat) ∧
  (∀ (k0_h2 : k0_cond2 arg16 arg17 arg18 arg19 = 1#1), ∀ (k0_h3 : ¬(k0_cond3 arg16 arg17 arg18 arg19 = 1#1)), ∀ a, (k0_off18 arg15) a + S144x1024.size a ≤ S144x16384.size a) ∧
  (∀ (k0_h2 : k0_cond2 arg16 arg17 arg18 arg19 = 1#1), ∀ (k0_h3 : ¬(k0_cond3 arg16 arg17 arg18 arg19 = 1#1)), ∀ a, (k0_off19 arg14) a + S1x1x144x1024.size a ≤ S2x2x144x1024.size a) ∧
  (∀ (k0_h2 : k0_cond2 arg16 arg17 arg18 arg19 = 1#1), ∀ (k0_h3 : ¬(k0_cond3 arg16 arg17 arg18 arg19 = 1#1)), ∀ a, (k0_off20 arg14) a + S1x1x144x1024.size a ≤ S2x2x144x1024.size a) ∧
  (∀ (k0_h2 : k0_cond2 arg16 arg17 arg18 arg19 = 1#1), ∀ (k0_h3 : ¬(k0_cond3 arg16 arg17 arg18 arg19 = 1#1)), 1024 ∣ (k0_mult11 arg19).toNat) ∧
  (∀ (k0_h2 : k0_cond2 arg16 arg17 arg18 arg19 = 1#1), ∀ (k0_h3 : ¬(k0_cond3 arg16 arg17 arg18 arg19 = 1#1)), ∀ a, (k0_off21 arg19) a + S1024x128.size a ≤ S16384x128.size a) ∧
  (∀ (k0_h2 : k0_cond2 arg16 arg17 arg18 arg19 = 1#1), ∀ (k0_h3 : ¬(k0_cond3 arg16 arg17 arg18 arg19 = 1#1)), 1024 ∣ (k0_mult12 arg18).toNat) ∧
  (∀ (k0_h2 : k0_cond2 arg16 arg17 arg18 arg19 = 1#1), ∀ (k0_h3 : ¬(k0_cond3 arg16 arg17 arg18 arg19 = 1#1)), ∀ a, (k0_off22 arg18) a + S1x128x1024.size a ≤ S2x128x16384.size a) ∧
  (∀ (k0_h2 : k0_cond2 arg16 arg17 arg18 arg19 = 1#1), ∀ (k0_h3 : ¬(k0_cond3 arg16 arg17 arg18 arg19 = 1#1)), ∀ a, (k0_off23 arg18) a + S1x128x1024.size a ≤ S2x128x16384.size a) ∧
  (∀ (k0_h2 : k0_cond2 arg16 arg17 arg18 arg19 = 1#1), ∀ (k0_h3 : ¬(k0_cond3 arg16 arg17 arg18 arg19 = 1#1)), 1024 ∣ (k0_mult13 arg17).toNat) ∧
  (∀ (k0_h2 : k0_cond2 arg16 arg17 arg18 arg19 = 1#1), ∀ (k0_h3 : ¬(k0_cond3 arg16 arg17 arg18 arg19 = 1#1)), ∀ a, (k0_off24 arg17) a + S144x1024.size a ≤ S144x16384.size a) ∧
  (∀ (k0_h2 : k0_cond2 arg16 arg17 arg18 arg19 = 1#1), ∀ (k0_h3 : ¬(k0_cond3 arg16 arg17 arg18 arg19 = 1#1)), ∀ a, (k0_off25 arg16) a + S1x1x144x1024.size a ≤ S2x2x144x1024.size a) ∧
  (∀ (k0_h2 : k0_cond2 arg16 arg17 arg18 arg19 = 1#1), ∀ (k0_h3 : ¬(k0_cond3 arg16 arg17 arg18 arg19 = 1#1)), ∀ a, (k0_off26 arg16) a + S1x1x144x1024.size a ≤ S2x2x144x1024.size a) ∧
  (∀ (k0_h2 : ¬(k0_cond2 arg16 arg17 arg18 arg19 = 1#1)), 1024 ∣ (k0_mult16 arg15).toNat) ∧
  (∀ (k0_h2 : ¬(k0_cond2 arg16 arg17 arg18 arg19 = 1#1)), ∀ a, (k0_off30 arg15) a + S144x1024.size a ≤ S144x16384.size a) ∧
  (∀ (k0_h2 : ¬(k0_cond2 arg16 arg17 arg18 arg19 = 1#1)), ∀ a, (k0_off31 arg14) a + S1x1x144x1024.size a ≤ S2x2x144x1024.size a) ∧
  (∀ (k0_h2 : ¬(k0_cond2 arg16 arg17 arg18 arg19 = 1#1)), ∀ a, (k0_off32 arg14) a + S1x1x144x1024.size a ≤ S2x2x144x1024.size a) ∧
  (∀ (k0_h2 : ¬(k0_cond2 arg16 arg17 arg18 arg19 = 1#1)), 1024 ∣ (k0_mult17 arg19).toNat) ∧
  (∀ (k0_h2 : ¬(k0_cond2 arg16 arg17 arg18 arg19 = 1#1)), ∀ a, (k0_off33 arg19) a + S1024x128.size a ≤ S16384x128.size a)
def k0_chk2_1 (arg14 : BitVec 32) (arg15 : BitVec 32) (arg16 : BitVec 32) (arg17 : BitVec 32) (arg18 : BitVec 32) (arg19 : BitVec 32) : Prop :=
  (∀ (k0_h2 : ¬(k0_cond2 arg16 arg17 arg18 arg19 = 1#1)), 1024 ∣ (k0_mult18 arg18).toNat) ∧
  (∀ (k0_h2 : ¬(k0_cond2 arg16 arg17 arg18 arg19 = 1#1)), ∀ a, (k0_off34 arg18) a + S1x128x1024.size a ≤ S2x128x16384.size a) ∧
  (∀ (k0_h2 : ¬(k0_cond2 arg16 arg17 arg18 arg19 = 1#1)), ∀ a, (k0_off35 arg18) a + S1x128x1024.size a ≤ S2x128x16384.size a) ∧
  (∀ (k0_h2 : ¬(k0_cond2 arg16 arg17 arg18 arg19 = 1#1)), 1024 ∣ (k0_mult19 arg17).toNat) ∧
  (∀ (k0_h2 : ¬(k0_cond2 arg16 arg17 arg18 arg19 = 1#1)), ∀ a, (k0_off36 arg17) a + S144x1024.size a ≤ S144x16384.size a) ∧
  (∀ (k0_h2 : ¬(k0_cond2 arg16 arg17 arg18 arg19 = 1#1)), ∀ a, (k0_off37 arg16) a + S1x1x144x1024.size a ≤ S2x2x144x1024.size a) ∧
  (∀ (k0_h2 : ¬(k0_cond2 arg16 arg17 arg18 arg19 = 1#1)), ∀ a, (k0_off38 arg16) a + S1x1x144x1024.size a ≤ S2x2x144x1024.size a)
def k0_chk2 (arg14 : BitVec 32) (arg15 : BitVec 32) (arg16 : BitVec 32) (arg17 : BitVec 32) (arg18 : BitVec 32) (arg19 : BitVec 32) : Prop :=
  k0_chk2_0 arg14 arg15 arg16 arg17 arg18 arg19 ∧
  k0_chk2_1 arg14 arg15 arg16 arg17 arg18 arg19
theorem k0_mult4_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), 1024 ∣ (k0_mult4 arg15).toNat := fun arg14 arg15 arg16 arg17 arg18 arg19 k0_hw2 k0_h2 k0_h3 => k0_hw2.1.1 k0_h2 k0_h3
theorem k0_off6_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off6 arg15) a + S144x1024.size a ≤ S144x16384.size a := fun arg14 arg15 arg16 arg17 arg18 arg19 k0_hw2 k0_h2 k0_h3 => k0_hw2.1.2.1 k0_h2 k0_h3
theorem k0_off7_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off7 arg14) a + S1x1x144x1024.size a ≤ S2x2x144x1024.size a := fun arg14 arg15 arg16 arg17 arg18 arg19 k0_hw2 k0_h2 k0_h3 => k0_hw2.1.2.2.1 k0_h2 k0_h3
theorem k0_off8_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off8 arg14) a + S1x1x144x1024.size a ≤ S2x2x144x1024.size a := fun arg14 arg15 arg16 arg17 arg18 arg19 k0_hw2 k0_h2 k0_h3 => k0_hw2.1.2.2.2.1 k0_h2 k0_h3
theorem k0_mult5_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), 1024 ∣ (k0_mult5 arg19).toNat := fun arg14 arg15 arg16 arg17 arg18 arg19 k0_hw2 k0_h2 k0_h3 => k0_hw2.1.2.2.2.2.1 k0_h2 k0_h3
theorem k0_off9_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off9 arg19) a + S1024x128.size a ≤ S16384x128.size a := fun arg14 arg15 arg16 arg17 arg18 arg19 k0_hw2 k0_h2 k0_h3 => k0_hw2.1.2.2.2.2.2.1 k0_h2 k0_h3
theorem k0_mult6_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), 1024 ∣ (k0_mult6 arg18).toNat := fun arg14 arg15 arg16 arg17 arg18 arg19 k0_hw2 k0_h2 k0_h3 => k0_hw2.1.2.2.2.2.2.2.1 k0_h2 k0_h3
theorem k0_off10_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off10 arg18) a + S1x128x1024.size a ≤ S2x128x16384.size a := fun arg14 arg15 arg16 arg17 arg18 arg19 k0_hw2 k0_h2 k0_h3 => k0_hw2.1.2.2.2.2.2.2.2.1 k0_h2 k0_h3
theorem k0_off11_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off11 arg18) a + S1x128x1024.size a ≤ S2x128x16384.size a := fun arg14 arg15 arg16 arg17 arg18 arg19 k0_hw2 k0_h2 k0_h3 => k0_hw2.1.2.2.2.2.2.2.2.2.1 k0_h2 k0_h3
theorem k0_mult7_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), 1024 ∣ (k0_mult7 arg17).toNat := fun arg14 arg15 arg16 arg17 arg18 arg19 k0_hw2 k0_h2 k0_h3 => k0_hw2.1.2.2.2.2.2.2.2.2.2.1 k0_h2 k0_h3
theorem k0_off12_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off12 arg17) a + S144x1024.size a ≤ S144x16384.size a := fun arg14 arg15 arg16 arg17 arg18 arg19 k0_hw2 k0_h2 k0_h3 => k0_hw2.1.2.2.2.2.2.2.2.2.2.2.1 k0_h2 k0_h3
theorem k0_off13_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off13 arg16) a + S1x1x144x1024.size a ≤ S2x2x144x1024.size a := fun arg14 arg15 arg16 arg17 arg18 arg19 k0_hw2 k0_h2 k0_h3 => k0_hw2.1.2.2.2.2.2.2.2.2.2.2.2.1 k0_h2 k0_h3
theorem k0_off14_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : k0_cond3 arg16 arg17 arg18 arg19 = 1#1), ∀ a, (k0_off14 arg16) a + S1x1x144x1024.size a ≤ S2x2x144x1024.size a := fun arg14 arg15 arg16 arg17 arg18 arg19 k0_hw2 k0_h2 k0_h3 => k0_hw2.1.2.2.2.2.2.2.2.2.2.2.2.2.1 k0_h2 k0_h3
theorem k0_mult10_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), 1024 ∣ (k0_mult10 arg15).toNat := fun arg14 arg15 arg16 arg17 arg18 arg19 k0_hw2 k0_h2 k0_h3 => k0_hw2.1.2.2.2.2.2.2.2.2.2.2.2.2.2.1 k0_h2 k0_h3
theorem k0_off18_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off18 arg15) a + S144x1024.size a ≤ S144x16384.size a := fun arg14 arg15 arg16 arg17 arg18 arg19 k0_hw2 k0_h2 k0_h3 => k0_hw2.1.2.2.2.2.2.2.2.2.2.2.2.2.2.2.1 k0_h2 k0_h3
theorem k0_off19_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off19 arg14) a + S1x1x144x1024.size a ≤ S2x2x144x1024.size a := fun arg14 arg15 arg16 arg17 arg18 arg19 k0_hw2 k0_h2 k0_h3 => k0_hw2.1.2.2.2.2.2.2.2.2.2.2.2.2.2.2.2.1 k0_h2 k0_h3
theorem k0_off20_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off20 arg14) a + S1x1x144x1024.size a ≤ S2x2x144x1024.size a := fun arg14 arg15 arg16 arg17 arg18 arg19 k0_hw2 k0_h2 k0_h3 => k0_hw2.1.2.2.2.2.2.2.2.2.2.2.2.2.2.2.2.2.1 k0_h2 k0_h3
theorem k0_mult11_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), 1024 ∣ (k0_mult11 arg19).toNat := fun arg14 arg15 arg16 arg17 arg18 arg19 k0_hw2 k0_h2 k0_h3 => k0_hw2.1.2.2.2.2.2.2.2.2.2.2.2.2.2.2.2.2.2.1 k0_h2 k0_h3
theorem k0_off21_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off21 arg19) a + S1024x128.size a ≤ S16384x128.size a := fun arg14 arg15 arg16 arg17 arg18 arg19 k0_hw2 k0_h2 k0_h3 => k0_hw2.1.2.2.2.2.2.2.2.2.2.2.2.2.2.2.2.2.2.2.1 k0_h2 k0_h3
theorem k0_mult12_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), 1024 ∣ (k0_mult12 arg18).toNat := fun arg14 arg15 arg16 arg17 arg18 arg19 k0_hw2 k0_h2 k0_h3 => k0_hw2.1.2.2.2.2.2.2.2.2.2.2.2.2.2.2.2.2.2.2.2.1 k0_h2 k0_h3
theorem k0_off22_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off22 arg18) a + S1x128x1024.size a ≤ S2x128x16384.size a := fun arg14 arg15 arg16 arg17 arg18 arg19 k0_hw2 k0_h2 k0_h3 => k0_hw2.1.2.2.2.2.2.2.2.2.2.2.2.2.2.2.2.2.2.2.2.2.1 k0_h2 k0_h3
theorem k0_off23_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off23 arg18) a + S1x128x1024.size a ≤ S2x128x16384.size a := fun arg14 arg15 arg16 arg17 arg18 arg19 k0_hw2 k0_h2 k0_h3 => k0_hw2.1.2.2.2.2.2.2.2.2.2.2.2.2.2.2.2.2.2.2.2.2.2.1 k0_h2 k0_h3
theorem k0_mult13_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), 1024 ∣ (k0_mult13 arg17).toNat := fun arg14 arg15 arg16 arg17 arg18 arg19 k0_hw2 k0_h2 k0_h3 => k0_hw2.1.2.2.2.2.2.2.2.2.2.2.2.2.2.2.2.2.2.2.2.2.2.2.1 k0_h2 k0_h3
theorem k0_off24_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off24 arg17) a + S144x1024.size a ≤ S144x16384.size a := fun arg14 arg15 arg16 arg17 arg18 arg19 k0_hw2 k0_h2 k0_h3 => k0_hw2.1.2.2.2.2.2.2.2.2.2.2.2.2.2.2.2.2.2.2.2.2.2.2.2.1 k0_h2 k0_h3
theorem k0_off25_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off25 arg16) a + S1x1x144x1024.size a ≤ S2x2x144x1024.size a := fun arg14 arg15 arg16 arg17 arg18 arg19 k0_hw2 k0_h2 k0_h3 => k0_hw2.1.2.2.2.2.2.2.2.2.2.2.2.2.2.2.2.2.2.2.2.2.2.2.2.2.1 k0_h2 k0_h3
theorem k0_off26_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : k0_cond2 arg16 arg17 arg18 arg19 = 1#1), ∀ (k0_h3 : ¬(k0_cond3 arg16 arg17 arg18 arg19 = 1#1)), ∀ a, (k0_off26 arg16) a + S1x1x144x1024.size a ≤ S2x2x144x1024.size a := fun arg14 arg15 arg16 arg17 arg18 arg19 k0_hw2 k0_h2 k0_h3 => k0_hw2.1.2.2.2.2.2.2.2.2.2.2.2.2.2.2.2.2.2.2.2.2.2.2.2.2.2.1 k0_h2 k0_h3
theorem k0_mult16_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), 1024 ∣ (k0_mult16 arg15).toNat := fun arg14 arg15 arg16 arg17 arg18 arg19 k0_hw2 k0_h2 => k0_hw2.1.2.2.2.2.2.2.2.2.2.2.2.2.2.2.2.2.2.2.2.2.2.2.2.2.2.2.1 k0_h2
theorem k0_off30_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off30 arg15) a + S144x1024.size a ≤ S144x16384.size a := fun arg14 arg15 arg16 arg17 arg18 arg19 k0_hw2 k0_h2 => k0_hw2.1.2.2.2.2.2.2.2.2.2.2.2.2.2.2.2.2.2.2.2.2.2.2.2.2.2.2.2.1 k0_h2
theorem k0_off31_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off31 arg14) a + S1x1x144x1024.size a ≤ S2x2x144x1024.size a := fun arg14 arg15 arg16 arg17 arg18 arg19 k0_hw2 k0_h2 => k0_hw2.1.2.2.2.2.2.2.2.2.2.2.2.2.2.2.2.2.2.2.2.2.2.2.2.2.2.2.2.2.1 k0_h2
theorem k0_off32_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off32 arg14) a + S1x1x144x1024.size a ≤ S2x2x144x1024.size a := fun arg14 arg15 arg16 arg17 arg18 arg19 k0_hw2 k0_h2 => k0_hw2.1.2.2.2.2.2.2.2.2.2.2.2.2.2.2.2.2.2.2.2.2.2.2.2.2.2.2.2.2.2.1 k0_h2
theorem k0_mult17_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), 1024 ∣ (k0_mult17 arg19).toNat := fun arg14 arg15 arg16 arg17 arg18 arg19 k0_hw2 k0_h2 => k0_hw2.1.2.2.2.2.2.2.2.2.2.2.2.2.2.2.2.2.2.2.2.2.2.2.2.2.2.2.2.2.2.2.1 k0_h2
theorem k0_off33_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off33 arg19) a + S1024x128.size a ≤ S16384x128.size a := fun arg14 arg15 arg16 arg17 arg18 arg19 k0_hw2 k0_h2 => k0_hw2.1.2.2.2.2.2.2.2.2.2.2.2.2.2.2.2.2.2.2.2.2.2.2.2.2.2.2.2.2.2.2.2 k0_h2
theorem k0_mult18_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), 1024 ∣ (k0_mult18 arg18).toNat := fun arg14 arg15 arg16 arg17 arg18 arg19 k0_hw2 k0_h2 => k0_hw2.2.1 k0_h2
theorem k0_off34_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off34 arg18) a + S1x128x1024.size a ≤ S2x128x16384.size a := fun arg14 arg15 arg16 arg17 arg18 arg19 k0_hw2 k0_h2 => k0_hw2.2.2.1 k0_h2
theorem k0_off35_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off35 arg18) a + S1x128x1024.size a ≤ S2x128x16384.size a := fun arg14 arg15 arg16 arg17 arg18 arg19 k0_hw2 k0_h2 => k0_hw2.2.2.2.1 k0_h2
theorem k0_mult19_dvd : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), 1024 ∣ (k0_mult19 arg17).toNat := fun arg14 arg15 arg16 arg17 arg18 arg19 k0_hw2 k0_h2 => k0_hw2.2.2.2.2.1 k0_h2
theorem k0_off36_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off36 arg17) a + S144x1024.size a ≤ S144x16384.size a := fun arg14 arg15 arg16 arg17 arg18 arg19 k0_hw2 k0_h2 => k0_hw2.2.2.2.2.2.1 k0_h2
theorem k0_off37_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off37 arg16) a + S1x1x144x1024.size a ≤ S2x2x144x1024.size a := fun arg14 arg15 arg16 arg17 arg18 arg19 k0_hw2 k0_h2 => k0_hw2.2.2.2.2.2.2.1 k0_h2
theorem k0_off38_inb : ∀ (arg14 : BitVec 32) (arg15 : BitVec 32) (arg16 : BitVec 32) (arg17 : BitVec 32) (arg18 : BitVec 32) (arg19 : BitVec 32) (k0_hw2 : k0_chk2 arg14 arg15 arg16 arg17 arg18 arg19), ∀ (k0_h2 : ¬(k0_cond2 arg16 arg17 arg18 arg19 = 1#1)), ∀ a, (k0_off38 arg16) a + S1x1x144x1024.size a ≤ S2x2x144x1024.size a := fun arg14 arg15 arg16 arg17 arg18 arg19 k0_hw2 k0_h2 => k0_hw2.2.2.2.2.2.2.2 k0_h2

def k0_mult20 (arg21 : BitVec 32) : BitVec 32 :=
  let c15_i32_274 : BitVec 32 := 15#32
  let v363 : BitVec 32 := Scalar.minsi arg21 c15_i32_274
  let c1024_i32_275 : BitVec 32 := 1024#32
  let v364 : BitVec 32 := Scalar.muli v363 c1024_i32_275
  v364
def k0_off39 (arg21 : BitVec 32) : Fin 2 → Nat :=
  let c15_i32_274 : BitVec 32 := 15#32
  let v363 : BitVec 32 := Scalar.minsi arg21 c15_i32_274
  let c1024_i32_275 : BitVec 32 := 1024#32
  let v364 : BitVec 32 := Scalar.muli v363 c1024_i32_275
  let v365 : BitVec 32 := v364
  let v366 : Index := Scalar.indexCast v365
  let c0_276 : Index := 0#32
  ![v366.toNat, 0]

def k0_chk3 (arg16 : BitVec 32) (arg17 : BitVec 32) (arg18 : BitVec 32) (arg19 : BitVec 32) (arg21 : BitVec 32) : Prop :=
  (∀ (k0_h2 : k0_cond2 arg16 arg17 arg18 arg19 = 1#1), ∀ (k0_h3 : k0_cond3 arg16 arg17 arg18 arg19 = 1#1), 1024 ∣ (k0_mult8 arg21).toNat) ∧
  (∀ (k0_h2 : k0_cond2 arg16 arg17 arg18 arg19 = 1#1), ∀ (k0_h3 : k0_cond3 arg16 arg17 arg18 arg19 = 1#1), ∀ a, (k0_off15 arg21) a + S1024x128.size a ≤ S16384x128.size a) ∧
  (∀ (k0_h2 : k0_cond2 arg16 arg17 arg18 arg19 = 1#1), ∀ (k0_h3 : ¬(k0_cond3 arg16 arg17 arg18 arg19 = 1#1)), 1024 ∣ (k0_mult14 arg21).toNat) ∧
  (∀ (k0_h2 : k0_cond2 arg16 arg17 arg18 arg19 = 1#1), ∀ (k0_h3 : ¬(k0_cond3 arg16 arg17 arg18 arg19 = 1#1)), ∀ a, (k0_off27 arg21) a + S1024x128.size a ≤ S16384x128.size a) ∧
  (∀ (k0_h2 : ¬(k0_cond2 arg16 arg17 arg18 arg19 = 1#1)), 1024 ∣ (k0_mult20 arg21).toNat) ∧
  (∀ (k0_h2 : ¬(k0_cond2 arg16 arg17 arg18 arg19 = 1#1)), ∀ a, (k0_off39 arg21) a + S1024x128.size a ≤ S16384x128.size a)
theorem k0_mult8_dvd : ∀ (arg16 : BitVec 32) (arg17 : BitVec 32) (arg18 : BitVec 32) (arg19 : BitVec 32) (arg21 : BitVec 32) (k0_hw3 : k0_chk3 arg16 arg17 arg18 arg19 arg21), ∀ (k0_h2 : k0_cond2 arg16 arg17 arg18 arg19 = 1#1), ∀ (k0_h3 : k0_cond3 arg16 arg17 arg18 arg19 = 1#1), 1024 ∣ (k0_mult8 arg21).toNat := fun arg16 arg17 arg18 arg19 arg21 k0_hw3 k0_h2 k0_h3 => k0_hw3.1 k0_h2 k0_h3
theorem k0_off15_inb : ∀ (arg16 : BitVec 32) (arg17 : BitVec 32) (arg18 : BitVec 32) (arg19 : BitVec 32) (arg21 : BitVec 32) (k0_hw3 : k0_chk3 arg16 arg17 arg18 arg19 arg21), ∀ (k0_h2 : k0_cond2 arg16 arg17 arg18 arg19 = 1#1), ∀ (k0_h3 : k0_cond3 arg16 arg17 arg18 arg19 = 1#1), ∀ a, (k0_off15 arg21) a + S1024x128.size a ≤ S16384x128.size a := fun arg16 arg17 arg18 arg19 arg21 k0_hw3 k0_h2 k0_h3 => k0_hw3.2.1 k0_h2 k0_h3
theorem k0_mult14_dvd : ∀ (arg16 : BitVec 32) (arg17 : BitVec 32) (arg18 : BitVec 32) (arg19 : BitVec 32) (arg21 : BitVec 32) (k0_hw3 : k0_chk3 arg16 arg17 arg18 arg19 arg21), ∀ (k0_h2 : k0_cond2 arg16 arg17 arg18 arg19 = 1#1), ∀ (k0_h3 : ¬(k0_cond3 arg16 arg17 arg18 arg19 = 1#1)), 1024 ∣ (k0_mult14 arg21).toNat := fun arg16 arg17 arg18 arg19 arg21 k0_hw3 k0_h2 k0_h3 => k0_hw3.2.2.1 k0_h2 k0_h3
theorem k0_off27_inb : ∀ (arg16 : BitVec 32) (arg17 : BitVec 32) (arg18 : BitVec 32) (arg19 : BitVec 32) (arg21 : BitVec 32) (k0_hw3 : k0_chk3 arg16 arg17 arg18 arg19 arg21), ∀ (k0_h2 : k0_cond2 arg16 arg17 arg18 arg19 = 1#1), ∀ (k0_h3 : ¬(k0_cond3 arg16 arg17 arg18 arg19 = 1#1)), ∀ a, (k0_off27 arg21) a + S1024x128.size a ≤ S16384x128.size a := fun arg16 arg17 arg18 arg19 arg21 k0_hw3 k0_h2 k0_h3 => k0_hw3.2.2.2.1 k0_h2 k0_h3
theorem k0_mult20_dvd : ∀ (arg16 : BitVec 32) (arg17 : BitVec 32) (arg18 : BitVec 32) (arg19 : BitVec 32) (arg21 : BitVec 32) (k0_hw3 : k0_chk3 arg16 arg17 arg18 arg19 arg21), ∀ (k0_h2 : ¬(k0_cond2 arg16 arg17 arg18 arg19 = 1#1)), 1024 ∣ (k0_mult20 arg21).toNat := fun arg16 arg17 arg18 arg19 arg21 k0_hw3 k0_h2 => k0_hw3.2.2.2.2.1 k0_h2
theorem k0_off39_inb : ∀ (arg16 : BitVec 32) (arg17 : BitVec 32) (arg18 : BitVec 32) (arg19 : BitVec 32) (arg21 : BitVec 32) (k0_hw3 : k0_chk3 arg16 arg17 arg18 arg19 arg21), ∀ (k0_h2 : ¬(k0_cond2 arg16 arg17 arg18 arg19 = 1#1)), ∀ a, (k0_off39 arg21) a + S1024x128.size a ≤ S16384x128.size a := fun arg16 arg17 arg18 arg19 arg21 k0_hw3 k0_h2 => k0_hw3.2.2.2.2.2 k0_h2

def k0_mult21 (arg20 : BitVec 32) : BitVec 32 :=
  let c15_i32_273 : BitVec 32 := 15#32
  let v362 : BitVec 32 := Scalar.minsi arg20 c15_i32_273
  let c1024_i32_277 : BitVec 32 := 1024#32
  let v369 : BitVec 32 := Scalar.muli v362 c1024_i32_277
  v369
def k0_off40 (arg20 : BitVec 32) : Fin 3 → Nat :=
  let c0_278 : Index := 0#32
  let c0_279 : Index := 0#32
  let c15_i32_273 : BitVec 32 := 15#32
  let v362 : BitVec 32 := Scalar.minsi arg20 c15_i32_273
  let c1024_i32_277 : BitVec 32 := 1024#32
  let v369 : BitVec 32 := Scalar.muli v362 c1024_i32_277
  let v370 : BitVec 32 := v369
  let v371 : Index := Scalar.indexCast v370
  ![0, 0, v371.toNat]
def k0_off41 (arg20 : BitVec 32) : Fin 3 → Nat :=
  let c1_288 : Index := 1#32
  let c0_289 : Index := 0#32
  let c15_i32_273 : BitVec 32 := 15#32
  let v362 : BitVec 32 := Scalar.minsi arg20 c15_i32_273
  let c1024_i32_277 : BitVec 32 := 1024#32
  let v369 : BitVec 32 := Scalar.muli v362 c1024_i32_277
  let v370 : BitVec 32 := v369
  let v383 : Index := Scalar.indexCast v370
  ![1, 0, v383.toNat]

def k0_chk4 (arg16 : BitVec 32) (arg17 : BitVec 32) (arg18 : BitVec 32) (arg19 : BitVec 32) (arg20 : BitVec 32) : Prop :=
  (∀ (k0_h2 : k0_cond2 arg16 arg17 arg18 arg19 = 1#1), ∀ (k0_h3 : k0_cond3 arg16 arg17 arg18 arg19 = 1#1), 1024 ∣ (k0_mult9 arg20).toNat) ∧
  (∀ (k0_h2 : k0_cond2 arg16 arg17 arg18 arg19 = 1#1), ∀ (k0_h3 : k0_cond3 arg16 arg17 arg18 arg19 = 1#1), ∀ a, (k0_off16 arg20) a + S1x128x1024.size a ≤ S2x128x16384.size a) ∧
  (∀ (k0_h2 : k0_cond2 arg16 arg17 arg18 arg19 = 1#1), ∀ (k0_h3 : k0_cond3 arg16 arg17 arg18 arg19 = 1#1), ∀ a, (k0_off17 arg20) a + S1x128x1024.size a ≤ S2x128x16384.size a) ∧
  (∀ (k0_h2 : k0_cond2 arg16 arg17 arg18 arg19 = 1#1), ∀ (k0_h3 : ¬(k0_cond3 arg16 arg17 arg18 arg19 = 1#1)), 1024 ∣ (k0_mult15 arg20).toNat) ∧
  (∀ (k0_h2 : k0_cond2 arg16 arg17 arg18 arg19 = 1#1), ∀ (k0_h3 : ¬(k0_cond3 arg16 arg17 arg18 arg19 = 1#1)), ∀ a, (k0_off28 arg20) a + S1x128x1024.size a ≤ S2x128x16384.size a) ∧
  (∀ (k0_h2 : k0_cond2 arg16 arg17 arg18 arg19 = 1#1), ∀ (k0_h3 : ¬(k0_cond3 arg16 arg17 arg18 arg19 = 1#1)), ∀ a, (k0_off29 arg20) a + S1x128x1024.size a ≤ S2x128x16384.size a) ∧
  (∀ (k0_h2 : ¬(k0_cond2 arg16 arg17 arg18 arg19 = 1#1)), 1024 ∣ (k0_mult21 arg20).toNat) ∧
  (∀ (k0_h2 : ¬(k0_cond2 arg16 arg17 arg18 arg19 = 1#1)), ∀ a, (k0_off40 arg20) a + S1x128x1024.size a ≤ S2x128x16384.size a) ∧
  (∀ (k0_h2 : ¬(k0_cond2 arg16 arg17 arg18 arg19 = 1#1)), ∀ a, (k0_off41 arg20) a + S1x128x1024.size a ≤ S2x128x16384.size a)
theorem k0_mult9_dvd : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : k0_cond3 arg16 arg17 arg18 arg19 = 1#1), 1024 ∣ (k0_mult9 arg20).toNat := fun arg16 arg17 arg18 arg19 arg20 k0_hw4 k0_h2 k0_h3 => k0_hw4.1 k0_h2 k0_h3
theorem k0_off16_inb : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : k0_cond3 arg16 arg17 arg18 arg19 = 1#1), ∀ a, (k0_off16 arg20) a + S1x128x1024.size a ≤ S2x128x16384.size a := fun arg16 arg17 arg18 arg19 arg20 k0_hw4 k0_h2 k0_h3 => k0_hw4.2.1 k0_h2 k0_h3
theorem k0_off17_inb : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : k0_cond3 arg16 arg17 arg18 arg19 = 1#1), ∀ a, (k0_off17 arg20) a + S1x128x1024.size a ≤ S2x128x16384.size a := fun arg16 arg17 arg18 arg19 arg20 k0_hw4 k0_h2 k0_h3 => k0_hw4.2.2.1 k0_h2 k0_h3
theorem k0_mult15_dvd : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : ¬(k0_cond3 arg16 arg17 arg18 arg19 = 1#1)), 1024 ∣ (k0_mult15 arg20).toNat := fun arg16 arg17 arg18 arg19 arg20 k0_hw4 k0_h2 k0_h3 => k0_hw4.2.2.2.1 k0_h2 k0_h3
theorem k0_off28_inb : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : ¬(k0_cond3 arg16 arg17 arg18 arg19 = 1#1)), ∀ a, (k0_off28 arg20) a + S1x128x1024.size a ≤ S2x128x16384.size a := fun arg16 arg17 arg18 arg19 arg20 k0_hw4 k0_h2 k0_h3 => k0_hw4.2.2.2.2.1 k0_h2 k0_h3
theorem k0_off29_inb : ∀ (arg16 : BitVec 32) (arg17 : BitVec 32) (arg18 : BitVec 32) (arg19 : BitVec 32) (arg20 : BitVec 32) (k0_hw4 : k0_chk4 arg16 arg17 arg18 arg19 arg20), ∀ (k0_h2 : k0_cond2 arg16 arg17 arg18 arg19 = 1#1), ∀ (k0_h3 : ¬(k0_cond3 arg16 arg17 arg18 arg19 = 1#1)), ∀ a, (k0_off29 arg20) a + S1x128x1024.size a ≤ S2x128x16384.size a := fun arg16 arg17 arg18 arg19 arg20 k0_hw4 k0_h2 k0_h3 => k0_hw4.2.2.2.2.2.1 k0_h2 k0_h3
theorem k0_mult21_dvd : ∀ (arg16 : BitVec 32) (arg17 : BitVec 32) (arg18 : BitVec 32) (arg19 : BitVec 32) (arg20 : BitVec 32) (k0_hw4 : k0_chk4 arg16 arg17 arg18 arg19 arg20), ∀ (k0_h2 : ¬(k0_cond2 arg16 arg17 arg18 arg19 = 1#1)), 1024 ∣ (k0_mult21 arg20).toNat := fun arg16 arg17 arg18 arg19 arg20 k0_hw4 k0_h2 => k0_hw4.2.2.2.2.2.2.1 k0_h2
theorem k0_off40_inb : ∀ (arg16 : BitVec 32) (arg17 : BitVec 32) (arg18 : BitVec 32) (arg19 : BitVec 32) (arg20 : BitVec 32) (k0_hw4 : k0_chk4 arg16 arg17 arg18 arg19 arg20), ∀ (k0_h2 : ¬(k0_cond2 arg16 arg17 arg18 arg19 = 1#1)), ∀ a, (k0_off40 arg20) a + S1x128x1024.size a ≤ S2x128x16384.size a := fun arg16 arg17 arg18 arg19 arg20 k0_hw4 k0_h2 => k0_hw4.2.2.2.2.2.2.2.1 k0_h2
theorem k0_off41_inb : ∀ (arg16 : BitVec 32) (arg17 : BitVec 32) (arg18 : BitVec 32) (arg19 : BitVec 32) (arg20 : BitVec 32) (k0_hw4 : k0_chk4 arg16 arg17 arg18 arg19 arg20), ∀ (k0_h2 : ¬(k0_cond2 arg16 arg17 arg18 arg19 = 1#1)), ∀ a, (k0_off41 arg20) a + S1x128x1024.size a ≤ S2x128x16384.size a := fun arg16 arg17 arg18 arg19 arg20 k0_hw4 k0_h2 => k0_hw4.2.2.2.2.2.2.2.2 k0_h2

def k0_off42 (v107_8 : BitVec 32) : Fin 4 → Nat :=
  let c2_i32 : BitVec 32 := 2#32
  let c0_i32_74 : BitVec 32 := 0#32
  let v128 : BitVec 1 := Scalar.cmpi .eq c2_i32 c0_i32_74
  let c1_i32_75 : BitVec 32 := 1#32
  let v129 : BitVec 32 := Scalar.select v128 c1_i32_75 c2_i32
  let v130 : BitVec 32 := Scalar.remsi v107_8 v129
  let c0_i32_77 : BitVec 32 := 0#32
  let v132 : BitVec 1 := Scalar.cmpi .slt v130 c0_i32_77
  let c0_i32_78 : BitVec 32 := 0#32
  let v133 : BitVec 1 := Scalar.cmpi .slt v129 c0_i32_78
  let v134 : BitVec 1 := Scalar.xori v132 v133
  let c0_i32_76 : BitVec 32 := 0#32
  let v131 : BitVec 1 := Scalar.cmpi .ne v130 c0_i32_76
  let v135 : BitVec 1 := Scalar.andi v134 v131
  let v136 : BitVec 32 := Scalar.addi v130 v129
  let v137 : BitVec 32 := Scalar.select v135 v136 v130
  let v138 : Index := Scalar.indexCast v137
  let c0_79 : Index := 0#32
  let c0_80 : Index := 0#32
  let c0_81 : Index := 0#32
  ![v138.toNat, 0, 0, 0]
def k0_cond4 (v107_8 : BitVec 32) : BitVec 1 :=
  let c0_i32_67 : BitVec 32 := 0#32
  let v108 : BitVec 1 := Scalar.cmpi .sge v107_8 c0_i32_67
  let v109 : BitVec 32 := Scalar.extui v108
  let c0_i32_68 : BitVec 32 := 0#32
  let v110 : BitVec 1 := Scalar.cmpi .ne v109 c0_i32_68
  v110

def k0_off43 (v107_8 : BitVec 32) : Fin 4 → Nat :=
  let c2_i32 : BitVec 32 := 2#32
  let c0_i32_74 : BitVec 32 := 0#32
  let v128 : BitVec 1 := Scalar.cmpi .eq c2_i32 c0_i32_74
  let c1_i32_75 : BitVec 32 := 1#32
  let v129 : BitVec 32 := Scalar.select v128 c1_i32_75 c2_i32
  let v130 : BitVec 32 := Scalar.remsi v107_8 v129
  let c0_i32_77 : BitVec 32 := 0#32
  let v132 : BitVec 1 := Scalar.cmpi .slt v130 c0_i32_77
  let c0_i32_78 : BitVec 32 := 0#32
  let v133 : BitVec 1 := Scalar.cmpi .slt v129 c0_i32_78
  let v134 : BitVec 1 := Scalar.xori v132 v133
  let c0_i32_76 : BitVec 32 := 0#32
  let v131 : BitVec 1 := Scalar.cmpi .ne v130 c0_i32_76
  let v135 : BitVec 1 := Scalar.andi v134 v131
  let v136 : BitVec 32 := Scalar.addi v130 v129
  let v137 : BitVec 32 := Scalar.select v135 v136 v130
  let v141 : Index := Scalar.indexCast v137
  let c0_82 : Index := 0#32
  let c128 : Index := 128#32
  let c0_83 : Index := 0#32
  ![v141.toNat, 0, 128, 0]
def k0_off44 (v107_8 : BitVec 32) : Fin 4 → Nat :=
  let c2_i32 : BitVec 32 := 2#32
  let c0_i32_74 : BitVec 32 := 0#32
  let v128 : BitVec 1 := Scalar.cmpi .eq c2_i32 c0_i32_74
  let c1_i32_75 : BitVec 32 := 1#32
  let v129 : BitVec 32 := Scalar.select v128 c1_i32_75 c2_i32
  let v130 : BitVec 32 := Scalar.remsi v107_8 v129
  let c0_i32_77 : BitVec 32 := 0#32
  let v132 : BitVec 1 := Scalar.cmpi .slt v130 c0_i32_77
  let c0_i32_78 : BitVec 32 := 0#32
  let v133 : BitVec 1 := Scalar.cmpi .slt v129 c0_i32_78
  let v134 : BitVec 1 := Scalar.xori v132 v133
  let c0_i32_76 : BitVec 32 := 0#32
  let v131 : BitVec 1 := Scalar.cmpi .ne v130 c0_i32_76
  let v135 : BitVec 1 := Scalar.andi v134 v131
  let v136 : BitVec 32 := Scalar.addi v130 v129
  let v137 : BitVec 32 := Scalar.select v135 v136 v130
  let v146 : Index := Scalar.indexCast v137
  let c1_84 : Index := 1#32
  let c0_85 : Index := 0#32
  let c0_86 : Index := 0#32
  ![v146.toNat, 1, 0, 0]
def k0_off45 (v107_8 : BitVec 32) : Fin 4 → Nat :=
  let c2_i32 : BitVec 32 := 2#32
  let c0_i32_74 : BitVec 32 := 0#32
  let v128 : BitVec 1 := Scalar.cmpi .eq c2_i32 c0_i32_74
  let c1_i32_75 : BitVec 32 := 1#32
  let v129 : BitVec 32 := Scalar.select v128 c1_i32_75 c2_i32
  let v130 : BitVec 32 := Scalar.remsi v107_8 v129
  let c0_i32_77 : BitVec 32 := 0#32
  let v132 : BitVec 1 := Scalar.cmpi .slt v130 c0_i32_77
  let c0_i32_78 : BitVec 32 := 0#32
  let v133 : BitVec 1 := Scalar.cmpi .slt v129 c0_i32_78
  let v134 : BitVec 1 := Scalar.xori v132 v133
  let c0_i32_76 : BitVec 32 := 0#32
  let v131 : BitVec 1 := Scalar.cmpi .ne v130 c0_i32_76
  let v135 : BitVec 1 := Scalar.andi v134 v131
  let v136 : BitVec 32 := Scalar.addi v130 v129
  let v137 : BitVec 32 := Scalar.select v135 v136 v130
  let v149 : Index := Scalar.indexCast v137
  let c1_87 : Index := 1#32
  let c128_88 : Index := 128#32
  let c0_89 : Index := 0#32
  ![v149.toNat, 1, 128, 0]
def k0_mult22 (v107_8 : BitVec 32) : BitVec 32 :=
  let c1024_i32 : BitVec 32 := 1024#32
  let v174 : BitVec 32 := Scalar.muli v107_8 c1024_i32
  v174
def k0_off46 (v107_8 : BitVec 32) : Fin 2 → Nat :=
  let c0_96 : Index := 0#32
  let c1024_i32 : BitVec 32 := 1024#32
  let v174 : BitVec 32 := Scalar.muli v107_8 c1024_i32
  let v175 : BitVec 32 := v174
  let v176 : Index := Scalar.indexCast v175
  ![0, v176.toNat]

def k0_chk5 (v107_8 : BitVec 32) : Prop :=
  (∀ (k0_h4 : k0_cond4 v107_8 = 1#1), ∀ a, (k0_off42 v107_8) a + S1x1x128x1024.size a ≤ S2x2x144x1024.size a) ∧
  (∀ (k0_h4 : k0_cond4 v107_8 = 1#1), ∀ a, (k0_off43 v107_8) a + S1x1x1x1024.size a ≤ S2x2x144x1024.size a) ∧
  (∀ (k0_h4 : k0_cond4 v107_8 = 1#1), ∀ a, (k0_off44 v107_8) a + S1x1x128x1024.size a ≤ S2x2x144x1024.size a) ∧
  (∀ (k0_h4 : k0_cond4 v107_8 = 1#1), ∀ a, (k0_off45 v107_8) a + S1x1x1x1024.size a ≤ S2x2x144x1024.size a) ∧
  (∀ (k0_h4 : k0_cond4 v107_8 = 1#1), 1024 ∣ (k0_mult22 v107_8).toNat) ∧
  (∀ (k0_h4 : k0_cond4 v107_8 = 1#1), ∀ a, (k0_off46 v107_8) a + S128x1024.size a ≤ S128x16384.size a) ∧
  (∀ (k0_h4 : k0_cond4 v107_8 = 1#1), ∀ (hinb : ∀ a, (k0_off46 v107_8) a + S128x1024.size a ≤ S128x16384.size a), (Rect.unit (s := S128x16384) (k0_off46 v107_8) S128x1024.size hinb).PackedRows (EltTy.packing .bf16))
theorem k0_off42_inb : ∀ (v107_8 : BitVec 32) (k0_hw5 : k0_chk5 v107_8), ∀ (k0_h4 : k0_cond4 v107_8 = 1#1), ∀ a, (k0_off42 v107_8) a + S1x1x128x1024.size a ≤ S2x2x144x1024.size a := fun v107_8 k0_hw5 k0_h4 => k0_hw5.1 k0_h4
theorem k0_off43_inb : ∀ (v107_8 : BitVec 32) (k0_hw5 : k0_chk5 v107_8), ∀ (k0_h4 : k0_cond4 v107_8 = 1#1), ∀ a, (k0_off43 v107_8) a + S1x1x1x1024.size a ≤ S2x2x144x1024.size a := fun v107_8 k0_hw5 k0_h4 => k0_hw5.2.1 k0_h4
theorem k0_off44_inb : ∀ (v107_8 : BitVec 32) (k0_hw5 : k0_chk5 v107_8), ∀ (k0_h4 : k0_cond4 v107_8 = 1#1), ∀ a, (k0_off44 v107_8) a + S1x1x128x1024.size a ≤ S2x2x144x1024.size a := fun v107_8 k0_hw5 k0_h4 => k0_hw5.2.2.1 k0_h4
theorem k0_off45_inb : ∀ (v107_8 : BitVec 32) (k0_hw5 : k0_chk5 v107_8), ∀ (k0_h4 : k0_cond4 v107_8 = 1#1), ∀ a, (k0_off45 v107_8) a + S1x1x1x1024.size a ≤ S2x2x144x1024.size a := fun v107_8 k0_hw5 k0_h4 => k0_hw5.2.2.2.1 k0_h4
theorem k0_mult22_dvd : ∀ (v107_8 : BitVec 32) (k0_hw5 : k0_chk5 v107_8), ∀ (k0_h4 : k0_cond4 v107_8 = 1#1), 1024 ∣ (k0_mult22 v107_8).toNat := fun v107_8 k0_hw5 k0_h4 => k0_hw5.2.2.2.2.1 k0_h4
theorem k0_off46_inb : ∀ (v107_8 : BitVec 32) (k0_hw5 : k0_chk5 v107_8), ∀ (k0_h4 : k0_cond4 v107_8 = 1#1), ∀ a, (k0_off46 v107_8) a + S128x1024.size a ≤ S128x16384.size a := fun v107_8 k0_hw5 k0_h4 => k0_hw5.2.2.2.2.2.1 k0_h4
theorem k0_off46_packedbf16 : ∀ (v107_8 : BitVec 32) (k0_hw5 : k0_chk5 v107_8), ∀ (k0_h4 : k0_cond4 v107_8 = 1#1), (Rect.unit (s := S128x16384) (k0_off46 v107_8) S128x1024.size (k0_off46_inb v107_8 k0_hw5 k0_h4)).PackedRows (EltTy.packing .bf16) := fun v107_8 k0_hw5 k0_h4 => k0_hw5.2.2.2.2.2.2 k0_h4 (k0_off46_inb v107_8 k0_hw5 k0_h4)

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x16384x8x2x64 : Shape := ⟨5, ![1, 16384, 8, 2, 64]⟩
abbrev S1x16384x8x128 : Shape := ⟨4, ![1, 16384, 8, 128]⟩
abbrev S1x64 : Shape := ⟨2, ![1, 64]⟩
abbrev S1x128 : Shape := ⟨2, ![1, 128]⟩
abbrev S_ : Shape := ⟨0, ![]⟩
abbrev S64 : Shape := ⟨1, ![64]⟩
abbrev S1x8x2x16384x16384 : Shape := ⟨5, ![1, 8, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x8x2x16384 : Shape := ⟨4, ![1, 8, 2, 16384]⟩
abbrev S1x8x2x16384x1 : Shape := ⟨5, ![1, 8, 2, 16384, 1]⟩
abbrev S1x8x1x16384x16384 : Shape := ⟨5, ![1, 8, 1, 16384, 16384]⟩
abbrev S1x8x16384x16384 : Shape := ⟨4, ![1, 8, 16384, 16384]⟩
abbrev S1x8x128x16384 : Shape := ⟨4, ![1, 8, 128, 16384]⟩
abbrev S128 : Shape := ⟨1, ![128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S16384x1024 : Shape := ⟨2, ![16384, 1024]⟩
abbrev S1024x16384 : Shape := ⟨2, ![1024, 16384]⟩

abbrev nBuf : Space → Nat
  | .hbm => 102
  | .vmem => 0
  | .smem => 0
  | _ => 0

abbrev bufTy : (tb : Table) → Fin (tcTables nBuf tb) → BufTy
  | .hbm, ⟨0, _⟩ => ⟨S1x16384x8x2x64, .f32⟩
  | .hbm, ⟨1, _⟩ => ⟨S1x16384x8x2x64, .f32⟩
  | .hbm, ⟨2, _⟩ => ⟨S1x16384x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S1x16384x8x2x64, .f32⟩
  | .hbm, ⟨10, _⟩ => ⟨S1x16384x8x2x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x8x2x16384x16384, .f32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S16384x1, .i32⟩
  | .hbm, ⟨48, _⟩ => ⟨S16384x16384, .i32⟩
  | .hbm, ⟨49, _⟩ => ⟨S16384x16384, .i32⟩
  | .hbm, ⟨50, _⟩ => ⟨S16384x16384, .i1⟩
  | .hbm, ⟨51, _⟩ => ⟨S_, .f32⟩
  | .hbm, ⟨52, _⟩ => ⟨S_, .f32⟩
  | .hbm, ⟨53, _⟩ => ⟨S1x8x2x16384x16384, .i1⟩
  | .hbm, ⟨54, _⟩ => ⟨S1x8x2x16384x16384, .f32⟩
  | .hbm, ⟨55, _⟩ => ⟨S1x8x2x16384x16384, .f32⟩
  | .hbm, ⟨56, _⟩ => ⟨S_, .f32⟩
  | .hbm, ⟨57, _⟩ => ⟨S1x8x2x16384, .f32⟩
  | .hbm, ⟨58, _⟩ => ⟨S_, .f32⟩
  | .hbm, ⟨59, _⟩ => ⟨S1x8x2x16384, .f32⟩
  | .hbm, ⟨60, _⟩ => ⟨S1x8x2x16384, .f32⟩
  | .hbm, ⟨61, _⟩ => ⟨S1x8x2x16384x1, .f32⟩
  | .hbm, ⟨62, _⟩ => ⟨S1x8x2x16384x16384, .f32⟩
  | .hbm, ⟨63, _⟩ => ⟨S1x8x2x16384x16384, .f32⟩
  | .hbm, ⟨64, _⟩ => ⟨S1x8x2x16384x16384, .f32⟩
  | .hbm, ⟨65, _⟩ => ⟨S_, .f32⟩
  | .hbm, ⟨66, _⟩ => ⟨S1x8x2x16384, .f32⟩
  | .hbm, ⟨67, _⟩ => ⟨S1x8x2x16384x1, .f32⟩
  | .hbm, ⟨68, _⟩ => ⟨S1x8x2x16384x16384, .f32⟩
  | .hbm, ⟨69, _⟩ => ⟨S1x8x2x16384x16384, .f32⟩
  | .hbm, ⟨70, _⟩ => ⟨S1x8x1x16384x16384, .f32⟩
  | .hbm, ⟨71, _⟩ => ⟨S1x8x16384x16384, .f32⟩
  | .hbm, ⟨72, _⟩ => ⟨S1x8x1x16384x16384, .f32⟩
  | .hbm, ⟨73, _⟩ => ⟨S1x8x16384x16384, .f32⟩
  | .hbm, ⟨74, _⟩ => ⟨S1x8x16384x16384, .f32⟩
  | .hbm, ⟨75, _⟩ => ⟨S1x8x16384x16384, .f32⟩
  | .hbm, ⟨76, _⟩ => ⟨S1x8x16384x16384, .f32⟩
  | .hbm, ⟨77, _⟩ => ⟨S1x8x128x16384, .f32⟩
  | .hbm, ⟨78, _⟩ => ⟨S1x16384x8x128, .f32⟩
  | .hbm, ⟨79, _⟩ => ⟨S128, .f32⟩
  | .hbm, ⟨80, _⟩ => ⟨S1x16384x8x128, .f32⟩
  | .hbm, ⟨81, _⟩ => ⟨S_, .f32⟩
  | .hbm, ⟨82, _⟩ => ⟨S1x16384x8, .f32⟩
  | .hbm, ⟨83, _⟩ => ⟨S1x16384x8x1, .f32⟩
  | .hbm, ⟨84, _⟩ => ⟨S_, .f32⟩
  | .hbm, ⟨85, _⟩ => ⟨S1x16384x8x1, .f32⟩
  | .hbm, ⟨86, _⟩ => ⟨S1x16384x8x1, .f32⟩
  | .hbm, ⟨87, _⟩ => ⟨S_, .f32⟩
  | .hbm, ⟨88, _⟩ => ⟨S1x16384x8x1, .f32⟩
  | .hbm, ⟨89, _⟩ => ⟨S1x16384x8x1, .f32⟩
  | .hbm, ⟨90, _⟩ => ⟨S1x16384x8x1, .f32⟩
  | .hbm, ⟨91, _⟩ => ⟨S1x16384x8x128, .f32⟩
  | .hbm, ⟨92, _⟩ => ⟨S1x16384x8x128, .f32⟩
  | .hbm, ⟨93, _⟩ => ⟨S1x1x1x128, .f32⟩
  | .hbm, ⟨94, _⟩ => ⟨S1x16384x8x128, .f32⟩
  | .hbm, ⟨95, _⟩ => ⟨S1x16384x8x128, .f32⟩
  | .hbm, ⟨96, _⟩ => ⟨S_, .f32⟩
  | .hbm, ⟨97, _⟩ => ⟨S1x16384x8x128, .f32⟩
  | .hbm, ⟨98, _⟩ => ⟨S1x16384x8x128, .f32⟩
  | .hbm, ⟨99, _⟩ => ⟨S16384x1024, .f32⟩
  | .hbm, ⟨100, _⟩ => ⟨S1024x16384, .f32⟩
  | .hbm, ⟨101, _⟩ => ⟨S1024x16384, .bf16⟩
  | _, _ => ⟨S1x16384x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_cst_9 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩

abbrev nD : Nat := 1
abbrev τ : Topo := Topo.v7x

variable {F : FTy → Type} [FloatOps F]
-- ==== Post.lean ====
abbrev S16384x1024 : Shape := ⟨2, ![16384, 1024]⟩
abbrev S1024x16384 : Shape := ⟨2, ![1024, 16384]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S1x1024 : Shape := ⟨2, ![1, 1024]⟩
abbrev S1024 : Shape := ⟨1, ![1024]⟩
abbrev S4x1024 : Shape := ⟨2, ![4, 1024]⟩
abbrev S512x1024 : Shape := ⟨2, ![512, 1024]⟩
abbrev S1024x512 : Shape := ⟨2, ![1024, 512]⟩
abbrev S1x1024x2816 : Shape := ⟨3, ![1, 1024, 2816]⟩
abbrev S1x2816x1024 : Shape := ⟨3, ![1, 2816, 1024]⟩
abbrev S512x2816 : Shape := ⟨2, ![512, 2816]⟩
abbrev S1024x256 : Shape := ⟨2, ![1024, 256]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 24
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x16384, .bf16⟩
  | .hbm, ⟨2, _⟩ => ⟨S1x1024x1024, .bf16⟩
  | .hbm, ⟨3, _⟩ => ⟨S2x1024x2816, .bf16⟩
  | .hbm, ⟨4, _⟩ => ⟨S2x1024x2816, .bf16⟩
  | .hbm, ⟨5, _⟩ => ⟨S2x2816x1024, .bf16⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024x1024, .bf16⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S4x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostReferenceIdeal.lean ====
abbrev S16384x1024 : Shape := ⟨2, ![16384, 1024]⟩
abbrev S1024x16384 : Shape := ⟨2, ![1024, 16384]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .bf16⟩
  | .hbm, ⟨2, _⟩ => ⟨S1x1024x1024, .bf16⟩
  | .hbm, ⟨3, _⟩ => ⟨S2x1024x2816, .bf16⟩
  | .hbm, ⟨4, _⟩ => ⟨S2x1024x2816, .bf16⟩
  | .hbm, ⟨5, _⟩ => ⟨S2x2816x1024, .bf16⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024x16384, .f32⟩
  | .hbm, ⟨11, _⟩ => ⟨S1024x1024, .bf16⟩
  | .hbm, ⟨12, _⟩ => ⟨S1024x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S1x1024x2816, .bf16⟩
  | .hbm, ⟨53, _⟩ => ⟨S1024x2816, .bf16⟩
  | .hbm, ⟨54, _⟩ => ⟨S1024x2816, .f32⟩
  | .hbm, ⟨55, _⟩ => ⟨S1x1024x2816, .bf16⟩
  | .hbm, ⟨56, _⟩ => ⟨S1024x2816, .bf16⟩
  | .hbm, ⟨57, _⟩ => ⟨S1024x2816, .f32⟩
  | .hbm, ⟨58, _⟩ => ⟨S1x2816x1024, .bf16⟩
  | .hbm, ⟨59, _⟩ => ⟨S2816x1024, .bf16⟩
  | .hbm, ⟨60, _⟩ => ⟨S2816x1024, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Proof.Pre.lean ====
/- What the precondition says: queries, keys, values and the vectors of the mixing weight are real numbers. -/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Proof.Pre

open Cert.Pre_finite Cert.Pre_finite.Gen
open Idealize.ShloMosaic

theorem ofBits_posInf : Ideal.ofBits .f32 0x7F800000#32 = ⊤ := by simp [Ideal.ofBits, Ideal.ieee]

/-- An extended real whose absolute value is below infinity is a real. -/
theorem real_of_abs (a : EReal) (h : Ideal.cmp CmpFPredicate.olt (max a (-a)) ⊤ = 1#1) : ∃ r : ℝ, a = (r : EReal) := by
  have hlt : max a (-a) < ⊤ := by
    by_contra hn
    simp [Ideal.cmp, hn] at h
  have h1 : a ≠ ⊤ := fun e => by rw [e] at hlt; simp at hlt
  have h2 : a ≠ ⊥ := fun e => by rw [e] at hlt; simp at hlt
  exact ⟨a.toReal, (EReal.coe_toReal h1 h2).symm⟩

instance : Subsingleton S_.Idx := ⟨fun a b => funext fun d => d.elim0⟩

/-- A whole array below infinity in absolute value is real at every index. -/
theorem real_of_reduce {s : Shape} {axes : List (Fin s.rank)} (x : FVec Ideal s .f32) (hb : S_.BroadcastsInDim s (![] : Fin 0 → Fin s.rank)) (hr : s.ReducesTo axes S_)
    (e : Host.reduce IntOp.andi (cmpf CmpFPredicate.olt (Host.absf x) (broadcastInDim s ![] hb (constant S_ .f32 0x7F800000#32))) (constantI S_ 1 1#1) hr h_S_ ix0 = 1#1)
    (i : s.Idx) : ∃ r : ℝ, x i = (r : EReal) := by
  have h := Host.reduce_andi_all _ _ hr h_S_ ix0 e i
  refine real_of_abs (x i) ?_
  rw [← ofBits_posInf]
  exact h

theorem and_one (a b : BitVec 1) : IntOp.andi a b = 1#1 → a = 1#1 ∧ b = 1#1 := by revert a b; decide

theorem and_all (a b : IVec S_ 1) (h : andi a b ix0 = 1#1) : a ix0 = 1#1 ∧ b ix0 = 1#1 := and_one _ _ h

/-- Real at every index. -/
def AllReal {s : Shape} (x : FVec Ideal s .f32) : Prop := ∀ i, ∃ r : ℝ, x i = (r : EReal)

theorem real_args (x0 x1 : FVec Ideal S1x16384x8x2x64 .f32) (x2 : FVec Ideal S1x16384x8x128 .f32) (x3 x4 x5 x6 : FVec Ideal S1x64 .f32) (x7 : FVec Ideal S1x128 .f32)
    (e : Cert.Pre_finite.fn x0 x1 x2 x3 x4 x5 x6 x7 = fun _ => 1#1) : AllReal x0 ∧ AllReal x1 ∧ AllReal x2 ∧ AllReal x3 ∧ AllReal x4 ∧ AllReal x5 ∧ AllReal x6 := by
  have h := congrFun e ix0
  unfold Cert.Pre_finite.fn Cert.Pre_finite.fn_part1 at h
  have g6 := and_all _ _ h
  have h6 := g6.2
  replace h := g6.1
  clear g6
  have g5 := and_all _ _ h
  have h5 := g5.2
  replace h := g5.1
  clear g5
  have g4 := and_all _ _ h
  have h4 := g4.2
  replace h := g4.1
  clear g4
  have g3 := and_all _ _ h
  have h3 := g3.2
  replace h := g3.1
  clear g3
  have g2 := and_all _ _ h
  have h2 := g2.2
  replace h := g2.1
  clear g2
  obtain ⟨h0, h1⟩ := and_all _ _ h
  clear h e
  exact ⟨real_of_reduce (axes := [0, 1, 2, 3, 4]) x0 _ Facts.reducesTo_S1x16384x8x2x64_S_d0_1_2_3_4 h0, real_of_reduce (axes := [0, 1, 2, 3, 4]) x1 _ Facts.reducesTo_S1x16384x8x2x64_S_d0_1_2_3_4 h1,
    real_of_reduce (axes := [0, 1, 2, 3]) x2 _ Facts.reducesTo_S1x16384x8x128_S_d0_1_2_3 h2, real_of_reduce (axes := [0, 1]) x3 _ Facts.reducesTo_S1x64_S_d0_1 h3,
    real_of_reduce (axes := [0, 1]) x4 _ Facts.reducesTo_S1x64_S_d0_1 h4, real_of_reduce (axes := [0, 1]) x5 _ Facts.reducesTo_S1x64_S_d0_1 h5,
    real_of_reduce (axes := [0, 1]) x6 _ Facts.reducesTo_S1x64_S_d0_1 h6⟩

end Cert.Proof.Pre

end
-- ==== Proof.Softmax.lean ====
/- The running softmax over the extended reals: masked sums of powers of two, their growth by one block of keys under a
   new maximum, and the quotient of two such sums, which the maximum leaves unchanged. -/
module

public import Idealize.ShloMosaic.PureOps.Ideal
public import Mathlib.Analysis.SpecialFunctions.Pow.Real

@[expose] public section

noncomputable section

namespace Cert.Proof.Softmax

open Idealize.ShloMosaic
open scoped BigOperators

/-- A finite sum of reals, as a sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_sub_coe (a b : ℝ) : Ideal.exp2 ((a : EReal) - (b : EReal)) = (((2 : ℝ) ^ (a - b) : ℝ) : EReal) := by
  rw [← EReal.coe_sub]; rfl

theorem exp2_bot_sub (b : ℝ) : Ideal.exp2 ((⊥ : EReal) - (b : EReal)) = 0 := by
  rw [sub_eq_add_neg, EReal.bot_add]; rfl

/-- The weight of a key: a power of two where the mask lets it through, else nothing. -/
def wt (P : ℕ → Prop) [DecidablePred P] (σ : ℕ → ℝ) (μ : ℝ) (y : ℕ) : ℝ := if P y then (2 : ℝ) ^ (σ y - μ) else 0

/-- The weighted sum over the first `n` keys. -/
def S (P : ℕ → Prop) [DecidablePred P] (σ v : ℕ → ℝ) (n : ℕ) (μ : ℝ) : ℝ := ∑ y ∈ Finset.range n, v y * wt P σ μ y

variable (P : ℕ → Prop) [DecidablePred P] (σ v : ℕ → ℝ)

theorem wt_shift (μ μ' : ℝ) (y : ℕ) : wt P σ μ' y = (2 : ℝ) ^ (μ - μ') * wt P σ μ y := by
  unfold wt
  split
  · rw [← Real.rpow_add (by norm_num : (0 : ℝ) < 2)]; congr 1; ring
  · simp

theorem S_shift (n : ℕ) (μ μ' : ℝ) : S P σ v n μ' = (2 : ℝ) ^ (μ - μ') * S P σ v n μ := by
  unfold S
  rw [Finset.mul_sum]
  refine Finset.sum_congr rfl fun y _ => ?_
  rw [wt_shift P σ μ μ']; ring

theorem S_grow (n m : ℕ) (μ : ℝ) : S P σ v (n + m) μ = S P σ v n μ + ∑ y : Fin m, v (n + y) * wt P σ μ (n + y) := by
  unfold S
  rw [Finset.sum_range_add, Finset.sum_range (fun y => v (n + y) * wt P σ μ (n + y))]

/-- Keys that the mask stops add nothing. -/
theorem S_stop (n m : ℕ) (μ : ℝ) (h : ∀ y, n ≤ y → ¬ P y) (hm : n ≤ m) : S P σ v m μ = S P σ v n μ := by
  obtain ⟨k, rfl⟩ := Nat.exists_eq_add_of_le hm
  rw [S_grow]
  have : ∀ y : Fin k, v (n + y) * wt P σ μ (n + y) = 0 := fun y => by
    rw [wt, if_neg (h _ (Nat.le_add_right _ _)), mul_zero]
  simp [this]

/-- The masked scores of one block. -/
def ent (n : ℕ) (y : ℕ) : EReal := if P (n + y) then ((σ (n + y) : ℝ) : EReal) else ⊥

/-- The maximum of a running maximum and a block with an unmasked key is a real. -/
theorem max_real (n m : ℕ) (e : Fin m → EReal) (he : ∀ y : Fin m, e y = ent P σ n y) (hex : ∃ y : Fin m, P (n + y))
    (mp : EReal) (hmp : mp = ⊥ ∨ ∃ μ : ℝ, mp = μ) : ∃ μ : ℝ, max mp ((Finset.univ : Finset (Fin m)).fold max ⊥ e) = μ := by
  have hs : (Finset.univ : Finset (Fin m)).fold max ⊥ e = Finset.univ.sup e := rfl
  obtain ⟨y, hy⟩ := hex
  have hb : (Finset.univ.sup e) ≠ ⊥ := fun h => by
    have := Finset.le_sup (f := e) (Finset.mem_univ y)
    rw [h, he, ent, if_pos hy] at this
    exact absurd (le_bot_iff.1 this) (EReal.coe_ne_bot _)
  have ht : Finset.univ.sup e < ⊤ := by
    rw [Finset.sup_lt_iff bot_lt_top]
    intro y _
    rw [he, ent]
    split
    · exact EReal.coe_lt_top _
    · exact bot_lt_top
  have h1 : max mp (Finset.univ.sup e) ≠ ⊥ := fun h => hb (le_bot_iff.1 (h ▸ le_max_right _ _))
  have h2 : max mp (Finset.univ.sup e) ≠ ⊤ := by
    refine ne_of_lt (max_lt ?_ ht)
    rcases hmp with rfl | ⟨μ, rfl⟩
    · exact bot_lt_top
    · exact EReal.coe_lt_top _
  exact ⟨_, (EReal.coe_toReal h2 h1).symm⟩

/-- One block: the rescaled sum so far and the block's own make the sum under the new maximum. -/
theorem step (n m : ℕ) (μ' : ℝ) (mp acc : EReal) (h : (n = 0 ∧ mp = ⊥) ∨ ∃ μ : ℝ, mp = μ ∧ acc = (S P σ v n μ : ℝ))
    (e w : Fin m → EReal) (he : ∀ y : Fin m, e y = ent P σ n y) (hw : ∀ y : Fin m, w y = ((v (n + y) : ℝ) : EReal)) :
    Ideal.exp2 (mp - (μ' : EReal)) * acc + ∑ y : Fin m, w y * Ideal.exp2 (e y - (μ' : EReal)) = ((S P σ v (n + m) μ' : ℝ) : EReal) := by
  have hy : ∀ y : Fin m, w y * Ideal.exp2 (e y - (μ' : EReal)) = ((v (n + y) * wt P σ μ' (n + y) : ℝ) : EReal) := fun y => by
    rw [he, hw, ent, wt]
    split
    · rw [exp2_sub_coe, ← EReal.coe_mul]
    · rw [exp2_bot_sub, mul_zero, mul_zero]; rfl
  rw [S_grow, EReal.coe_add, coe_sum, Finset.sum_congr rfl fun y _ => hy y]
  congr 1
  rcases h with ⟨rfl, rfl⟩ | ⟨μ, rfl, rfl⟩
  · rw [exp2_bot_sub, zero_mul]; simp [S]
  · rw [exp2_sub_coe, ← EReal.coe_mul, S_shift P σ v n μ μ']

/-- The weighted mean of the first `n` keys that the mask lets through. -/
def mean (n : ℕ) : ℝ := S P σ v n 0 / S P σ (fun _ => 1) n 0

theorem S_one_pos (n : ℕ) (μ : ℝ) (hex : ∃ y < n, P y) : 0 < S P σ (fun _ => 1) n μ := by
  obtain ⟨y, hy, hP⟩ := hex
  have h0 : ∀ y, 0 ≤ (1 : ℝ) * wt P σ μ y := fun y => by
    rw [one_mul, wt]; split
    · exact (Real.rpow_pos_of_pos (by norm_num) _).le
    · exact le_refl _
  refine Finset.sum_pos' (fun y _ => h0 y) ⟨y, Finset.mem_range.2 hy, ?_⟩
  rw [one_mul, wt, if_pos hP]
  exact Real.rpow_pos_of_pos (by norm_num) _

/-- The quotient of the sums under any maximum. -/
theorem S_div (n : ℕ) (μ : ℝ) (hex : ∃ y < n, P y) :
    Ideal.div ((S P σ v n μ : ℝ) : EReal) ((S P σ (fun _ => 1) n μ : ℝ) : EReal) = ((mean P σ v n : ℝ) : EReal) := by
  have hp := S_one_pos P σ n μ hex
  rw [Ideal.div_coe hp.ne', ← EReal.coe_mul]
  congr 1
  have h2 : (0 : ℝ) < (2 : ℝ) ^ (0 - μ) := Real.rpow_pos_of_pos (by norm_num) _
  rw [mean, S_shift P σ v n 0 μ, S_shift P σ (fun _ => 1) n 0 μ]
  have hq := S_one_pos P σ n 0 hex
  field_simp

/-! ## The same weights by the natural exponential -/

theorem exp_sub_ent (s : ℕ → ℝ) (hs : ∀ y, s y = σ y * Real.log 2) (M : ℝ) (y : ℕ) (e : EReal) (he : e = ent P s 0 y) :
    Ideal.exp (e - (M : EReal)) = ((wt P σ (M / Real.log 2) y : ℝ) : EReal) := by
  have hl : (0 : ℝ) < Real.log 2 := Real.log_pos (by norm_num)
  rw [he, ent, Nat.zero_add, wt]
  split
  · rw [← EReal.coe_sub, Ideal.exp_coe, Real.rpow_def_of_pos (by norm_num : (0 : ℝ) < 2), hs]
    congr 2
    field_simp
  · rw [sub_eq_add_neg, EReal.bot_add]; rfl

/-- One entry of the softmax of a masked row. -/
theorem soft (s : ℕ → ℝ) (hs : ∀ y, s y = σ y * Real.log 2) (n : ℕ) (M : ℝ) (hex : ∃ y < n, P y) (e : Fin n → EReal)
    (he : ∀ y : Fin n, e y = ent P s 0 y) (y : Fin n) :
    Ideal.div (Ideal.exp (e y - (M : EReal))) (∑ k : Fin n, Ideal.exp (e k - (M : EReal)))
      = ((wt P σ (M / Real.log 2) y / S P σ (fun _ => 1) n (M / Real.log 2) : ℝ) : EReal) := by
  have hp := S_one_pos P σ n (M / Real.log 2) hex
  rw [exp_sub_ent P σ s hs M y _ (he y), Finset.sum_congr rfl fun (k : Fin n) _ => exp_sub_ent P σ s hs M k _ (he k), ← coe_sum]
  have : (∑ k : Fin n, wt P σ (M / Real.log 2) k) = S P σ (fun _ => 1) n (M / Real.log 2) := by
    unfold S
    rw [Finset.sum_range fun y => (1 : ℝ) * wt P σ (M / Real.log 2) y]
    simp
  rw [this, Ideal.div_coe hp.ne', ← EReal.coe_mul, mul_one_div]

theorem sum_mean (n : ℕ) (μ : ℝ) (hex : ∃ y < n, P y) :
    ∑ y : Fin n, v y * (wt P σ μ y / S P σ (fun _ => 1) n μ) = mean P σ v n := by
  have h := S_div P σ v n μ hex
  have hp := S_one_pos P σ n μ hex
  rw [Ideal.div_coe hp.ne', ← EReal.coe_mul, EReal.coe_eq_coe_iff] at h
  rw [← h]
  conv_rhs => rw [S, Finset.sum_range fun y => v y * wt P σ μ y, Finset.sum_mul]
  exact Finset.sum_congr rfl fun y _ => by rw [div_eq_mul_inv, one_div, mul_assoc]

/-- The values weighted by the difference of two softmax rows. -/
theorem sum_mix (σ' : ℕ → ℝ) (n : ℕ) (μ μ' lam : ℝ) (hex : ∃ y < n, P y) :
    ∑ y : Fin n, ((v y : ℝ) : EReal) * (((wt P σ μ y / S P σ (fun _ => 1) n μ : ℝ) : EReal) - (lam : EReal) * ((wt P σ' μ' y / S P σ' (fun _ => 1) n μ' : ℝ) : EReal))
      = ((mean P σ v n : ℝ) : EReal) - (lam : EReal) * ((mean P σ' v n : ℝ) : EReal) := by
  rw [← sum_mean P σ v n μ hex, ← sum_mean P σ' v n μ' hex]
  simp only [← EReal.coe_mul, ← EReal.coe_sub]
  rw [← coe_sum]
  congr 1
  rw [Finset.mul_sum, ← Finset.sum_sub_distrib]
  exact Finset.sum_congr rfl fun y _ => by ring

/-- Root-mean-square normalisation of a column, its gain and the constant factor. -/
def rmsE (o : Fin 128 → EReal) (g : EReal) (e : Fin 128) : EReal :=
  o e * Ideal.rsqrt (Ideal.div (∑ d, o d * o d) (Ideal.ofBits .f32 0x43000000#32) + Ideal.ofBits .f32 0x3727C5AC#32) * g * Ideal.ofBits .f32 0x3F4CCCCD#32

end Cert.Proof.Softmax

end
-- ==== Proof.RefVal.lean ====
/- What the reference computes, entry by entry. -/
module

public import proofs.«01_k».proof.Defs
public import proofs.«01_k».proof.Proof.Softmax
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.Proof.RefVal

open Cert.ReferenceIdeal Cert.ReferenceIdeal.Gen Cert.ReferenceIdeal.Read Cert.Proof.Softmax
open Idealize.ShloMosaic Idealize.ShloMosaic.TcCoe

theorem ofBits_negInf : Ideal.ofBits .f32 0xFF800000#32 = ⊥ := by simp [Ideal.ofBits, Ideal.ieee]

theorem score_apply (x0 x1 : FVec Ideal S1x16384x8x2x64 .f32) (h : Fin 8) (c : Fin 2) (X Y : Fin 16384) :
    val_main_v14 (F := Ideal) x0 x1 (ix5 (0 : Fin 1) h c X Y) = ∑ d : Fin 64, x0 (ix5 (0 : Fin 1) X h c d) * Ideal.ofBits .f32 0x3E000000#32 * x1 (ix5 (0 : Fin 1) Y h c d) := by
  pointwise [val_main_v14, val_main_v1, val_main_v0, val_main_cst]

/-- Division by 64 rounded down, as the host computes it. -/
def fdiv (a : BitVec 32) : BitVec 32 :=
  Scalar.select
    (IntOp.andi
      (IntOp.cmpi CmpIPredicate.ne ((if a = 0 then 0 else if a.msb = true then -1 else 1) : BitVec 32) ((if (64#32 : BitVec 32) = 0 then 0 else if BitVec.msb (64#32 : BitVec 32) = true then -1 else 1) : BitVec 32))
      (IntOp.cmpi CmpIPredicate.ne (IntOp.remsi ArithUnit.host a 64#32) 0#32))
    (IntOp.subi (IntOp.divsi ArithUnit.host a 64#32) 1#32)
    (IntOp.divsi ArithUnit.host a 64#32)

theorem msb_small (a : Fin 16384) : (BitVec.ofNat 32 a.val).msb = false := by
  rw [BitVec.msb_eq_false_iff_two_mul_lt, BitVec.toNat_ofNat]; omega

theorem div_small (a : Fin 16384) : IntOp.divsi ArithUnit.host (BitVec.ofNat 32 a.val) 64#32 = BitVec.ofNat 32 (a.val / 64) := by
  rw [IntOp.divsi, if_neg, BitVec.sdiv_eq, msb_small, show (64#32 : BitVec 32).msb = false from rfl]
  · apply BitVec.eq_of_toNat_eq
    simp
    omega
  · rintro (h | ⟨h, h'⟩)
    · exact absurd h (by decide)
    · exact absurd h' (by decide)

theorem rem_small (a : Fin 16384) : IntOp.remsi ArithUnit.host (BitVec.ofNat 32 a.val) 64#32 = BitVec.ofNat 32 (a.val % 64) := by
  rw [IntOp.remsi, if_neg, BitVec.srem_eq, msb_small, show (64#32 : BitVec 32).msb = false from rfl]
  · apply BitVec.eq_of_toNat_eq
    simp
    omega
  · rintro (h | ⟨h, h'⟩)
    · exact absurd h (by decide)
    · exact absurd h' (by decide)

theorem fdiv_eq (a : Fin 16384) : fdiv (BitVec.ofNat 32 a.val) = BitVec.ofNat 32 (a.val / 64) := by
  rw [fdiv, div_small, rem_small, msb_small]
  by_cases h : BitVec.ofNat 32 a.val = 0
  · have h0 : a.val = 0 := by
      have := congrArg BitVec.toNat h
      simp at this
      omega
    rw [h0]; decide
  · rw [if_neg h]
    have : IntOp.cmpi CmpIPredicate.ne ((if false = true then -1 else 1) : BitVec 32) ((if (64#32 : BitVec 32) = 0 then 0 else if BitVec.msb (64#32 : BitVec 32) = true then -1 else 1) : BitVec 32) = 0#1 := by decide
    rw [this]
    have h0 : ∀ b : BitVec 1, IntOp.andi 0#1 b = 0#1 := by decide
    rw [h0]
    rfl

theorem chunk_apply (X : Fin 16384) : val_main_v16 (F := Ideal) (ix1 X) = BitVec.ofNat 32 (X.val / 64) := by
  rw [← fdiv_eq]
  have h15 : val_main_v15 (F := Ideal) (ix1 X) = BitVec.ofNat 32 X.val := rfl
  rw [val_main_v16_apply, val_main_call0_v11_apply, val_main_call0_v6_apply, val_main_call0_v10_apply, val_main_call0_v13_apply, val_main_call0_v8_apply, val_main_call0_v2_apply,
    val_main_call0_v1_apply, val_main_call0_v5_apply, val_main_call0_v7_apply, val_main_call0_v9_apply, val_main_call0_v12_apply]
  unfold val_main_call0_v3 val_main_call0_v4
  generalize val_main_v15 (F := Ideal) = y at *
  subst_eqs
  simp only [fdiv, ← h15]
  rfl

theorem le_chunk (a b : Fin 256) : IntOp.cmpi CmpIPredicate.sle (BitVec.ofNat 32 a.val) (BitVec.ofNat 32 b.val) = if a.val ≤ b.val then 1#1 else 0#1 := by
  have ha : (BitVec.ofNat 32 a.val).toInt = (a.val : Int) := by rw [BitVec.toInt_eq_toNat_of_lt] <;> simp <;> omega
  have hb : (BitVec.ofNat 32 b.val).toInt = (b.val : Int) := by rw [BitVec.toInt_eq_toNat_of_lt] <;> simp <;> omega
  simp [IntOp.cmpi, BitVec.sle, ha, hb]
  by_cases h : a ≤ b <;> simp [h]

theorem masked_apply (x0 x1 : FVec Ideal S1x16384x8x2x64 .f32) (h : Fin 8) (c : Fin 2) (X Y : Fin 16384) :
    val_main_v22 (F := Ideal) x0 x1 (ix5 (0 : Fin 1) h c X Y) = if Y.val / 64 ≤ X.val / 64 then val_main_v14 (F := Ideal) x0 x1 (ix5 (0 : Fin 1) h c X Y) else ⊥ := by
  have hY : val_main_v19 (F := Ideal) (ix2 X Y) = BitVec.ofNat 32 (Y.val / 64) := by
    rw [val_main_v19_apply, val_main_v17_apply, ← chunk_apply]
    congr 1; funext a; apply Fin.ext
    match a with
    | ⟨0, _⟩ => rfl
  have hX : val_main_v20 (F := Ideal) (ix2 X Y) = BitVec.ofNat 32 (X.val / 64) := by
    rw [val_main_v20_apply, val_main_v18_apply, ← chunk_apply]
    congr 1; funext a; apply Fin.ext
    match a with
    | ⟨0, _⟩ => rfl
  have hi : idx_main_call1_v1 (ix5 (0 : Fin 1) h c X Y) = ix2 X Y := by
    funext a; apply Fin.ext
    match a with
    | ⟨0, _⟩ => rfl
    | ⟨1, _⟩ => rfl
  have hn : val_main_call1_v2 (F := Ideal) (ix5 (0 : Fin 1) h c X Y) = ⊥ := by
    rw [val_main_call1_v2_apply]; exact ofBits_negInf
  rw [val_main_v22_apply, val_main_call1_v1_apply, hi, val_main_v21_apply, hX, hY, hn]
  have := le_chunk ⟨Y.val / 64, by omega⟩ ⟨X.val / 64, by omega⟩
  simp only at this
  rw [this]
  split
  · rfl
  · rfl

theorem rowMax_apply {n0 n1 n2 n3 n4 : ℕ} (x : FVec Ideal ⟨5, ![n0, n1, n2, n3, n4]⟩ .f32) (v : FVec Ideal S_ .f32)
    (h : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce FloatOps.maximumf x v h hu (ix4 a b c d) = (Finset.univ : Finset (Fin n4)).fold max (v ix0) fun k => x (ix5 a b c d k) := by
  pointwise
  rw [show Shape.Idx.first hu = ix0 from funext fun a => a.elim0]

theorem max_apply (x0 x1 : FVec Ideal S1x16384x8x2x64 .f32) (h : Fin 8) (c : Fin 2) (X : Fin 16384) :
    val_main_v25 (F := Ideal) x0 x1 (ix4 (0 : Fin 1) h c X) = max ⊥ ((Finset.univ : Finset (Fin 16384)).fold max ⊥ fun Y => val_main_v22 (F := Ideal) x0 x1 (ix5 (0 : Fin 1) h c X Y)) := by
  have e := rowMax_apply (val_main_v22 (F := Ideal) x0 x1) (val_main_cst_4 (F := Ideal)) reducesTo_S1x8x2x16384x16384_S1x8x2x16384_d4 h_S_ (0 : Fin 1) h c X
  have hc : val_main_cst_4 (F := Ideal) ix0 = ⊥ := ofBits_negInf
  rw [hc] at e
  have hv : val_main_v25 (F := Ideal) x0 x1 (ix4 (0 : Fin 1) h c X) = max (Ideal.ofBits .f32 0xFF800000#32) (val_main_v23 (F := Ideal) x0 x1 (ix4 (0 : Fin 1) h c X)) := by
    rw [val_main_v25_apply, val_main_v24_apply]; rfl
  rw [hv, ofBits_negInf, val_main_v23, e]

theorem soft_apply (x0 x1 : FVec Ideal S1x16384x8x2x64 .f32) (h : Fin 8) (c : Fin 2) (X Y : Fin 16384) :
    val_main_v33 (F := Ideal) x0 x1 (ix5 (0 : Fin 1) h c X Y)
      = Ideal.div (Ideal.exp (val_main_v22 (F := Ideal) x0 x1 (ix5 (0 : Fin 1) h c X Y) - val_main_v25 (F := Ideal) x0 x1 (ix4 (0 : Fin 1) h c X)))
        (∑ k : Fin 16384, Ideal.exp (val_main_v22 (F := Ideal) x0 x1 (ix5 (0 : Fin 1) h c X k) - val_main_v25 (F := Ideal) x0 x1 (ix4 (0 : Fin 1) h c X))) := by
  have h29 : ∀ k, val_main_v29 (F := Ideal) x0 x1 (ix5 (0 : Fin 1) h c X k) = Ideal.exp (val_main_v22 (F := Ideal) x0 x1 (ix5 (0 : Fin 1) h c X k) - val_main_v25 (F := Ideal) x0 x1 (ix4 (0 : Fin 1) h c X)) := by
    intro k
    pointwise [val_main_v29, val_main_v28, val_main_v27, val_main_v26]
  have h33 : val_main_v33 (F := Ideal) x0 x1 (ix5 (0 : Fin 1) h c X Y) = Ideal.div (val_main_v29 (F := Ideal) x0 x1 (ix5 (0 : Fin 1) h c X Y)) (val_main_v30 (F := Ideal) x0 x1 (ix4 (0 : Fin 1) h c X)) := by
    pointwise [val_main_v33, val_main_v32, val_main_v31]
  have hi : ∀ k, idx_main_v30 (ix4 (0 : Fin 1) h c X) k = ix5 (0 : Fin 1) h c X k := fun k => funext fun a => Fin.ext (by
    match a with
    | ⟨0, _⟩ => rfl
    | ⟨1, _⟩ => rfl
    | ⟨2, _⟩ => rfl
    | ⟨3, _⟩ => rfl
    | ⟨4, _⟩ => rfl)
  have h30 := val_main_v30_apply x0 x1 (ix4 (0 : Fin 1) h c X)
  have hz : val_main_cst_6 (F := Ideal) (Shape.Idx.first h_S_) = 0 := Ideal.ofBits_zero_f32
  rw [hz, zero_add] at h30
  rw [h33, h29, h30]
  refine congrArg _ (Finset.sum_congr rfl fun k _ => ?_)
  rw [hi, h29]

/-- The mixing weight. -/
def lamR (x3 x4 x5 x6 : FVec Ideal S1x64 .f32) : EReal :=
  Ideal.exp (∑ d : Fin 64, x3 (ix2 (0 : Fin 1) d) * x4 (ix2 (0 : Fin 1) d)) - Ideal.exp (∑ d : Fin 64, x5 (ix2 (0 : Fin 1) d) * x6 (ix2 (0 : Fin 1) d))
    + Ideal.ofBits .f32 0x3E4CCCCD#32

theorem lamR_apply (x3 x4 x5 x6 : FVec Ideal S1x64 .f32) : val_main_v13 (F := Ideal) x3 x4 x5 x6 ix0 = lamR x3 x4 x5 x6 := by
  pointwise [val_main_v13, val_main_v12, val_main_v11, val_main_v10, val_main_v9, val_main_v8, val_main_v7, val_main_v6, val_main_v5, val_main_v4, val_main_v3, val_main_v2, val_main_cst_0, val_main_cst_1, val_main_cst_2, lamR]

variable (x0 x1 : FVec Ideal S1x16384x8x2x64 .f32) (x2 : FVec Ideal S1x16384x8x128 .f32) (x3 x4 x5 x6 : FVec Ideal S1x64 .f32) (x7 : FVec Ideal S1x128 .f32)

theorem mix_apply (h : Fin 8) (e : Fin 128) (X : Fin 16384) :
    val_main_v42 (F := Ideal) x0 x1 x2 x3 x4 x5 x6 (ix4 (0 : Fin 1) X h e)
      = ∑ Y : Fin 16384, x2 (ix4 (0 : Fin 1) Y h e) * (val_main_v33 (F := Ideal) x0 x1 (ix5 (0 : Fin 1) h (0 : Fin 2) X Y) - lamR x3 x4 x5 x6 * val_main_v33 (F := Ideal) x0 x1 (ix5 (0 : Fin 1) h (1 : Fin 2) X Y)) := by
  have h40 : ∀ Y : Fin 16384, val_main_v40 (F := Ideal) x0 x1 x3 x4 x5 x6 (ix4 (0 : Fin 1) h X Y)
      = val_main_v33 (F := Ideal) x0 x1 (ix5 (0 : Fin 1) h (0 : Fin 2) X Y) - lamR x3 x4 x5 x6 * val_main_v33 (F := Ideal) x0 x1 (ix5 (0 : Fin 1) h (1 : Fin 2) X Y) := by
    intro Y
    have h0 : val_main_v35 (F := Ideal) x0 x1 (ix4 (0 : Fin 1) h X Y) = val_main_v33 (F := Ideal) x0 x1 (ix5 (0 : Fin 1) h (0 : Fin 2) X Y) := by
      rw [val_main_v35_apply, val_main_v34_apply]
      refine congrArg (val_main_v33 (F := Ideal) x0 x1) (funext fun a => Fin.ext ?_)
      match a with
      | ⟨0, _⟩ => rfl
      | ⟨1, _⟩ => show (((0 * 8 + h.val) * 16384 + X.val) * 16384 + Y.val) / 268435456 % 8 = h.val; omega
      | ⟨2, _⟩ => rfl
      | ⟨3, _⟩ => show (((0 * 8 + h.val) * 16384 + X.val) * 16384 + Y.val) / 16384 % 16384 = X.val; omega
      | ⟨4, _⟩ => show (((0 * 8 + h.val) * 16384 + X.val) * 16384 + Y.val) % 16384 = Y.val; omega
    have h1 : val_main_v37 (F := Ideal) x0 x1 (ix4 (0 : Fin 1) h X Y) = val_main_v33 (F := Ideal) x0 x1 (ix5 (0 : Fin 1) h (1 : Fin 2) X Y) := by
      rw [val_main_v37_apply, val_main_v36_apply]
      refine congrArg (val_main_v33 (F := Ideal) x0 x1) (funext fun a => Fin.ext ?_)
      match a with
      | ⟨0, _⟩ => rfl
      | ⟨1, _⟩ => show (((0 * 8 + h.val) * 16384 + X.val) * 16384 + Y.val) / 268435456 % 8 = h.val; omega
      | ⟨2, _⟩ => rfl
      | ⟨3, _⟩ => show (((0 * 8 + h.val) * 16384 + X.val) * 16384 + Y.val) / 16384 % 16384 = X.val; omega
      | ⟨4, _⟩ => show (((0 * 8 + h.val) * 16384 + X.val) * 16384 + Y.val) % 16384 = Y.val; omega
    have hi : idx_main_v38 (ix4 (0 : Fin 1) h X Y) = ix0 := funext fun a => a.elim0
    rw [val_main_v40_apply, val_main_v39_apply, val_main_v38_apply, h0, h1, hi, lamR_apply]
    rfl
  have h42 : val_main_v42 (F := Ideal) x0 x1 x2 x3 x4 x5 x6 (ix4 (0 : Fin 1) X h e) = val_main_v41 (F := Ideal) x0 x1 x2 x3 x4 x5 x6 (ix4 (0 : Fin 1) h e X) := by
    rw [val_main_v42_apply]
    refine congrArg (val_main_v41 (F := Ideal) x0 x1 x2 x3 x4 x5 x6) (funext fun a => Fin.ext ?_)
    match a with
    | ⟨0, _⟩ => rfl
    | ⟨1, _⟩ => rfl
    | ⟨2, _⟩ => rfl
    | ⟨3, _⟩ => rfl
  have hl : ∀ k, lidx_main_v41 (ix4 (0 : Fin 1) h e X) k = ix4 (0 : Fin 1) k h e := fun k => funext fun a => Fin.ext (by
    match a with
    | ⟨0, _⟩ => rfl
    | ⟨1, _⟩ => rfl
    | ⟨2, _⟩ => rfl
    | ⟨3, _⟩ => rfl)
  have hr : ∀ k, ridx_main_v41 (ix4 (0 : Fin 1) h e X) k = ix4 (0 : Fin 1) h X k := fun k => funext fun a => Fin.ext (by
    match a with
    | ⟨0, _⟩ => rfl
    | ⟨1, _⟩ => rfl
    | ⟨2, _⟩ => rfl
    | ⟨3, _⟩ => rfl)
  rw [h42, val_main_v41_apply]
  refine Finset.sum_congr rfl fun k _ => ?_
  rw [hl, hr, h40]

theorem out_apply (r : Fin 1024) (X : Fin 16384) :
    val_main_v61 (F := Ideal) x0 x1 x2 x3 x4 x5 x6 x7 (ix2 r X)
      = rmsE (fun e => val_main_v42 (F := Ideal) x0 x1 x2 x3 x4 x5 x6 (ix4 (0 : Fin 1) X (⟨r.val / 128, by omega⟩ : Fin 8) e))
          (x7 (ix2 (0 : Fin 1) (⟨r.val % 128, by omega⟩ : Fin 128))) (⟨r.val % 128, by omega⟩ : Fin 128) := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_7, val_main_cst_8, val_main_cst_9, val_main_cst_10, rmsE]

/-! ## Real arguments -/

theorem ofBits_eighth : Ideal.ofBits .f32 0x3E000000#32 = ((1 / 8 : ℝ) : EReal) := by
  simp [Ideal.ofBits, Ideal.ieee]
  rw [← EReal.coe_mul]; norm_num

/-- The score of a query and a key, over real arguments. -/
def sc (q k : S1x16384x8x2x64.Idx → ℝ) (h : Fin 8) (c : Fin 2) (X : Fin 16384) (y : ℕ) : ℝ :=
  if hy : y < 16384 then ∑ d : Fin 64, q (ix5 (0 : Fin 1) X h c d) * (1 / 8) * k (ix5 (0 : Fin 1) (⟨y, hy⟩ : Fin 16384) h c d) else 0

/-- A row of the values. -/
def vr (v : S1x16384x8x128.Idx → ℝ) (h : Fin 8) (e : Fin 128) (y : ℕ) : ℝ :=
  if hy : y < 16384 then v (ix4 (0 : Fin 1) (⟨y, hy⟩ : Fin 16384) h e) else 0

/-- The keys a query sees: those of its own chunk of 64 and of the chunks before. -/
def sees (X : Fin 16384) : ℕ → Prop := fun y => y / 64 ≤ X.val / 64

instance (X : Fin 16384) : DecidablePred (sees X) := fun y => inferInstanceAs (Decidable (y / 64 ≤ X.val / 64))

/-- The two attentions and their mixture. -/
def att (q k : S1x16384x8x2x64.Idx → ℝ) (v : S1x16384x8x128.Idx → ℝ) (h : Fin 8) (c : Fin 2) (X : Fin 16384) (e : Fin 128) : ℝ :=
  mean (sees X) (fun y => sc q k h c X y / Real.log 2) (vr v h e) 16384

theorem soft_real (x0 x1 : FVec Ideal S1x16384x8x2x64 .f32) (q k : S1x16384x8x2x64.Idx → ℝ) (h0 : ∀ i, x0 i = ((q i : ℝ) : EReal)) (h1 : ∀ i, x1 i = ((k i : ℝ) : EReal))
    (h : Fin 8) (c : Fin 2) (X : Fin 16384) : ∃ μ : ℝ, ∀ Y : Fin 16384, val_main_v33 (F := Ideal) x0 x1 (ix5 (0 : Fin 1) h c X Y)
      = ((wt (sees X) (fun y => sc q k h c X y / Real.log 2) μ Y / S (sees X) (fun y => sc q k h c X y / Real.log 2) (fun _ => 1) 16384 μ : ℝ) : EReal) := by
  have hl : (0 : ℝ) < Real.log 2 := Real.log_pos (by norm_num)
  have hv : ∀ Y : Fin 16384, val_main_v22 (F := Ideal) x0 x1 (ix5 (0 : Fin 1) h c X Y) = ent (sees X) (sc q k h c X) 0 Y := by
    intro Y
    rw [masked_apply, score_apply, ent, Nat.zero_add]
    refine if_congr Iff.rfl ?_ rfl
    rw [sc, dif_pos Y.isLt, coe_sum]
    refine Finset.sum_congr rfl fun d _ => ?_
    rw [h0, h1, ofBits_eighth, ← EReal.coe_mul, ← EReal.coe_mul]
  have hX : sees X X.val := le_refl _
  obtain ⟨M, hM⟩ := max_real (sees X) (sc q k h c X) 0 16384 (fun Y => val_main_v22 (F := Ideal) x0 x1 (ix5 (0 : Fin 1) h c X Y)) hv
    ⟨X, by rw [Nat.zero_add]; exact hX⟩ ⊥ (Or.inl rfl)
  refine ⟨M / Real.log 2, fun Y => ?_⟩
  have h25 := (max_apply x0 x1 h c X).trans hM
  rw [soft_apply, h25]
  exact soft (sees X) (fun y => sc q k h c X y / Real.log 2) (sc q k h c X) (fun y => by field_simp) 16384 M ⟨X.val, X.isLt, hX⟩
    (fun Y => val_main_v22 (F := Ideal) x0 x1 (ix5 (0 : Fin 1) h c X Y)) hv Y

/-- The reference's result, where queries, keys, values and the mixing weight are real. -/
theorem ref_real (x0 x1 : FVec Ideal S1x16384x8x2x64 .f32) (x2 : FVec Ideal S1x16384x8x128 .f32) (x3 x4 x5 x6 : FVec Ideal S1x64 .f32) (x7 : FVec Ideal S1x128 .f32)
    (q k : S1x16384x8x2x64.Idx → ℝ) (v : S1x16384x8x128.Idx → ℝ) (lam : ℝ) (h0 : ∀ i, x0 i = ((q i : ℝ) : EReal)) (h1 : ∀ i, x1 i = ((k i : ℝ) : EReal))
    (h2 : ∀ i, x2 i = ((v i : ℝ) : EReal)) (hlam : lamR x3 x4 x5 x6 = (lam : EReal)) (r : Fin 1024) (X : Fin 16384) :
    val_main_v61 (F := Ideal) x0 x1 x2 x3 x4 x5 x6 x7 (ix2 r X)
      = rmsE (fun e => ((att q k v (⟨r.val / 128, by omega⟩ : Fin 8) 0 X e : ℝ) : EReal) - lamR x3 x4 x5 x6 * ((att q k v (⟨r.val / 128, by omega⟩ : Fin 8) 1 X e : ℝ) : EReal))
          (x7 (ix2 (0 : Fin 1) (⟨r.val % 128, by omega⟩ : Fin 128))) (⟨r.val % 128, by omega⟩ : Fin 128) := by
  rw [out_apply]
  refine congrArg (fun o => rmsE o _ _) (funext fun e => ?_)
  generalize (⟨r.val / 128, by omega⟩ : Fin 8) = h
  obtain ⟨μ, hμ⟩ := soft_real x0 x1 q k h0 h1 h 0 X
  obtain ⟨μ', hμ'⟩ := soft_real x0 x1 q k h0 h1 h 1 X
  rw [mix_apply, hlam, att, att, ← sum_mix (sees X) (fun y => sc q k h 0 X y / Real.log 2) (vr v h e) (fun y => sc q k h 1 X y / Real.log 2) 16384 μ μ' lam ⟨X.val, X.isLt, le_refl _⟩]
  refine Finset.sum_congr rfl fun Y _ => ?_
  rw [hμ, hμ', h2, vr, dif_pos Y.isLt]

end Cert.Proof.RefVal

end
-- ==== Proof.KernelIdeal.Host.lean ====
/- What the kernel's launch finds in its arrays: the host operations before it, read entry by entry, and each window's
   block at each point. -/
module

public import proofs.«01_k».proof.Proof.Gen.KernelIdeal.Frame
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.KernelIdeal.Host

open Cert.KernelIdeal Cert.KernelIdeal.Gen
open Idealize.ShloMosaic Idealize.ShloMosaic.TcCoe Idealize.SL

variable (m : (ℓ : Loc nD τ sig) → Buf (Elt Ideal) ℓ) (c : Dev nD)

/-! ## The blocks -/

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, t.val, 0] := by decide +kernel
theorem e3 : ∀ t : Fin cfg0.N, win0_3.index t = ![0, t.val] := by decide +kernel
theorem e4 : ∀ t : Fin cfg0.N, win0_4.index t = ![t.val, 0] := by decide +kernel
theorem lt8 (t : Fin cfg0.N) : t.val < 8 := lt_of_lt_of_eq t.isLt N_0

theorem r0 (x : main_v28.ty.Contents (Elt Ideal)) (t : Fin cfg0.N) (a : Fin 4) (d : Fin 64) :
    ((cfg0.win 0).blk t).view.read (Elt Ideal) x (ix2 a d) = x (ix2 a d) := by
  blk_simp
  blk_ext [e0]

theorem r1 (x : main_v29.ty.Contents (Elt Ideal)) (t : Fin cfg0.N) (e : Fin 128) :
    ((cfg0.win 1).blk t).view.read (Elt Ideal) x (ix2 e (0 : Fin 1)) = x (ix2 e (0 : Fin 1)) := by
  blk_simp
  blk_ext [e1]

theorem r2 (x : main_v17.ty.Contents (Elt Ideal)) (t : Fin cfg0.N) (k : Fin 2) (d : Fin 128) (X : Fin 16384) :
    ((cfg0.win 2).blk t).view.read (Elt Ideal) x (ix3 k d X) = x (ix3 k (⟨t.val * 128 + d.val, by have := lt8 t; omega⟩ : Fin 1024) X) := by
  blk_simp
  blk_ext [e2]

theorem r3 (x : main_v19.ty.Contents (Elt Ideal)) (t : Fin cfg0.N) (d : Fin 128) (Y : Fin 16384) :
    ((cfg0.win 3).blk t).view.read (Elt Ideal) x (ix2 Y d) = x (ix2 Y (⟨t.val * 128 + d.val, by have := lt8 t; omega⟩ : Fin 1024)) := by
  blk_simp
  blk_ext [e3]

theorem r4 (x : main_v27.ty.Contents (Elt Ideal)) (t : Fin cfg0.N) (e : Fin 144) (Y : Fin 16384) :
    ((cfg0.win 4).blk t).view.read (Elt Ideal) x (ix2 e Y) = x (ix2 (⟨t.val * 144 + e.val, by have := lt8 t; omega⟩ : Fin 1152) Y) := by
  blk_simp
  blk_ext [e4]

theorem b0 (t : Fin cfg0.N) (a : Fin 4) (d : Fin 64) : iblk m c 0 t (ix2 a d) = V m c main_v28 (ix2 a d) := r0 (V m c main_v28) t a d
theorem b1 (t : Fin cfg0.N) (e : Fin 128) : iblk m c 1 t (ix2 e (0 : Fin 1)) = V m c main_v29 (ix2 e (0 : Fin 1)) := r1 (V m c main_v29) t e
theorem b2 (t : Fin cfg0.N) (k : Fin 2) (d : Fin 128) (X : Fin 16384) :
    iblk m c 2 t (ix3 k d X) = V m c main_v17 (ix3 k (⟨t.val * 128 + d.val, by have := lt8 t; omega⟩ : Fin 1024) X) := r2 (V m c main_v17) t k d X
theorem b3 (t : Fin cfg0.N) (d : Fin 128) (Y : Fin 16384) :
    iblk m c 3 t (ix2 Y d) = V m c main_v19 (ix2 Y (⟨t.val * 128 + d.val, by have := lt8 t; omega⟩ : Fin 1024)) := r3 (V m c main_v19) t d Y
theorem b4 (t : Fin cfg0.N) (e : Fin 144) (Y : Fin 16384) :
    iblk m c 4 t (ix2 e Y) = V m c main_v27 (ix2 (⟨t.val * 144 + e.val, by have := lt8 t; omega⟩ : Fin 1152) Y) := r4 (V m c main_v27) t e Y

/-! ## The small operands and the keys -/

theorem k_apply (Y : Fin 16384) (r : Fin 1024) : V m c main_v19 (ix2 Y r)
    = m ((c.tc : Thread nD τ).loc main_arg1) (ix5 (0 : Fin 1) Y (⟨r.val / 128, by omega⟩ : Fin 8) (⟨r.val / 64 % 2, by omega⟩ : Fin 2) (⟨r.val % 64, by omega⟩ : Fin 64)) := by
  simp only [V, hostOps0, hostOps0_1, hostOps0_2, hostOps0_3, hostOps0_4, List.flatten_cons, List.flatten_nil, List.append_nil, List.cons_append, List.nil_append]
  entry_read
  generalize m (c, Proc.tc.devRef main_arg1) = x
  pointwise

theorem g_apply (e : Fin 128) : V m c main_v29 (ix2 e (0 : Fin 1)) = m ((c.tc : Thread nD τ).loc main_arg7) (ix2 (0 : Fin 1) e) := by
  simp only [V, hostOps0, hostOps0_1, hostOps0_2, hostOps0_3, hostOps0_4, List.flatten_cons, List.flatten_nil, List.append_nil, List.cons_append, List.nil_append]
  entry_read
  pointwise

theorem l0_apply (d : Fin 64) : V m c main_v28 (ix2 (0 : Fin 4) d) = m ((c.tc : Thread nD τ).loc main_arg3) (ix2 (0 : Fin 1) d) := by
  simp only [V, hostOps0, hostOps0_1, hostOps0_2, hostOps0_3, hostOps0_4, List.flatten_cons, List.flatten_nil, List.append_nil, List.cons_append, List.nil_append]
  entry_read
  pointwise

theorem l1_apply (d : Fin 64) : V m c main_v28 (ix2 (1 : Fin 4) d) = m ((c.tc : Thread nD τ).loc main_arg4) (ix2 (0 : Fin 1) d) := by
  simp only [V, hostOps0, hostOps0_1, hostOps0_2, hostOps0_3, hostOps0_4, List.flatten_cons, List.flatten_nil, List.append_nil, List.cons_append, List.nil_append]
  entry_read
  pointwise

theorem l2_apply (d : Fin 64) : V m c main_v28 (ix2 (2 : Fin 4) d) = m ((c.tc : Thread nD τ).loc main_arg5) (ix2 (0 : Fin 1) d) := by
  simp only [V, hostOps0, hostOps0_1, hostOps0_2, hostOps0_3, hostOps0_4, List.flatten_cons, List.flatten_nil, List.append_nil, List.cons_append, List.nil_append]
  entry_read
  pointwise

theorem l3_apply (d : Fin 64) : V m c main_v28 (ix2 (3 : Fin 4) d) = m ((c.tc : Thread nD τ).loc main_arg6) (ix2 (0 : Fin 1) d) := by
  simp only [V, hostOps0, hostOps0_1, hostOps0_2, hostOps0_3, hostOps0_4, List.flatten_cons, List.flatten_nil, List.append_nil, List.cons_append, List.nil_append]
  entry_read
  pointwise

/-! ## The queries -/

/-- The queries scaled. -/
def q4 (x : FVec Ideal S1x16384x8x2x64 .f32) : FVec Ideal S1x16384x8x2x64 .f32 :=
  Host.divf (mulf x (broadcastInDim S1x16384x8x2x64 ![] bcast_S_S1x16384x8x2x64 (constant S_ .f32 0x3E000000#32)))
    (broadcastInDim S1x16384x8x2x64 ![] bcast_S_S1x16384x8x2x64 (Host.log (constant S_ .f32 0x40000000#32)))

/-- … transposed. -/
def q7 (x : FVec Ideal S1x16384x8x2x64 .f32) : FVec Ideal S8x2x64x16384 .f32 :=
  fun i => shapeCast S8x2x64x16384 (transpose S1024x16384 [1, 0] (fun i => shapeCast S16384x1024 x shapeCasts_S1x16384x8x2x64_S16384x1024 i) transposes_S16384x1024_S1024x16384_1_0) shapeCasts_S1024x16384_S8x2x64x16384 i

/-- … with the second component cleared. -/
def q11 (x : FVec Ideal S8x2x64x16384 .f32) : FVec Ideal S8x2x64x16384 .f32 :=
  select (cmpi CmpIPredicate.eq (iotaInDim S8x2x64x16384 32 1) (broadcastInDim S8x2x64x16384 ![] bcast_S_S8x2x64x16384 (constantI S_ 32 0#32)))
    x (broadcastInDim S8x2x64x16384 ![] bcast_S_S8x2x64x16384 (constant S_ .f32 0#32))

/-- … with the first component cleared. -/
def q12 (x : FVec Ideal S8x2x64x16384 .f32) : FVec Ideal S8x2x64x16384 .f32 :=
  select (cmpi CmpIPredicate.eq (iotaInDim S8x2x64x16384 32 1) (broadcastInDim S8x2x64x16384 ![] bcast_S_S8x2x64x16384 (constantI S_ 32 0#32)))
    (broadcastInDim S8x2x64x16384 ![] bcast_S_S8x2x64x16384 (constant S_ .f32 0#32)) x

/-- The two, one after the other. -/
def q17 (x y : FVec Ideal S8x2x64x16384 .f32) : FVec Ideal S2x1024x16384 .bf16 :=
  truncf FTy.bf16 (fun i => shapeCast S2x1024x16384 (concatenate S2x8x2x64x16384 0
    [⟨S1x8x2x64x16384, broadcastInDim S1x8x2x64x16384 ![1, 2, 3, 4] bcast_S8x2x64x16384_S1x8x2x64x16384_1_2_3_4 x⟩,
     ⟨S1x8x2x64x16384, broadcastInDim S1x8x2x64x16384 ![1, 2, 3, 4] bcast_S8x2x64x16384_S1x8x2x64x16384_1_2_3_4 y⟩]
    concatenates_S1x8x2x64x16384_S1x8x2x64x16384_S2x8x2x64x16384_d0) shapeCasts_S2x8x2x64x16384_S2x1024x16384 i) bitsLt_bf16_f32

theorem q4_apply (x : FVec Ideal S1x16384x8x2x64 .f32) (i : S1x16384x8x2x64.Idx) :
    q4 x i = Ideal.div (x i * Ideal.ofBits .f32 0x3E000000#32) (Ideal.log (Ideal.ofBits .f32 0x40000000#32)) := by
  idx_vars i
  pointwise [q4]

theorem q7_apply (x : FVec Ideal S1x16384x8x2x64 .f32) (h : Fin 8) (c : Fin 2) (d : Fin 64) (X : Fin 16384) :
    q7 x (ix4 h c d X) = x (ix5 (0 : Fin 1) X h c d) := by
  pointwise [q7]
  refine congrArg x (funext fun a => Fin.ext ?_)
  match a with
  | ⟨0, _⟩ => rfl
  | ⟨1, _⟩ => rfl
  | ⟨2, _⟩ => show (h.val * 128 + c.val * 64 + d.val) / 128 = h.val; omega
  | ⟨3, _⟩ => show (h.val * 128 + c.val * 64 + d.val) / 64 % 2 = c.val; omega
  | ⟨4, _⟩ => show (h.val * 128 + c.val * 64 + d.val) % 64 = d.val; omega

theorem q11_apply (x : FVec Ideal S8x2x64x16384 .f32) (h : Fin 8) (c : Fin 2) (d : Fin 64) (X : Fin 16384) :
    q11 x (ix4 h c d X) = if c = 0 then x (ix4 h c d X) else 0 := by
  have e : q11 x (ix4 h c d X) = Scalar.select (IntOp.cmpi CmpIPredicate.eq (BitVec.ofNat 32 c.val) 0#32) (x (ix4 h c d X)) (Ideal.ofBits .f32 0#32) := by
    pointwise [q11]
  rw [e, Ideal.ofBits_zero_f32]
  match c with
  | 0 => rfl
  | 1 => rfl

theorem q12_apply (x : FVec Ideal S8x2x64x16384 .f32) (h : Fin 8) (c : Fin 2) (d : Fin 64) (X : Fin 16384) :
    q12 x (ix4 h c d X) = if c = 1 then x (ix4 h c d X) else 0 := by
  have e : q12 x (ix4 h c d X) = Scalar.select (IntOp.cmpi CmpIPredicate.eq (BitVec.ofNat 32 c.val) 0#32) (Ideal.ofBits .f32 0#32) (x (ix4 h c d X)) := by
    pointwise [q12]
  rw [e, Ideal.ofBits_zero_f32]
  match c with
  | 0 => rfl
  | 1 => rfl

theorem q17_apply0 (x y : FVec Ideal S8x2x64x16384 .f32) (r : Fin 1024) (X : Fin 16384) :
    q17 x y (ix3 (0 : Fin 2) r X) = x (ix4 (⟨r.val / 128, by omega⟩ : Fin 8) (⟨r.val / 64 % 2, by omega⟩ : Fin 2) (⟨r.val % 64, by omega⟩ : Fin 64) X) := by
  pointwise [q17]

theorem q17_apply1 (x y : FVec Ideal S8x2x64x16384 .f32) (r : Fin 1024) (X : Fin 16384) :
    q17 x y (ix3 (1 : Fin 2) r X) = y (ix4 (⟨r.val / 128, by omega⟩ : Fin 8) (⟨r.val / 64 % 2, by omega⟩ : Fin 2) (⟨r.val % 64, by omega⟩ : Fin 64) X) := by
  pointwise [q17]

theorem q_read : V m c main_v17 = q17 (q11 (q7 (q4 (m ((c.tc : Thread nD τ).loc main_arg0))))) (q12 (q7 (q4 (m ((c.tc : Thread nD τ).loc main_arg0))))) := by
  simp only [V, hostOps0, hostOps0_1, hostOps0_2, hostOps0_3, hostOps0_4, List.flatten_cons, List.flatten_nil, List.append_nil, List.cons_append, List.nil_append]
  entry_read
  rfl

/-! ## The values -/

/-- The values transposed. -/
def v22 (x : FVec Ideal S1x16384x8x128 .f32) : FVec Ideal S8x128x16384 .f32 :=
  fun i => shapeCast S8x128x16384 (transpose S1024x16384 [1, 0] (fun i => shapeCast S16384x1024 x shapeCasts_S1x16384x8x128_S16384x1024 i) transposes_S16384x1024_S1024x16384_1_0) shapeCasts_S1024x16384_S8x128x16384 i

/-- Three blocks of rows, one below the other. -/
def cat3 (a : FVec Ideal S8x128x16384 .f32) (b : FVec Ideal S8x1x16384 .f32) (d : FVec Ideal S8x15x16384 .f32) : FVec Ideal S8x144x16384 .f32 :=
  concatenate S8x144x16384 1 [⟨S8x128x16384, a⟩, ⟨S8x1x16384, b⟩, ⟨S8x15x16384, d⟩] concatenates_S8x128x16384_S8x1x16384_S8x15x16384_S8x144x16384_d1

/-- … with a row of ones and rows of zeros below. -/
def v25 (x : FVec Ideal S8x128x16384 .f32) : FVec Ideal S8x144x16384 .f32 :=
  cat3 x (broadcastInDim S8x1x16384 ![] bcast_S_S8x1x16384 (constant S_ .f32 0x3F800000#32)) (broadcastInDim S8x15x16384 ![] bcast_S_S8x15x16384 (constant S_ .f32 0x00000000#32))

/-- … one head below the other. -/
def v27 (x : FVec Ideal S8x144x16384 .f32) : FVec Ideal S1152x16384 .bf16 :=
  truncf FTy.bf16 (fun i => shapeCast S1152x16384 x shapeCasts_S8x144x16384_S1152x16384 i) bitsLt_bf16_f32

theorem v22_apply (x : FVec Ideal S1x16384x8x128 .f32) (h : Fin 8) (e : Fin 128) (Y : Fin 16384) :
    v22 x (ix3 h e Y) = x (ix4 (0 : Fin 1) Y h e) := by
  pointwise [v22]
  refine congrArg x (funext fun a => Fin.ext ?_)
  match a with
  | ⟨0, _⟩ => rfl
  | ⟨1, _⟩ => rfl
  | ⟨2, _⟩ => show (h.val * 128 + e.val) / 128 = h.val; omega
  | ⟨3, _⟩ => show (h.val * 128 + e.val) % 128 = e.val; omega

theorem v25_apply (x : FVec Ideal S8x128x16384 .f32) (h : Fin 8) (e : Fin 144) (Y : Fin 16384) :
    v25 x (ix3 h e Y) = if he : e.val < 128 then x (ix3 h (⟨e.val, he⟩ : Fin 128) Y) else if h : e.val - 128 < 1 then 1 else 0 := by
  pointwise [v25, cat3, Ideal.ofBits_one_f32, Ideal.ofBits_zero_f32]

theorem v27_apply (x : FVec Ideal S8x144x16384 .f32) (r : Fin 1152) (Y : Fin 16384) :
    v27 x (ix2 r Y) = x (ix3 (⟨r.val / 144, by omega⟩ : Fin 8) (⟨r.val % 144, by omega⟩ : Fin 144) Y) := by
  pointwise [v27]

open Idealize.ShloMosaic.StableHlo in
/-- A concatenation of three operands, each operand's contents at its own reference. -/
theorem nary3_result {y x a b : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

open Idealize.ShloMosaic.StableHlo in
theorem v_read : V m c main_v27 = v27 (v25 (v22 (m ((c.tc : Thread nD τ).loc main_arg2)))) := by
  unfold V
  simp (disch := decide) only [readAfter, readUpto, reshape_result', unary_result']
  rw [nary3_result]
  show v27 (cat3 (upto (List.flatten [hostOps0, hostOps0_1, hostOps0_2, hostOps0_3, hostOps0_4]) (fun b => m (c, b)) 36 (Proc.tc.devRef main_v22))
    (upto (List.flatten [hostOps0, hostOps0_1, hostOps0_2, hostOps0_3, hostOps0_4]) (fun b => m (c, b)) 36 (Proc.tc.devRef main_v23))
    (upto (List.flatten [hostOps0, hostOps0_1, hostOps0_2, hostOps0_3, hostOps0_4]) (fun b => m (c, b)) 36 (Proc.tc.devRef main_v24))) = _
  after_reads_simp
  rfl

end Cert.Proof.KernelIdeal.Host

end
-- ==== Proof.Walk.lean ====
/- The order in which the kernel visits the pairs (query tile, key tile): row by row, and in a row the key tiles up to
   the query tile's own. Four consecutive pairs are carried by the loop as words, with a query tile that is complete (or
   the word -1). Everything here is about numbers and words: no program, no float. -/
module

public import Idealize.ShloMosaic.Lib.WordCmp

@[expose] public section

namespace Cert.Proof.Walk

/-- The pair after `(i, t)`: the next key tile of the same row, or the next row's first. -/
def nxt (p : ℕ × ℕ) : ℕ × ℕ := if p.2 = p.1 then (p.1 + 1, 0) else (p.1, p.2 + 1)

/-- The pairs in order; the first one is met twice (the first visit is the idle one, at the start of the pipeline). -/
def q : ℕ → ℕ × ℕ
  | 0 => (0, 0)
  | 1 => (0, 0)
  | n + 2 => nxt (q (n + 1))

/-- Query tile of the `n`-th pair, as a word. -/
abbrev qi (n : ℕ) : BitVec 32 := BitVec.ofNat 32 (q n).1
/-- Key tile of the `n`-th pair, as a word. -/
abbrev qt (n : ℕ) : BitVec 32 := BitVec.ofNat 32 (q n).2

/-- The row that trip `k` finishes: the row of the one or the other of its two pairs, when that pair is the row's last
    and the row is one of the 16. -/
def ends (k : ℕ) : Option ℕ :=
  let a := q (2 * k)
  let b := q (2 * k + 1)
  let r : Option ℕ := if a.2 = a.1 then some a.1 else if b.2 = b.1 then some b.1 else none
  r.bind fun i => if i < 16 then some i else none

/-- The row finished just before trip `k`, as the loop carries it: -1 for none. -/
def done : ℕ → BitVec 32
  | 0 => 4294967295#32
  | k + 1 => match ends k with | some i => BitVec.ofNat 32 i | none => 4294967295#32

/-- What the loop carries before trip `k`. -/
def carry (k : ℕ) : BitVec 32 × BitVec 32 × BitVec 32 × BitVec 32 × BitVec 32 × BitVec 32 × BitVec 32 × BitVec 32 × BitVec 32 :=
  (qi (2 * k), qt (2 * k), qi (2 * k + 1), qt (2 * k + 1), qi (2 * k + 2), qt (2 * k + 2), qi (2 * k + 3), qt (2 * k + 3), done k)

end Cert.Proof.Walk

end
-- ==== Proof.KernelIdeal.Checks.lean ====
/- The carried words meet what the loop's body asks of them (its rectangles lie inside the buffers), at each of the 69
   trips, and the loop's step takes the words of one trip to the words of the next. All decided by evaluation. -/
module

public import proofs.«01_k».proof.Defs
public import proofs.«01_k».proof.Proof.Walk

@[expose] public section

set_option maxRecDepth 16384

namespace Cert.Proof.KernelIdeal

open Cert.KernelIdeal Cert.Proof.Walk
open Idealize.ShloMosaic

/-- The loop's next words from its present ones. -/
def yld (a14 a15 a16 a17 a18 a19 a20 a21 : BitVec 32) :
    BitVec 32 × BitVec 32 × BitVec 32 × BitVec 32 × BitVec 32 × BitVec 32 × BitVec 32 × BitVec 32 × BitVec 32 :=
  let r := Scalar.select (Scalar.cmpi .eq a15 a14) a14 (Scalar.select (Scalar.cmpi .eq a17 a16) a16 4294967295#32)
  let e := Scalar.cmpi .eq a21 a20
  let i := Scalar.select e (Scalar.addi a20 1#32) a20
  let t := Scalar.select e 0#32 (Scalar.addi a21 1#32)
  let e' := Scalar.cmpi .eq t i
  (a18, a19, a20, a21, i, t, Scalar.select e' (Scalar.addi i 1#32) i, Scalar.select e' 0#32 (Scalar.addi t 1#32),
    Scalar.select (Scalar.cmpi .slt r 16#32) r 4294967295#32)

set_option synthInstance.maxSize 4000 in
set_option synthInstance.maxHeartbeats 0 in
theorem yld_carry : ∀ k : Fin 69, yld (qi (2 * k)) (qt (2 * k)) (qi (2 * k + 1)) (qt (2 * k + 1)) (qi (2 * k + 2)) (qt (2 * k + 2))
    (qi (2 * k + 3)) (qt (2 * k + 3)) = carry (k + 1) := by decide +kernel

theorem chk1_carry : ∀ k : Fin 70, k0_chk1 (done k) := by decide +kernel
theorem chk2_carry : ∀ k : Fin 69, k0_chk2 (qi (2 * k)) (qt (2 * k)) (qi (2 * k + 1)) (qt (2 * k + 1)) (qi (2 * k + 2)) (qt (2 * k + 2)) := by
  decide +kernel
theorem chk3_carry : ∀ k : Fin 69, k0_chk3 (qi (2 * k + 1)) (qt (2 * k + 1)) (qi (2 * k + 2)) (qt (2 * k + 2)) (qt (2 * k + 3)) := by
  decide +kernel
theorem chk4_carry : ∀ k : Fin 69, k0_chk4 (qi (2 * k + 1)) (qt (2 * k + 1)) (qi (2 * k + 2)) (qt (2 * k + 2)) (qi (2 * k + 3)) := by
  decide +kernel
theorem chk5_carry : k0_chk5 (done 69) := by decide +kernel

end Cert.Proof.KernelIdeal

end
-- ==== Proof.KernelIdeal.FrameTrip.lean ====
/- One trip of the kernel's loop runs, whatever the carried words that meet its side conditions and whatever the buffers
   hold: the inputs come back as they were, the buffers it stores into at some contents, and the words it hands on are
   `yld` of the words it was given. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdeal.Checks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the run: the frame kit's, no counters beside the points-tos. -/
abbrev UU (nD : Nat) (τ : Topo) : Type := UR sig nD τ
abbrev 𝒱₀ : Variants := Variants.none
local notation "𝕄" => MT nD τ sig Unit (Elt F) ℕ (UR sig nD τ) ℕ

/-- A whole memref on core `c`, held at contents `f`. -/
abbrev hold {sp : Space} {s : Shape} {e : EltTy} (c : Dev nD) (m : Memref sig .tc sp s e) (f : Buf (Elt F) (m.view.loc (c : Thread nD τ))) : sProp 𝕄 :=
  m.view.loc (c : Thread nD τ) ↦[m.view.set]{fullShare} f

section
variable (c : Dev nD) (arg1 : Memref sig .tc .vmem S4x64 .f32) (harg1 : arg1.IsWhole) (arg2 : Memref sig .tc .vmem S128x1 .f32) (harg2 : arg2.IsWhole) (arg3 : Memref sig .tc .vmem S2x128x16384 .bf16) (harg3 : arg3.IsWhole) (arg4 : Memref sig .tc .vmem S16384x128 .bf16) (harg4 : arg4.IsWhole) (arg5 : Memref sig .tc .vmem S144x16384 .bf16) (harg5 : arg5.IsWhole) (arg6 : Memref sig .tc .vmem S128x16384 .bf16) (harg6 : arg6.IsWhole) (arg7 : Memref sig .tc .vmem S2x1x1024 .f32) (harg7 : arg7.IsWhole) (arg8 : Memref sig .tc .vmem S2x2x144x1024 .f32) (harg8 : arg8.IsWhole) (arg9 : Memref sig .tc .vmem S2x1024x1024 .f32) (harg9 : arg9.IsWhole) (arg10 : Memref sig .tc .vmem S2x2x1024x1024 .bf16) (harg10 : arg10.IsWhole) (arg11 : Memref sig .tc .vmem S2x2x1x1024 .f32) (harg11 : arg11.IsWhole) (arg12 : Memref sig .tc .vmem S2x1x1024 .f32) (harg12 : arg12.IsWhole)

set_option maxHeartbeats 4000000 in
/-- One trip, at any words. -/
theorem trip_any (i : grid0.Coords) (v66 : IVec S1024x1024 1) (k : Fin k0_t1_loop.trips) (a14 a15 a16 a17 a18 a19 a20 a21 a22 : BitVec 32)
    (hw4 : k0_chk4 a16 a17 a18 a19 a20) (hw3 : k0_chk3 a16 a17 a18 a19 a21) (hw2 : k0_chk2 a14 a15 a16 a17 a18 a19) (hw1 : k0_chk1 a22)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    iprop(hold c arg1 f1
    ∗ hold c arg2 f2
    ∗ hold c arg3 f3
    ∗ hold c arg4 f4
    ∗ hold c arg5 f5
    ∗ hold c arg6 f6
    ∗ hold c arg7 f7
    ∗ hold c arg8 f8
    ∗ hold c arg9 f9
    ∗ hold c arg10 f10
    ∗ hold c arg11 f11
    ∗ hold c arg12 f12) ⊢ wp frame (wpE (defs₀ (F := F)) 𝒱₀ (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 v66 k (a14, a15, a16, a17, a18, a19, a20, a21, a22))
      (fun y => iprop(⌜y = yld a14 a15 a16 a17 a18 a19 a20 a21⌝ ∗ hold c arg1 f1
    ∗ hold c arg2 f2
    ∗ hold c arg3 f3
    ∗ hold c arg4 f4
    ∗ hold c arg5 f5
    ∗ (∃ g, hold c arg6 g)
    ∗ (∃ g, hold c arg7 g)
    ∗ (∃ g, hold c arg8 g)
    ∗ (∃ g, hold c arg9 g)
    ∗ (∃ g, hold c arg10 g)
    ∗ (∃ g, hold c arg11 g)
    ∗ (∃ g, hold c arg12 g))) := by
  by_cases h1 : k0_cond1 a22 = 1#1 <;> by_cases h2 : k0_cond2 a16 a17 a18 a19 = 1#1 <;> by_cases h3 : k0_cond3 a16 a17 a18 a19 = 1#1
  all_goals
    iintro ⟨H1, H2, H3, H4, H5, H6, H7, H8, H9, H10, H11, H12⟩
    sl_unfold [k0_t1_body]
    sl_exec
    sl_step
    isplitr
    · ipureintro; rfl
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
end

end Cert.Proof.KernelIdeal

end
-- ==== Proof.KernelIdeal.Spec.lean ====
/- The arithmetic of one step of the kernel, as functions of the blocks it loads: scores and their column maxima, the
   running maximum, the weights and the rescaling, the accumulation, and the closing of a row of blocks. -/
module

public import proofs.«01_k».proof.Defs
public import proofs.«01_k».proof.Proof.Gen.KernelIdeal
public import proofs.«01_k».proof.Proof.Gen.KernelIdeal.Skeleton
public import Idealize.ShloMosaic.Lib.VecWindow

@[expose] public section

noncomputable section

namespace Cert.Proof.KernelIdeal

open Cert.KernelIdeal Cert.KernelIdeal.Gen
open Idealize.ShloMosaic Idealize.ShloMosaic.TcCoe

variable {F : FTy → Type} [FloatOps F] [Named F]

/-- Scores of a block of keys against a block of queries. -/
def scT (kt : FVec F S1024x128 .bf16) (qv : FVec F S1x128x1024 .bf16) : FVec F S1024x1024 .f32 :=
  matmul dot_S1024x128_S128x1024_S1024x1024_1_0_0_1_n_n none (shapeCast S1024x128 kt shapeCasts_S1024x128_S1024x128)
    (shapeCast S128x1024 qv shapeCasts_S1x128x1024_S128x1024) (constant S1024x1024 .f32 0x00000000#32)

/-- The largest entry of every column. -/
def colMax (x : FVec F S1024x1024 .f32) : FVec F S1x1024 .f32 :=
  shapeCast S1x1024 (multiReduction .maximumf [0] S1024 x 0xFF800000#32 reduces_S1024x1024_S1024 (.inl rfl) rfl) shapeCasts_S1024_S1x1024

/-- The scores as they are stored. -/
def scS (kt : FVec F S1024x128 .bf16) (qv : FVec F S1x128x1024 .bf16) : FVec F S1x1024x1024 .f32 :=
  shapeCast S1x1024x1024 (scT kt qv) shapeCasts_S1024x1024_S1x1024x1024

/-- Their column maxima as they are stored. -/
def smS (kt : FVec F S1024x128 .bf16) (qv : FVec F S1x128x1024 .bf16) : FVec F S1x1x1024 .f32 :=
  shapeCast S1x1x1024 (colMax (scT kt qv)) shapeCasts_S1x1024_S1x1x1024

/-- The constant the kernel masks with. -/
def maskC : F .f32 := Named.named κ "mask" 0xF149F2CA#32

/-- The scores, masked on the diagonal. -/
def msk (v66 : IVec S1024x1024 1) (d : Bool) (s : FVec F S1x1024x1024 .f32) : FVec F S1024x1024 .f32 :=
  match d with
  | true => select v66 (shapeCast S1024x1024 s shapeCasts_S1x1024x1024_S1024x1024) (broadcast S1024x1024 maskC)
  | false => shapeCast S1024x1024 s shapeCasts_S1x1024x1024_S1024x1024

/-- The column maxima the step uses: recomputed on the diagonal. -/
def mxs (v66 : IVec S1024x1024 1) (d : Bool) (s : FVec F S1x1024x1024 .f32) (sm : FVec F S1x1x1024 .f32) : FVec F S1x1024 .f32 :=
  match d with
  | true => colMax (msk v66 true s)
  | false => shapeCast S1x1024 sm shapeCasts_S1x1x1024_S1x1024

/-- The running maximum before the step, forgotten at the first block of a row. -/
def mPrev (t : BitVec 32) (m : FVec F S1x1x1024 .f32) : FVec F S1x1024 .f32 :=
  Scalar.select (Scalar.cmpi .eq t 0#32) (broadcast S1x1024 maskC) (shapeCast S1x1024 m shapeCasts_S1x1x1024_S1x1024)

/-- The running maximum after the step. -/
def mNew (v66 : IVec S1024x1024 1) (d : Bool) (t : BitVec 32) (s : FVec F S1x1024x1024 .f32) (sm m : FVec F S1x1x1024 .f32) : FVec F S1x1024 .f32 :=
  maximumf (mPrev t m) (mxs v66 d s sm)

/-- The step's weights as they are stored. -/
def pNew (v66 : IVec S1024x1024 1) (d : Bool) (t : BitVec 32) (s : FVec F S1x1024x1024 .f32) (sm m : FVec F S1x1x1024 .f32) :
    FVec F S1x1x1024x1024 .bf16 :=
  shapeCast S1x1x1024x1024 (truncf .bf16 (exp2 (subf (msk v66 d s) (broadcastTo S1024x1024 (mNew v66 d t s sm m) broadcasts_S1x1024_S1024x1024)))
    bitsLt_bf16_f32) shapeCasts_S1024x1024_S1x1x1024x1024

/-- The step's rescaling as it is stored. -/
def aNew (v66 : IVec S1024x1024 1) (d : Bool) (t : BitVec 32) (s : FVec F S1x1024x1024 .f32) (sm m : FVec F S1x1x1024 .f32) :
    FVec F S1x1x1x1024 .f32 :=
  shapeCast S1x1x1x1024 (exp2 (subf (mPrev t m) (mNew v66 d t s sm m))) shapeCasts_S1x1024_S1x1x1x1024

/-- The running maximum as it is stored. -/
def mSt (v66 : IVec S1024x1024 1) (d : Bool) (t : BitVec 32) (s : FVec F S1x1024x1024 .f32) (sm m : FVec F S1x1x1024 .f32) : FVec F S1x1x1024 .f32 :=
  shapeCast S1x1x1024 (mNew v66 d t s sm m) shapeCasts_S1x1024_S1x1x1024

/-- The accumulation as it is stored. -/
def accF (vt : FVec F S144x1024 .bf16) (a : FVec F S1x1x1x1024 .f32) (acc : FVec F S1x1x144x1024 .f32) (p : FVec F S1x1x1024x1024 .bf16) :
    FVec F S1x1x144x1024 .f32 :=
  shapeCast S1x1x144x1024 (addf
    (mulf (broadcastTo S144x1024 (shapeCast S1x1024 a shapeCasts_S1x1x1x1024_S1x1024) broadcasts_S1x1024_S144x1024)
      (shapeCast S144x1024 acc shapeCasts_S1x1x144x1024_S144x1024))
    (matmul dot_S144x1024_S1024x1024_S144x1024_1_0_0_1_n_n none (shapeCast S144x1024 vt shapeCasts_S144x1024_S144x1024)
      (shapeCast S1024x1024 p shapeCasts_S1x1x1024x1024_S1024x1024) (constant S144x1024 .f32 0x00000000#32))) shapeCasts_S144x1024_S1x1x144x1024

/-- A closed row of blocks as it is stored in the output. -/
def finF (x1 : FVec F S4x64 .f32) (x2 : FVec F S128x1 .f32) (n0 : FVec F S1x1x128x1024 .f32) (l0 : FVec F S1x1x1x1024 .f32)
    (n1 : FVec F S1x1x128x1024 .f32) (l1 : FVec F S1x1x1x1024 .f32) : FVec F S128x1024 .bf16 :=
  k0_pay1 (k0_pay12 x1) (k0_pay13 n0 l0) (k0_pay14 n1) l1 x2

theorem inb8 {p c : ℕ} (hp : p < 2) (hc : c < 2) : ∀ a, (![p, c, 0, 0] : Fin 4 → ℕ) a + S1x1x144x1024.size a ≤ S2x2x144x1024.size a := by
  intro a; fin_cases a <;> simp <;> omega
theorem inb8n {p c : ℕ} (hp : p < 2) (hc : c < 2) : ∀ a, (![p, c, 0, 0] : Fin 4 → ℕ) a + S1x1x128x1024.size a ≤ S2x2x144x1024.size a := by
  intro a; fin_cases a <;> simp <;> omega
theorem inb8l {p c : ℕ} (hp : p < 2) (hc : c < 2) : ∀ a, (![p, c, 128, 0] : Fin 4 → ℕ) a + S1x1x1x1024.size a ≤ S2x2x144x1024.size a := by
  intro a; fin_cases a <;> simp <;> omega
theorem inb6 {i : ℕ} (hi : i < 16) : ∀ a, (![0, 1024 * i] : Fin 2 → ℕ) a + S128x1024.size a ≤ S128x16384.size a := by
  intro a; fin_cases a <;> simp <;> omega

/-- One block of the accumulator replaced by its accumulation. -/
def accPut (p c : ℕ) (hp : p < 2) (hc : c < 2) (vt : FVec F S144x1024 .bf16) (a : FVec F S1x1x1x1024 .f32) (w : FVec F S1x1x1024x1024 .bf16)
    (x : FVec F S2x2x144x1024 .f32) : FVec F S2x2x144x1024 .f32 :=
  VecWindow.put x ![p, c, 0, 0] S1x1x144x1024.size (accF vt a (VecWindow.window x ![p, c, 0, 0] S1x1x144x1024.size (inb8 hp hc)) w)

/-- A row of blocks read from the accumulator and closed. -/
def finW (x1 : FVec F S4x64 .f32) (x2 : FVec F S128x1 .f32) (p : ℕ) (hp : p < 2) (x : FVec F S2x2x144x1024 .f32) : FVec F S128x1024 .bf16 :=
  finF x1 x2 (VecWindow.window x ![p, 0, 0, 0] S1x1x128x1024.size (inb8n hp (by omega)))
    (VecWindow.window x ![p, 0, 128, 0] S1x1x1x1024.size (inb8l hp (by omega)))
    (VecWindow.window x ![p, 1, 0, 0] S1x1x128x1024.size (inb8n hp (by omega)))
    (VecWindow.window x ![p, 1, 128, 0] S1x1x1x1024.size (inb8l hp (by omega)))

/-- A covered load at the rectangle stored last. -/
theorem readCov_same {Val : EltTy → Type} [∀ e, Nonempty (Val e)] {sig : RefSig} {κ : Kind} {sp : Space} {s : Shape} {e : EltTy} (v : View sig κ sp s e)
    (off size : Fin s.rank → ℕ) (inb inb' : ∀ a, off a + size a ≤ s.size a) (w : (Rect.unit off size inb').shape.Idx → Val e) (L : List (View.Piece Val s e)) :
    v.readCov (⟨Rect.unit off size inb', w⟩ :: L) (Rect.unit off size inb).toLoadRect = w := by
  show v.readAt Val (Rect.unit off size inb).toLoadRect (v.writes Val v.junk _) = w
  rw [View.readAt_unit v _ inb rfl inb, View.read_writes_cons_put v _ inb' w L rfl, VecWindow.window_put_same]

/-- A covered load past a store into a disjoint rectangle. -/
theorem readCov_skip {Val : EltTy → Type} [∀ e, Nonempty (Val e)] {sig : RefSig} {κ : Kind} {sp : Space} {s : Shape} {e : EltTy} (v : View sig κ sp s e)
    (off size off' size' : Fin s.rank → ℕ) (inb : ∀ a, off a + size a ≤ s.size a) (inb' : ∀ a, off' a + size' a ≤ s.size a)
    (w : (Rect.unit off' size' inb').shape.Idx → Val e) (L : List (View.Piece Val s e)) (h : ∃ a, off a + size a ≤ off' a ∨ off' a + size' a ≤ off a) :
    v.readCov (⟨Rect.unit off' size' inb', w⟩ :: L) (Rect.unit off size inb).toLoadRect = v.readCov L (Rect.unit off size inb).toLoadRect := by
  obtain ⟨a, ha⟩ := h
  show v.readAt Val (Rect.unit off size inb).toLoadRect (v.writes Val v.junk _) = v.readAt Val (Rect.unit off size inb).toLoadRect (v.writes Val v.junk _)
  rw [View.readAt_unit v _ inb rfl inb, View.read_writes_cons_put v _ inb' w L rfl, VecWindow.window_put_of_disjoint _ _ _ _ _ _ _ a ha, View.readAt_unit v _ inb rfl inb]

/-- A load at the rectangle stored last. -/
theorem readAt_same {Val : EltTy → Type} {sig : RefSig} {κ : Kind} {sp : Space} {s : Shape} {e : EltTy} (v : View sig κ sp s e)
    (f : v.ty.Contents Val) (off size : Fin s.rank → ℕ) (inb inb' : ∀ a, off a + size a ≤ s.size a) (w : (Rect.unit off size inb').shape.Idx → Val e) (L : List (View.Piece Val s e)) :
    v.readAt Val (Rect.unit off size inb).toLoadRect (v.writes Val f (⟨Rect.unit off size inb', w⟩ :: L)) = w := by
  rw [View.readAt_unit v _ inb rfl inb, View.read_writes_cons_put v _ inb' w L rfl, VecWindow.window_put_same]

/-- A load past a store into a disjoint rectangle. -/
theorem readAt_skip {Val : EltTy → Type} {sig : RefSig} {κ : Kind} {sp : Space} {s : Shape} {e : EltTy} (v : View sig κ sp s e)
    (f : v.ty.Contents Val) (off size off' size' : Fin s.rank → ℕ) (inb : ∀ a, off a + size a ≤ s.size a) (inb' : ∀ a, off' a + size' a ≤ s.size a)
    (w : (Rect.unit off' size' inb').shape.Idx → Val e) (L : List (View.Piece Val s e)) (h : ∃ a, off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  obtain ⟨a, ha⟩ := h
  rw [View.readAt_unit v _ inb rfl inb, View.read_writes_cons_put v _ inb' w L rfl, VecWindow.window_put_of_disjoint _ _ _ _ _ _ _ a ha, View.readAt_unit v _ inb rfl inb]

/-- Four blocks of the accumulator, stored one after another, each from what the stores before it left there. -/
theorem acc_chain {sp : Space} {κ' : Kind} {sig : RefSig} (v : View sig κ' sp S2x2x144x1024 .f32) (f : v.ty.Contents (Elt F))
    {o31 o32 o37 o38 : Fin 4 → ℕ} (p3 p2 : ℕ) (hp3 : p3 < 2) (hp2 : p2 < 2)
    (e31 : o31 = ![p3, 0, 0, 0]) (e32 : o32 = ![p3, 1, 0, 0]) (e37 : o37 = ![p2, 0, 0, 0]) (e38 : o38 = ![p2, 1, 0, 0])
    (i31 : ∀ a, o31 a + S1x1x144x1024.size a ≤ S2x2x144x1024.size a) (i32 : ∀ a, o32 a + S1x1x144x1024.size a ≤ S2x2x144x1024.size a)
    (i37 : ∀ a, o37 a + S1x1x144x1024.size a ≤ S2x2x144x1024.size a) (i38 : ∀ a, o38 a + S1x1x144x1024.size a ≤ S2x2x144x1024.size a)
    (w1 w2 w3 w4 : FVec F S1x1x144x1024 .f32)
    (v3 v2 : FVec F S144x1024 .bf16) (a0 a1 b0 b1 : FVec F S1x1x1x1024 .f32) (p0 p1 r0 r1 : FVec F S1x1x1024x1024 .bf16)
    (h1 : w1 = accF v3 a0 (VecWindow.window (v.read (Elt F) f) ![p3, 0, 0, 0] S1x1x144x1024.size (inb8 hp3 (by omega))) p0)
    (h2 : w2 = accF v3 a1 (VecWindow.window (v.read (Elt F) (v.writes (Elt F) f [⟨Rect.unit (s := S2x2x144x1024) o31 S1x1x144x1024.size i31, w1⟩])) ![p3, 1, 0, 0] S1x1x144x1024.size (inb8 hp3 (by omega))) p1)
    (h3 : w3 = accF v2 b0 (VecWindow.window (v.read (Elt F) (v.writes (Elt F) f [⟨Rect.unit (s := S2x2x144x1024) o32 S1x1x144x1024.size i32, w2⟩, ⟨Rect.unit (s := S2x2x144x1024) o31 S1x1x144x1024.size i31, w1⟩])) ![p2, 0, 0, 0] S1x1x144x1024.size (inb8 hp2 (by omega))) r0)
    (h4 : w4 = accF v2 b1 (VecWindow.window (v.read (Elt F) (v.writes (Elt F) f [⟨Rect.unit (s := S2x2x144x1024) o37 S1x1x144x1024.size i37, w3⟩, ⟨Rect.unit (s := S2x2x144x1024) o32 S1x1x144x1024.size i32, w2⟩, ⟨Rect.unit (s := S2x2x144x1024) o31 S1x1x144x1024.size i31, w1⟩])) ![p2, 1, 0, 0] S1x1x144x1024.size (inb8 hp2 (by omega))) r1) :
    v.read (Elt F) (v.writes (Elt F) f [⟨Rect.unit (s := S2x2x144x1024) o38 S1x1x144x1024.size i38, w4⟩, ⟨Rect.unit (s := S2x2x144x1024) o37 S1x1x144x1024.size i37, w3⟩, ⟨Rect.unit (s := S2x2x144x1024) o32 S1x1x144x1024.size i32, w2⟩, ⟨Rect.unit (s := S2x2x144x1024) o31 S1x1x144x1024.size i31, w1⟩])
      = accPut p2 1 hp2 (by omega) v2 b1 r1 (accPut p2 0 hp2 (by omega) v2 b0 r0 (accPut p3 1 hp3 (by omega) v3 a1 p1 (accPut p3 0 hp3 (by omega) v3 a0 p0 (v.read (Elt F) f)))) := by
  have q1 : v.read (Elt F) (v.writes (Elt F) f [⟨Rect.unit (s := S2x2x144x1024) o31 S1x1x144x1024.size i31, w1⟩]) = accPut p3 0 hp3 (by omega) v3 a0 p0 (v.read (Elt F) f) := by
    rw [View.read_writes_cons_put v f i31 w1 _ e31, h1]; rfl
  rw [q1] at h2
  have q2 : v.read (Elt F) (v.writes (Elt F) f [⟨Rect.unit (s := S2x2x144x1024) o32 S1x1x144x1024.size i32, w2⟩, ⟨Rect.unit (s := S2x2x144x1024) o31 S1x1x144x1024.size i31, w1⟩])
      = accPut p3 1 hp3 (by omega) v3 a1 p1 (accPut p3 0 hp3 (by omega) v3 a0 p0 (v.read (Elt F) f)) := by
    rw [View.read_writes_cons_put v f i32 w2 _ e32, q1, h2]; rfl
  rw [q2] at h3
  have q3 : v.read (Elt F) (v.writes (Elt F) f [⟨Rect.unit (s := S2x2x144x1024) o37 S1x1x144x1024.size i37, w3⟩, ⟨Rect.unit (s := S2x2x144x1024) o32 S1x1x144x1024.size i32, w2⟩, ⟨Rect.unit (s := S2x2x144x1024) o31 S1x1x144x1024.size i31, w1⟩])
      = accPut p2 0 hp2 (by omega) v2 b0 r0 (accPut p3 1 hp3 (by omega) v3 a1 p1 (accPut p3 0 hp3 (by omega) v3 a0 p0 (v.read (Elt F) f))) := by
    rw [View.read_writes_cons_put v f i37 w3 _ e37, q2, h3]; rfl
  rw [q3] at h4
  rw [View.read_writes_cons_put v f i38 w4 _ e38, q3, h4]; rfl

/-- A row of blocks loaded from the accumulator, closed, and stored in the output. -/
theorem fin_chain {sp sp' : Space} {κ' κ'' : Kind} {sig : RefSig} (v : View sig κ' sp S2x2x144x1024 .f32) (f : v.ty.Contents (Elt F))
    (u : View sig κ'' sp' S128x16384 .bf16) (g : u.ty.Contents (Elt F))
    {o1 o2 o3 o4 : Fin 4 → ℕ} {o5 : Fin 2 → ℕ} (p j : ℕ) (hp : p < 2)
    (e1 : o1 = ![p, 0, 0, 0]) (e2 : o2 = ![p, 0, 128, 0]) (e3 : o3 = ![p, 1, 0, 0]) (e4 : o4 = ![p, 1, 128, 0]) (e5 : o5 = ![0, 1024 * j])
    (i1 : ∀ a, o1 a + S1x1x128x1024.size a ≤ S2x2x144x1024.size a) (i2 : ∀ a, o2 a + S1x1x1x1024.size a ≤ S2x2x144x1024.size a)
    (i3 : ∀ a, o3 a + S1x1x128x1024.size a ≤ S2x2x144x1024.size a) (i4 : ∀ a, o4 a + S1x1x1x1024.size a ≤ S2x2x144x1024.size a)
    (i5 : ∀ a, o5 a + S128x1024.size a ≤ S128x16384.size a) (x1 : FVec F S4x64 .f32) (x2 : FVec F S128x1 .f32) (w : FVec F S128x1024 .bf16)
    (h : w = finF x1 x2 (v.readAt (Elt F) (Rect.unit (s := S2x2x144x1024) o1 S1x1x128x1024.size i1).toLoadRect f)
      (v.readAt (Elt F) (Rect.unit (s := S2x2x144x1024) o2 S1x1x1x1024.size i2).toLoadRect f)
      (v.readAt (Elt F) (Rect.unit (s := S2x2x144x1024) o3 S1x1x128x1024.size i3).toLoadRect f)
      (v.readAt (Elt F) (Rect.unit (s := S2x2x144x1024) o4 S1x1x1x1024.size i4).toLoadRect f)) :
    u.read (Elt F) (u.writes (Elt F) g [⟨Rect.unit (s := S128x16384) o5 S128x1024.size i5, w⟩])
      = VecWindow.put (u.read (Elt F) g) ![0, 1024 * j] S128x1024.size (finW x1 x2 p hp (v.read (Elt F) f)) := by
  rw [View.read_writes_cons_put u g i5 w _ e5, h, View.readAt_unit v f i1 e1 (inb8n hp (by omega)), View.readAt_unit v f i2 e2 (inb8l hp (by omega)),
    View.readAt_unit v f i3 e3 (inb8n hp (by omega)), View.readAt_unit v f i4 e4 (inb8l hp (by omega))]
  rfl

end Cert.Proof.KernelIdeal

end
-- ==== Proof.KernelIdeal.TripVal.lean ====
/- One trip of the loop, by what its loads read: the buffers it stores into, read back, are the step's functions of them. -/
module

public import proofs.«01_k».proof.Proof.KernelIdeal.FrameTrip
public import proofs.«01_k».proof.Proof.KernelIdeal.Spec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (arg1 : Memref sig .tc .vmem S4x64 .f32) (harg1 : arg1.IsWhole) (arg2 : Memref sig .tc .vmem S128x1 .f32) (harg2 : arg2.IsWhole) (arg3 : Memref sig .tc .vmem S2x128x16384 .bf16) (harg3 : arg3.IsWhole) (arg4 : Memref sig .tc .vmem S16384x128 .bf16) (harg4 : arg4.IsWhole) (arg5 : Memref sig .tc .vmem S144x16384 .bf16) (harg5 : arg5.IsWhole) (arg6 : Memref sig .tc .vmem S128x16384 .bf16) (harg6 : arg6.IsWhole) (arg7 : Memref sig .tc .vmem S2x1x1024 .f32) (harg7 : arg7.IsWhole) (arg8 : Memref sig .tc .vmem S2x2x144x1024 .f32) (harg8 : arg8.IsWhole) (arg9 : Memref sig .tc .vmem S2x1024x1024 .f32) (harg9 : arg9.IsWhole) (arg10 : Memref sig .tc .vmem S2x2x1024x1024 .bf16) (harg10 : arg10.IsWhole) (arg11 : Memref sig .tc .vmem S2x2x1x1024 .f32) (harg11 : arg11.IsWhole) (arg12 : Memref sig .tc .vmem S2x1x1024 .f32) (harg12 : arg12.IsWhole)

set_option maxHeartbeats 8000000 in
/-- One trip, at any words: `d0`, `d1` say which of the two blocks lies on the diagonal, `fin` whether a row is closed. -/
theorem trip_val (i : grid0.Coords) (v66 : IVec S1024x1024 1) (k : Fin k0_t1_loop.trips) (a14 a15 a16 a17 a18 a19 a20 a21 a22 : BitVec 32)
    (d0 d1 fin : Bool)
    (hv : (d0 = false ∧ d1 = false ∧ ¬ k0_cond2 a16 a17 a18 a19 = 1#1)
      ∨ (d0 = true ∧ d1 = false ∧ k0_cond2 a16 a17 a18 a19 = 1#1 ∧ ¬ k0_cond3 a16 a17 a18 a19 = 1#1)
      ∨ (d0 = false ∧ d1 = true ∧ k0_cond2 a16 a17 a18 a19 = 1#1 ∧ k0_cond3 a16 a17 a18 a19 = 1#1))
    (hfin : (fin = true ∧ k0_cond1 a22 = 1#1) ∨ (fin = false ∧ ¬ k0_cond1 a22 = 1#1))
    (hw4 : k0_chk4 a16 a17 a18 a19 a20) (hw3 : k0_chk3 a16 a17 a18 a19 a21) (hw2 : k0_chk2 a14 a15 a16 a17 a18 a19) (hw1 : k0_chk1 a22)
    (p3 p2 pD j : ℕ) (hp3 : p3 < 2) (hp2 : p2 < 2) (hpD : pD < 2)
    (e31 : k0_off31 a14 = ![p3, 0, 0, 0]) (e32 : k0_off32 a14 = ![p3, 1, 0, 0])
    (e37 : k0_off37 a16 = ![p2, 0, 0, 0]) (e38 : k0_off38 a16 = ![p2, 1, 0, 0])
    (eD : fin = true → k0_off1 a22 = ![pD, 0, 0, 0] ∧ k0_off2 a22 = ![pD, 0, 128, 0] ∧ k0_off3 a22 = ![pD, 1, 0, 0] ∧ k0_off4 a22 = ![pD, 1, 128, 0]
      ∧ k0_off5 a22 = ![0, 1024 * j])
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (kt1 : FVec F S1024x128 .bf16) (q10 : FVec F S1x128x1024 .bf16) (q11 : FVec F S1x128x1024 .bf16) (kt2 : FVec F S1024x128 .bf16) (q20 : FVec F S1x128x1024 .bf16) (q21 : FVec F S1x128x1024 .bf16) (v3 : FVec F S144x1024 .bf16) (v2 : FVec F S144x1024 .bf16) (x1 : FVec F S4x64 .f32) (x2 : FVec F S128x1 .f32) (s0 : FVec F S1x1024x1024 .f32) (sm0 : FVec F S1x1x1024 .f32) (m0 : FVec F S1x1x1024 .f32) (p0 : FVec F S1x1x1024x1024 .bf16) (a0 : FVec F S1x1x1x1024 .f32) (s1 : FVec F S1x1024x1024 .f32) (sm1 : FVec F S1x1x1024 .f32) (m1 : FVec F S1x1x1024 .f32) (p1 : FVec F S1x1x1024x1024 .bf16) (a1 : FVec F S1x1x1x1024 .f32)
    (hk1 : (∀ inb, arg4.view.readAt (Elt F) (Rect.unit (s := S16384x128) (k0_off33 a19) S1024x128.size inb).toLoadRect f4 = kt1))
    (hq10 : (∀ inb, arg3.view.readAt (Elt F) (Rect.unit (s := S2x128x16384) (k0_off34 a18) S1x128x1024.size inb).toLoadRect f3 = q10))
    (hq11 : (∀ inb, arg3.view.readAt (Elt F) (Rect.unit (s := S2x128x16384) (k0_off35 a18) S1x128x1024.size inb).toLoadRect f3 = q11))
    (hk2 : (∀ inb, arg4.view.readAt (Elt F) (Rect.unit (s := S16384x128) (k0_off39 a21) S1024x128.size inb).toLoadRect f4 = kt2))
    (hq20 : (∀ inb, arg3.view.readAt (Elt F) (Rect.unit (s := S2x128x16384) (k0_off40 a20) S1x128x1024.size inb).toLoadRect f3 = q20))
    (hq21 : (∀ inb, arg3.view.readAt (Elt F) (Rect.unit (s := S2x128x16384) (k0_off41 a20) S1x128x1024.size inb).toLoadRect f3 = q21))
    (hv3 : (∀ inb, arg5.view.readAt (Elt F) (Rect.unit (s := S144x16384) (k0_off30 a15) S144x1024.size inb).toLoadRect f5 = v3))
    (hv2 : (∀ inb, arg5.view.readAt (Elt F) (Rect.unit (s := S144x16384) (k0_off36 a17) S144x1024.size inb).toLoadRect f5 = v2))
    (hx1 : (∀ inb, arg1.view.readAt (Elt F) (Rect.unit (s := S4x64) ![0, 0] S4x64.size inb).toLoadRect f1 = x1))
    (hx2 : (∀ inb, arg2.view.readAt (Elt F) (Rect.unit (s := S128x1) ![0, 0] S128x1.size inb).toLoadRect f2 = x2))
    (hs0 : (∀ inb, arg9.view.readAt (Elt F) (Rect.unit (s := S2x1024x1024) ![0, 0, 0] S1x1024x1024.size inb).toLoadRect f9 = s0))
    (hsm0 : (∀ inb, arg12.view.readAt (Elt F) (Rect.unit (s := S2x1x1024) ![0, 0, 0] S1x1x1024.size inb).toLoadRect f12 = sm0))
    (hm0 : (∀ inb, arg7.view.readAt (Elt F) (Rect.unit (s := S2x1x1024) ![0, 0, 0] S1x1x1024.size inb).toLoadRect f7 = m0))
    (hp0 : (∀ inb, arg10.view.readAt (Elt F) (Rect.unit (s := S2x2x1024x1024) ![1, 0, 0, 0] S1x1x1024x1024.size inb).toLoadRect f10 = p0))
    (ha0 : (∀ inb, arg11.view.readAt (Elt F) (Rect.unit (s := S2x2x1x1024) ![1, 0, 0, 0] S1x1x1x1024.size inb).toLoadRect f11 = a0))
    (hs1 : (∀ inb, arg9.view.readAt (Elt F) (Rect.unit (s := S2x1024x1024) ![1, 0, 0] S1x1024x1024.size inb).toLoadRect f9 = s1))
    (hsm1 : (∀ inb, arg12.view.readAt (Elt F) (Rect.unit (s := S2x1x1024) ![1, 0, 0] S1x1x1024.size inb).toLoadRect f12 = sm1))
    (hm1 : (∀ inb, arg7.view.readAt (Elt F) (Rect.unit (s := S2x1x1024) ![1, 0, 0] S1x1x1024.size inb).toLoadRect f7 = m1))
    (hp1 : (∀ inb, arg10.view.readAt (Elt F) (Rect.unit (s := S2x2x1024x1024) ![1, 1, 0, 0] S1x1x1024x1024.size inb).toLoadRect f10 = p1))
    (ha1 : (∀ inb, arg11.view.readAt (Elt F) (Rect.unit (s := S2x2x1x1024) ![1, 1, 0, 0] S1x1x1x1024.size inb).toLoadRect f11 = a1)) :
    iprop(hold c arg1 f1
    ∗ hold c arg2 f2
    ∗ hold c arg3 f3
    ∗ hold c arg4 f4
    ∗ hold c arg5 f5
    ∗ hold c arg6 f6
    ∗ hold c arg7 f7
    ∗ hold c arg8 f8
    ∗ hold c arg9 f9
    ∗ hold c arg10 f10
    ∗ hold c arg11 f11
    ∗ hold c arg12 f12) ⊢ wp frame (wpE (defs₀ (F := F)) 𝒱₀ (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 v66 k (a14, a15, a16, a17, a18, a19, a20, a21, a22))
      (fun y => iprop(⌜y = yld a14 a15 a16 a17 a18 a19 a20 a21⌝ ∗ hold c arg1 f1
    ∗ hold c arg2 f2
    ∗ hold c arg3 f3
    ∗ hold c arg4 f4
    ∗ hold c arg5 f5
    ∗ (∃ g, ⌜arg6.view.read (Elt F) g = if fin then VecWindow.put (arg6.view.read (Elt F) f6) ![0, 1024 * j] S128x1024.size (finW x1 x2 pD hpD (arg8.view.read (Elt F) f8)) else arg6.view.read (Elt F) f6⌝ ∗ hold c arg6 g)
    ∗ (∃ g, ⌜(∀ inb, arg7.view.readAt (Elt F) (Rect.unit (s := S2x1x1024) ![0, 0, 0] S1x1x1024.size inb).toLoadRect g = (mSt v66 d1 a19 (scS kt1 q10) (smS kt1 q10) (mSt v66 d0 a17 s0 sm0 m0))) ∧ (∀ inb, arg7.view.readAt (Elt F) (Rect.unit (s := S2x1x1024) ![1, 0, 0] S1x1x1024.size inb).toLoadRect g = (mSt v66 d1 a19 (scS kt1 q11) (smS kt1 q11) (mSt v66 d0 a17 s1 sm1 m1)))⌝ ∗ hold c arg7 g)
    ∗ (∃ g, ⌜arg8.view.read (Elt F) g = (accPut p2 1 hp2 (by omega) v2 (aNew v66 d0 a17 s1 sm1 m1) (pNew v66 d0 a17 s1 sm1 m1) (accPut p2 0 hp2 (by omega) v2 (aNew v66 d0 a17 s0 sm0 m0) (pNew v66 d0 a17 s0 sm0 m0) (accPut p3 1 hp3 (by omega) v3 a1 p1 (accPut p3 0 hp3 (by omega) v3 a0 p0 (arg8.view.read (Elt F) f8)))))⌝ ∗ hold c arg8 g)
    ∗ (∃ g, ⌜(∀ inb, arg9.view.readAt (Elt F) (Rect.unit (s := S2x1024x1024) ![0, 0, 0] S1x1024x1024.size inb).toLoadRect g = (scS kt2 q20)) ∧ (∀ inb, arg9.view.readAt (Elt F) (Rect.unit (s := S2x1024x1024) ![1, 0, 0] S1x1024x1024.size inb).toLoadRect g = (scS kt2 q21))⌝ ∗ hold c arg9 g)
    ∗ (∃ g, ⌜(∀ inb, arg10.view.readAt (Elt F) (Rect.unit (s := S2x2x1024x1024) ![1, 0, 0, 0] S1x1x1024x1024.size inb).toLoadRect g = (pNew v66 d1 a19 (scS kt1 q10) (smS kt1 q10) (mSt v66 d0 a17 s0 sm0 m0))) ∧ (∀ inb, arg10.view.readAt (Elt F) (Rect.unit (s := S2x2x1024x1024) ![1, 1, 0, 0] S1x1x1024x1024.size inb).toLoadRect g = (pNew v66 d1 a19 (scS kt1 q11) (smS kt1 q11) (mSt v66 d0 a17 s1 sm1 m1)))⌝ ∗ hold c arg10 g)
    ∗ (∃ g, ⌜(∀ inb, arg11.view.readAt (Elt F) (Rect.unit (s := S2x2x1x1024) ![1, 0, 0, 0] S1x1x1x1024.size inb).toLoadRect g = (aNew v66 d1 a19 (scS kt1 q10) (smS kt1 q10) (mSt v66 d0 a17 s0 sm0 m0))) ∧ (∀ inb, arg11.view.readAt (Elt F) (Rect.unit (s := S2x2x1x1024) ![1, 1, 0, 0] S1x1x1x1024.size inb).toLoadRect g = (aNew v66 d1 a19 (scS kt1 q11) (smS kt1 q11) (mSt v66 d0 a17 s1 sm1 m1)))⌝ ∗ hold c arg11 g)
    ∗ (∃ g, ⌜(∀ inb, arg12.view.readAt (Elt F) (Rect.unit (s := S2x1x1024) ![0, 0, 0] S1x1x1024.size inb).toLoadRect g = (smS kt2 q20)) ∧ (∀ inb, arg12.view.readAt (Elt F) (Rect.unit (s := S2x1x1024) ![1, 0, 0] S1x1x1024.size inb).toLoadRect g = (smS kt2 q21))⌝ ∗ hold c arg12 g))) := by
  have b31 : ∀ inb f', arg8.view.readAt (Elt F) (Rect.unit (s := S2x2x144x1024) (k0_off31 a14) S1x1x144x1024.size inb).toLoadRect f'
      = VecWindow.window (arg8.view.read (Elt F) f') ![p3, 0, 0, 0] S1x1x144x1024.size (inb8 hp3 (by omega)) := fun inb f' => View.readAt_unit _ f' inb e31 _
  have b32 : ∀ inb f', arg8.view.readAt (Elt F) (Rect.unit (s := S2x2x144x1024) (k0_off32 a14) S1x1x144x1024.size inb).toLoadRect f'
      = VecWindow.window (arg8.view.read (Elt F) f') ![p3, 1, 0, 0] S1x1x144x1024.size (inb8 hp3 (by omega)) := fun inb f' => View.readAt_unit _ f' inb e32 _
  have b37 : ∀ inb f', arg8.view.readAt (Elt F) (Rect.unit (s := S2x2x144x1024) (k0_off37 a16) S1x1x144x1024.size inb).toLoadRect f'
      = VecWindow.window (arg8.view.read (Elt F) f') ![p2, 0, 0, 0] S1x1x144x1024.size (inb8 hp2 (by omega)) := fun inb f' => View.readAt_unit _ f' inb e37 _
  have b38 : ∀ inb f', arg8.view.readAt (Elt F) (Rect.unit (s := S2x2x144x1024) (k0_off38 a16) S1x1x144x1024.size inb).toLoadRect f'
      = VecWindow.window (arg8.view.read (Elt F) f') ![p2, 1, 0, 0] S1x1x144x1024.size (inb8 hp2 (by omega)) := fun inb f' => View.readAt_unit _ f' inb e38 _

  dsimp only [k0_off30, k0_off31, k0_off32, k0_off33, k0_off34, k0_off35, k0_off36, k0_off37, k0_off38, k0_off39, k0_off40, k0_off41] at hk1 hq10 hq11 hk2 hq20 hq21 hv3 hv2 hx1 hx2 hs0 hsm0 hm0 hp0 ha0 hs1 hsm1 hm1 hp1 ha1 b31 b32 b37 b38
  rcases hv with ⟨rfl, rfl, h2⟩ | ⟨rfl, rfl, h2, h3⟩ | ⟨rfl, rfl, h2, h3⟩ <;> rcases hfin with ⟨rfl, h1⟩ | ⟨rfl, h1⟩
  all_goals
    iintro ⟨H1, H2, H3, H4, H5, H6, H7, H8, H9, H10, H11, H12⟩
    sl_unfold [k0_t1_body]
    sl_exec
    sl_step
    isplitr
    · ipureintro; rfl
    isplitl [H1]; · iexact H1
    isplitl [H2]; · iexact H2
    isplitl [H3]; · iexact H3
    isplitl [H4]; · iexact H4
    isplitl [H5]; · iexact H5
    isplitl [H6]
    · iexists _
      isplitr; swap
      · iexact H6
      ipureintro
      sl_unfold_words
      first
        | rfl
        | (obtain ⟨e1, e2, e3, e4, e5⟩ := eD rfl
           rw [if_pos rfl]
           refine fin_chain arg8.view f8 arg6.view f6 pD j hpD e1 e2 e3 e4 e5 (k0_off1_inb a22 hw1 h1) (k0_off2_inb a22 hw1 h1) (k0_off3_inb a22 hw1 h1) (k0_off4_inb a22 hw1 h1) (k0_off5_inb a22 hw1 h1) x1 x2 _ ?_
           dsimp only [k0_off1, k0_off2, k0_off3, k0_off4, k0_off5]
           try simp only [hx1, hx2]
           rfl)
    isplitl [H7]
    · iexists _
      isplitr; swap
      · iexact H7
      ipureintro
      sl_unfold_words
      dsimp only
      refine ⟨fun inb => ?_, fun inb => ?_⟩
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
    isplitl [H8]
    · iexists _
      isplitr; swap
      · iexact H8
      ipureintro
      sl_unfold_words
      dsimp only
      refine acc_chain _ _ p3 p2 hp3 hp2 e31 e32 e37 e38 _ _ _ _ _ _ _ _ v3 v2 _ _ _ _ _ _ _ _ ?_ ?_ ?_ ?_
      all_goals dsimp only [k0_off31, k0_off32, k0_off37, k0_off38]
      all_goals try simp (disch := decide) only [readCov_same, readCov_skip, hk1, hq10, hq11, hk2, hq20, hq21, hv3, hv2, hx1, hx2, hs0, hsm0, hm0, hp0, ha0, hs1, hsm1, hm1, hp1, ha1]
      all_goals rfl
    isplitl [H9]
    · iexists _
      isplitr; swap
      · iexact H9
      ipureintro
      sl_unfold_words
      dsimp only
      refine ⟨fun inb => ?_, fun inb => ?_⟩
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
    isplitl [H10]
    · iexists _
      isplitr; swap
      · iexact H10
      ipureintro
      sl_unfold_words
      dsimp only
      refine ⟨fun inb => ?_, fun inb => ?_⟩
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
    isplitl [H11]
    · iexists _
      isplitr; swap
      · iexact H11
      ipureintro
      sl_unfold_words
      dsimp only
      refine ⟨fun inb => ?_, fun inb => ?_⟩
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
    · iexists _
      isplitr; swap
      · iexact H12
      ipureintro
      sl_unfold_words
      dsimp only
      refine ⟨fun inb => ?_, fun inb => ?_⟩
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
      · simp (disch := decide) only [readAt_same, readAt_skip, readCov_same, readCov_skip, hk1, hq10, hq11, hk2, hq20, hq21, hv3, hv2, hx1, hx2, hs0, hsm0, hm0, hp0, ha0, hs1, hsm1, hm1, hp1, ha1]; rfl
end
end Cert.Proof.KernelIdeal

end
-- ==== Proof.KernelIdeal.Seq.lean ====
/- What the kernel's buffers hold before each trip, as sequences over the pairs it visits, and the facts about the
   carried words that give the rectangles and the branch of every trip. The words' facts are decided by evaluation. -/
module

public import proofs.«01_k».proof.Proof.Walk
public import proofs.«01_k».proof.Proof.KernelIdeal.Spec

@[expose] public section

set_option maxRecDepth 16384

noncomputable section

namespace Cert.Proof.KernelIdeal

open Cert.KernelIdeal Cert.KernelIdeal.Gen Cert.Proof.Walk
open Idealize.ShloMosaic Idealize.ShloMosaic.TcCoe

variable {F : FTy → Type} [FloatOps F] [Named F]

/-- The row finished just before trip `k`. -/
def row : ℕ → Option ℕ
  | 0 => none
  | k + 1 => ends k
/-- That row's number (0 for none). -/
abbrev rowN (k : ℕ) : ℕ := (row k).getD 0
/-- The half of the accumulator that the `n`-th pair's row uses. -/
abbrev par (n : ℕ) : ℕ := (q n).1 % 2
/-- Whether the `n`-th pair is on the diagonal. -/
abbrev dg (n : ℕ) : Bool := decide ((q n).2 = (q n).1)
/-- The query tile of the `n`-th pair, held to the last. -/
abbrev ti (n : ℕ) : ℕ := min (q n).1 15
/-- The key tile of the `n`-th pair, held to the last. -/
abbrev tt (n : ℕ) : ℕ := min (q n).2 15

theorem par_lt (n : ℕ) : par n < 2 := Nat.mod_lt _ (by decide)
theorem mod2_lt (n : ℕ) : n % 2 < 2 := Nat.mod_lt _ (by decide)

theorem inbK (n : ℕ) : ∀ a, (![1024 * tt n, 0] : Fin 2 → ℕ) a + S1024x128.size a ≤ S16384x128.size a := by
  have := Nat.min_le_right (q n).2 15
  intro a; fin_cases a <;> simp [tt] <;> omega
theorem inbV (n : ℕ) : ∀ a, (![0, 1024 * tt n] : Fin 2 → ℕ) a + S144x1024.size a ≤ S144x16384.size a := by
  have := Nat.min_le_right (q n).2 15
  intro a; fin_cases a <;> simp [tt] <;> omega
theorem inbQ (n : ℕ) (c : Fin 2) : ∀ a, (![c.val, 0, 1024 * ti n] : Fin 3 → ℕ) a + S1x128x1024.size a ≤ S2x128x16384.size a := by
  have := c.isLt
  have := Nat.min_le_right (q n).1 15
  intro a; fin_cases a <;> simp [ti] <;> omega

section
variable (v66 : IVec S1024x1024 1) (X1 : FVec F S4x64 .f32) (X2 : FVec F S128x1 .f32) (X3 : FVec F S2x128x16384 .bf16)
  (X4 : FVec F S16384x128 .bf16) (X5 : FVec F S144x16384 .bf16)

/-- The `n`-th pair's keys, queries and values. -/
def kT (n : ℕ) : FVec F S1024x128 .bf16 := VecWindow.window X4 ![1024 * tt n, 0] S1024x128.size (inbK n)
def qT (n : ℕ) (c : Fin 2) : FVec F S1x128x1024 .bf16 := VecWindow.window X3 ![c.val, 0, 1024 * ti n] S1x128x1024.size (inbQ n c)
def vT (n : ℕ) : FVec F S144x1024 .bf16 := VecWindow.window X5 ![0, 1024 * tt n] S144x1024.size (inbV n)

/-- The scores of the `n`-th pair and their column maxima. -/
def sS (n : ℕ) (c : Fin 2) : FVec F S1x1024x1024 .f32 := scS (kT X4 n) (qT X3 n c)
def xS (n : ℕ) (c : Fin 2) : FVec F S1x1x1024 .f32 := smS (kT X4 n) (qT X3 n c)

/-- The running maximum after the `n`-th pair (0 is before any). -/
def mS (c : Fin 2) : ℕ → FVec F S1x1x1024 .f32
  | 0 => fun _ => maskC
  | n + 1 => mSt v66 (dg (n + 1)) (qt (n + 1)) (sS X3 X4 (n + 1) c) (xS X3 X4 (n + 1) c) (mS c n)
/-- The `n`-th pair's weights. -/
def pS (c : Fin 2) : ℕ → FVec F S1x1x1024x1024 .bf16
  | 0 => fun _ => Scalar.ofBits .bf16 0x0000#16
  | n + 1 => pNew v66 (dg (n + 1)) (qt (n + 1)) (sS X3 X4 (n + 1) c) (xS X3 X4 (n + 1) c) (mS v66 X3 X4 c n)
/-- The `n`-th pair's rescaling. -/
def aS (c : Fin 2) : ℕ → FVec F S1x1x1x1024 .f32
  | 0 => fun _ => Scalar.ofBits .f32 0x3F800000#32
  | n + 1 => aNew v66 (dg (n + 1)) (qt (n + 1)) (sS X3 X4 (n + 1) c) (xS X3 X4 (n + 1) c) (mS v66 X3 X4 c n)
/-- The accumulator after the first `n` pairs. -/
def accS : ℕ → FVec F S2x2x144x1024 .f32
  | 0 => fun _ => Scalar.ofBits .f32 0x00000000#32
  | n + 1 => accPut (par n) 1 (par_lt n) (by omega) (vT X5 n) (aS v66 X3 X4 1 n) (pS v66 X3 X4 1 n)
      (accPut (par n) 0 (par_lt n) (by omega) (vT X5 n) (aS v66 X3 X4 0 n) (pS v66 X3 X4 0 n) (accS n))
/-- The output before trip `k`, from what it was at the start. -/
def oS (O : FVec F S128x16384 .bf16) : ℕ → FVec F S128x16384 .bf16
  | 0 => O
  | k + 1 => if (row k).isSome then VecWindow.put (oS O k) ![0, 1024 * rowN k] S128x1024.size
      (finW X1 X2 (rowN k % 2) (mod2_lt _) (accS v66 X3 X4 X5 (2 * k))) else oS O k
end

/-! ## The carried words -/

theorem branch_carry : ∀ k : Fin 69,
    (dg (2 * k + 1) = false ∧ dg (2 * k + 2) = false ∧ ¬ k0_cond2 (qi (2 * k + 1)) (qt (2 * k + 1)) (qi (2 * k + 2)) (qt (2 * k + 2)) = 1#1)
      ∨ (dg (2 * k + 1) = true ∧ dg (2 * k + 2) = false ∧ k0_cond2 (qi (2 * k + 1)) (qt (2 * k + 1)) (qi (2 * k + 2)) (qt (2 * k + 2)) = 1#1
          ∧ ¬ k0_cond3 (qi (2 * k + 1)) (qt (2 * k + 1)) (qi (2 * k + 2)) (qt (2 * k + 2)) = 1#1)
      ∨ (dg (2 * k + 1) = false ∧ dg (2 * k + 2) = true ∧ k0_cond2 (qi (2 * k + 1)) (qt (2 * k + 1)) (qi (2 * k + 2)) (qt (2 * k + 2)) = 1#1
          ∧ k0_cond3 (qi (2 * k + 1)) (qt (2 * k + 1)) (qi (2 * k + 2)) (qt (2 * k + 2)) = 1#1) := by decide +kernel
theorem row_carry : ∀ k : Fin 70, ((row k).isSome = true ∧ k0_cond1 (done k) = 1#1) ∨ ((row k).isSome = false ∧ ¬ k0_cond1 (done k) = 1#1) := by
  decide +kernel
theorem off31_carry : ∀ k : Fin 69, k0_off31 (qi (2 * k)) = ![par (2 * k), 0, 0, 0] := by decide +kernel
theorem off32_carry : ∀ k : Fin 69, k0_off32 (qi (2 * k)) = ![par (2 * k), 1, 0, 0] := by decide +kernel
theorem off37_carry : ∀ k : Fin 69, k0_off37 (qi (2 * k + 1)) = ![par (2 * k + 1), 0, 0, 0] := by decide +kernel
theorem off38_carry : ∀ k : Fin 69, k0_off38 (qi (2 * k + 1)) = ![par (2 * k + 1), 1, 0, 0] := by decide +kernel
theorem offD_carry : ∀ k : Fin 70, (row k).isSome = true → k0_off1 (done k) = ![rowN k % 2, 0, 0, 0] ∧ k0_off2 (done k) = ![rowN k % 2, 0, 128, 0]
    ∧ k0_off3 (done k) = ![rowN k % 2, 1, 0, 0] ∧ k0_off4 (done k) = ![rowN k % 2, 1, 128, 0] ∧ k0_off5 (done k) = ![0, 1024 * rowN k] := by
  decide +kernel
theorem off30_carry : ∀ k : Fin 69, k0_off30 (qt (2 * k)) = ![0, 1024 * tt (2 * k)] := by decide +kernel
theorem off36_carry : ∀ k : Fin 69, k0_off36 (qt (2 * k + 1)) = ![0, 1024 * tt (2 * k + 1)] := by decide +kernel
theorem off33_carry : ∀ k : Fin 69, k0_off33 (qt (2 * k + 2)) = ![1024 * tt (2 * k + 2), 0] := by decide +kernel
theorem off39_carry : ∀ k : Fin 69, k0_off39 (qt (2 * k + 3)) = ![1024 * tt (2 * k + 3), 0] := by decide +kernel
theorem off34_carry : ∀ k : Fin 69, k0_off34 (qi (2 * k + 2)) = ![(0 : Fin 2).val, 0, 1024 * ti (2 * k + 2)] := by decide +kernel
theorem off35_carry : ∀ k : Fin 69, k0_off35 (qi (2 * k + 2)) = ![(1 : Fin 2).val, 0, 1024 * ti (2 * k + 2)] := by decide +kernel
theorem off40_carry : ∀ k : Fin 69, k0_off40 (qi (2 * k + 3)) = ![(0 : Fin 2).val, 0, 1024 * ti (2 * k + 3)] := by decide +kernel
theorem off41_carry : ∀ k : Fin 69, k0_off41 (qi (2 * k + 3)) = ![(1 : Fin 2).val, 0, 1024 * ti (2 * k + 3)] := by decide +kernel
theorem off42_end : k0_off42 (done 69) = ![15 % 2, 0, 0, 0] := by decide +kernel
theorem off43_end : k0_off43 (done 69) = ![15 % 2, 0, 128, 0] := by decide +kernel
theorem off44_end : k0_off44 (done 69) = ![15 % 2, 1, 0, 0] := by decide +kernel
theorem off45_end : k0_off45 (done 69) = ![15 % 2, 1, 128, 0] := by decide +kernel
theorem off46_end : k0_off46 (done 69) = ![0, 1024 * 15] := by decide +kernel
theorem cond4_end : k0_cond4 (done 69) = 1#1 := by decide +kernel
theorem row_end : row 69 = some 15 := by decide +kernel

end Cert.Proof.KernelIdeal

end
-- ==== Proof.KernelIdeal.LoopVal.lean ====
/- What one head's run leaves in the output: the loop by an invariant that gives every buffer as the sequences of `Seq`
   do, and the body around it. -/
module

public import proofs.«01_k».proof.Proof.KernelIdeal.TripVal
public import proofs.«01_k».proof.Proof.KernelIdeal.Seq

@[expose] public section

set_option maxRecDepth 16384

noncomputable section

namespace Cert.Proof.KernelIdeal.Val

open Cert.KernelIdeal Cert.KernelIdeal.Gen Cert.Proof.Walk Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips_eq : k0_t1_loop.trips = 69 := by decide

section
variable (c : Dev nD) (arg1 : Memref sig .tc .vmem S4x64 .f32) (harg1 : arg1.IsWhole) (arg2 : Memref sig .tc .vmem S128x1 .f32) (harg2 : arg2.IsWhole) (arg3 : Memref sig .tc .vmem S2x128x16384 .bf16) (harg3 : arg3.IsWhole) (arg4 : Memref sig .tc .vmem S16384x128 .bf16) (harg4 : arg4.IsWhole) (arg5 : Memref sig .tc .vmem S144x16384 .bf16) (harg5 : arg5.IsWhole) (arg6 : Memref sig .tc .vmem S128x16384 .bf16) (harg6 : arg6.IsWhole) (arg7 : Memref sig .tc .vmem S2x1x1024 .f32) (harg7 : arg7.IsWhole) (arg8 : Memref sig .tc .vmem S2x2x144x1024 .f32) (harg8 : arg8.IsWhole) (arg9 : Memref sig .tc .vmem S2x1024x1024 .f32) (harg9 : arg9.IsWhole) (arg10 : Memref sig .tc .vmem S2x2x1024x1024 .bf16) (harg10 : arg10.IsWhole) (arg11 : Memref sig .tc .vmem S2x2x1x1024 .f32) (harg11 : arg11.IsWhole) (arg12 : Memref sig .tc .vmem S2x1x1024 .f32) (harg12 : arg12.IsWhole)

/-- What is held before trip `k`. -/
abbrev resVal (v66 : IVec S1024x1024 1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (k : ℕ) : sProp 𝕄 :=
  iprop(hold c arg1 f1
    ∗ hold c arg2 f2
    ∗ hold c arg3 f3
    ∗ hold c arg4 f4
    ∗ hold c arg5 f5
    ∗ (∃ g, ⌜arg6.view.read (Elt F) g = oS v66 (arg1.view.read (Elt F) f1) (arg2.view.read (Elt F) f2) (arg3.view.read (Elt F) f3) (arg4.view.read (Elt F) f4) (arg5.view.read (Elt F) f5) (arg6.view.read (Elt F) f6) k⌝ ∗ hold c arg6 g)
    ∗ (∃ g, ⌜(7 : ℕ) = 7 ∧ (∀ inb, arg7.view.readAt (Elt F) (Rect.unit (s := S2x1x1024) ![0, 0, 0] S1x1x1024.size inb).toLoadRect g = mS v66 (arg3.view.read (Elt F) f3) (arg4.view.read (Elt F) f4) 0 (2 * k)) ∧ (∀ inb, arg7.view.readAt (Elt F) (Rect.unit (s := S2x1x1024) ![1, 0, 0] S1x1x1024.size inb).toLoadRect g = mS v66 (arg3.view.read (Elt F) f3) (arg4.view.read (Elt F) f4) 1 (2 * k))⌝ ∗ hold c arg7 g)
    ∗ (∃ g, ⌜(8 : ℕ) = 8 ∧ arg8.view.read (Elt F) g = accS v66 (arg3.view.read (Elt F) f3) (arg4.view.read (Elt F) f4) (arg5.view.read (Elt F) f5) (2 * k)⌝ ∗ hold c arg8 g)
    ∗ (∃ g, ⌜(9 : ℕ) = 9 ∧ (∀ inb, arg9.view.readAt (Elt F) (Rect.unit (s := S2x1024x1024) ![0, 0, 0] S1x1024x1024.size inb).toLoadRect g = sS (arg3.view.read (Elt F) f3) (arg4.view.read (Elt F) f4) (2 * k + 1) 0) ∧ (∀ inb, arg9.view.readAt (Elt F) (Rect.unit (s := S2x1024x1024) ![1, 0, 0] S1x1024x1024.size inb).toLoadRect g = sS (arg3.view.read (Elt F) f3) (arg4.view.read (Elt F) f4) (2 * k + 1) 1)⌝ ∗ hold c arg9 g)
    ∗ (∃ g, ⌜(10 : ℕ) = 10 ∧ (∀ inb, arg10.view.readAt (Elt F) (Rect.unit (s := S2x2x1024x1024) ![1, 0, 0, 0] S1x1x1024x1024.size inb).toLoadRect g = pS v66 (arg3.view.read (Elt F) f3) (arg4.view.read (Elt F) f4) 0 (2 * k)) ∧ (∀ inb, arg10.view.readAt (Elt F) (Rect.unit (s := S2x2x1024x1024) ![1, 1, 0, 0] S1x1x1024x1024.size inb).toLoadRect g = pS v66 (arg3.view.read (Elt F) f3) (arg4.view.read (Elt F) f4) 1 (2 * k))⌝ ∗ hold c arg10 g)
    ∗ (∃ g, ⌜(11 : ℕ) = 11 ∧ (∀ inb, arg11.view.readAt (Elt F) (Rect.unit (s := S2x2x1x1024) ![1, 0, 0, 0] S1x1x1x1024.size inb).toLoadRect g = aS v66 (arg3.view.read (Elt F) f3) (arg4.view.read (Elt F) f4) 0 (2 * k)) ∧ (∀ inb, arg11.view.readAt (Elt F) (Rect.unit (s := S2x2x1x1024) ![1, 1, 0, 0] S1x1x1x1024.size inb).toLoadRect g = aS v66 (arg3.view.read (Elt F) f3) (arg4.view.read (Elt F) f4) 1 (2 * k))⌝ ∗ hold c arg11 g)
    ∗ (∃ g, ⌜(12 : ℕ) = 12 ∧ (∀ inb, arg12.view.readAt (Elt F) (Rect.unit (s := S2x1x1024) ![0, 0, 0] S1x1x1024.size inb).toLoadRect g = xS (arg3.view.read (Elt F) f3) (arg4.view.read (Elt F) f4) (2 * k + 1) 0) ∧ (∀ inb, arg12.view.readAt (Elt F) (Rect.unit (s := S2x1x1024) ![1, 0, 0] S1x1x1024.size inb).toLoadRect g = xS (arg3.view.read (Elt F) f3) (arg4.view.read (Elt F) f4) (2 * k + 1) 1)⌝ ∗ hold c arg12 g))

set_option warn.classDefReducibility false in
set_option maxHeartbeats 1000000 in
/-- The loop's invariant. -/
@[sl_loop] def loopVal (i : grid0.Coords) (v66 : IVec S1024x1024 1) (init : _) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 v66 init where
  inv k acc := iprop(⌜acc = carry k⌝ ∗ resVal c arg1 arg2 arg3 arg4 arg5 arg6 arg7 arg8 arg9 arg10 arg11 arg12 v66 f1 f2 f3 f4 f5 f6 k)
  step k acc := by
    have hk : k.val < 69 := lt_of_lt_of_eq k.isLt trips_eq
    iintro ⟨%ha, H1, H2, H3, H4, H5, ⟨%g6, %h6, H6⟩, ⟨%g7, %h7, H7⟩, ⟨%g8, %h8, H8⟩, ⟨%g9, %h9, H9⟩, ⟨%g10, %h10, H10⟩, ⟨%g11, %h11, H11⟩, ⟨%g12, %h12, H12⟩⟩
    subst ha
    iapply (wp_wand_r Idealize.ShloMosaic.frame (wpE (defs₀ (F := F)) 𝒱₀ (c : Thread nD τ) none) Set.univ)
    isplitl [H1 H2 H3 H4 H5 H6 H7 H8 H9 H10 H11 H12]
    · iapply (trip_val c arg1 harg1 arg2 harg2 arg3 harg3 arg4 harg4 arg5 harg5 arg6 harg6 arg7 harg7 arg8 harg8 arg9 harg9 arg10 harg10 arg11 harg11 arg12 harg12 i v66 k (qi (2 * k.val)) (qt (2 * k.val)) (qi (2 * k.val + 1)) (qt (2 * k.val + 1)) (qi (2 * k.val + 2)) (qt (2 * k.val + 2)) (qi (2 * k.val + 3)) (qt (2 * k.val + 3)) (done k.val)
        (dg (2 * k.val + 1)) (dg (2 * k.val + 2)) (row k.val).isSome (branch_carry ⟨k, hk⟩) (row_carry ⟨k, by omega⟩)
        (chk4_carry ⟨k, hk⟩) (chk3_carry ⟨k, hk⟩) (chk2_carry ⟨k, hk⟩) (chk1_carry ⟨k, by omega⟩)
        (par (2 * k.val)) (par (2 * k.val + 1)) (rowN k.val % 2) (rowN k.val) (par_lt _) (par_lt _) (mod2_lt _)
        (off31_carry ⟨k, hk⟩) (off32_carry ⟨k, hk⟩) (off37_carry ⟨k, hk⟩) (off38_carry ⟨k, hk⟩) (offD_carry ⟨k, by omega⟩)
        f1 f2 f3 f4 f5 g6 g7 g8 g9 g10 g11 g12
        (kT (arg4.view.read (Elt F) f4) (2 * k.val + 2)) (qT (arg3.view.read (Elt F) f3) (2 * k.val + 2) 0) (qT (arg3.view.read (Elt F) f3) (2 * k.val + 2) 1)
        (kT (arg4.view.read (Elt F) f4) (2 * k.val + 3)) (qT (arg3.view.read (Elt F) f3) (2 * k.val + 3) 0) (qT (arg3.view.read (Elt F) f3) (2 * k.val + 3) 1)
        (vT (arg5.view.read (Elt F) f5) (2 * k.val)) (vT (arg5.view.read (Elt F) f5) (2 * k.val + 1)) (arg1.view.read (Elt F) f1) (arg2.view.read (Elt F) f2)
        _ _ _ _ _ _ _ _ _ _
        (fun inb => View.readAt_unit arg4.view f4 inb (off33_carry ⟨k, hk⟩) (inbK _))
        (fun inb => View.readAt_unit arg3.view f3 inb (off34_carry ⟨k, hk⟩) (inbQ _ 0))
        (fun inb => View.readAt_unit arg3.view f3 inb (off35_carry ⟨k, hk⟩) (inbQ _ 1))
        (fun inb => View.readAt_unit arg4.view f4 inb (off39_carry ⟨k, hk⟩) (inbK _))
        (fun inb => View.readAt_unit arg3.view f3 inb (off40_carry ⟨k, hk⟩) (inbQ _ 0))
        (fun inb => View.readAt_unit arg3.view f3 inb (off41_carry ⟨k, hk⟩) (inbQ _ 1))
        (fun inb => View.readAt_unit arg5.view f5 inb (off30_carry ⟨k, hk⟩) (inbV _))
        (fun inb => View.readAt_unit arg5.view f5 inb (off36_carry ⟨k, hk⟩) (inbV _))
        (fun inb => View.readAt_full arg1.view f1 inb) (fun inb => View.readAt_full arg2.view f2 inb)
        h9.2.1 h12.2.1 h7.2.1 h10.2.1 h11.2.1 h9.2.2 h12.2.2 h7.2.2 h10.2.2 h11.2.2)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro %y ⟨%hy, H1, H2, H3, H4, H5, ⟨%y6, %z6, H6⟩, ⟨%y7, %z7, H7⟩, ⟨%y8, %z8, H8⟩, ⟨%y9, %z9, H9⟩, ⟨%y10, %z10, H10⟩, ⟨%y11, %z11, H11⟩, ⟨%y12, %z12, H12⟩⟩
      isplitr
      · ipureintro; exact hy.trans (yld_carry ⟨k, hk⟩)
      isplitl [H1]; · iexact H1
      isplitl [H2]; · iexact H2
      isplitl [H3]; · iexact H3
      isplitl [H4]; · iexact H4
      isplitl [H5]; · iexact H5
      isplitl [H6]
      · iexists y6
        isplitr; swap
        · iexact H6
        ipureintro
        rw [z6, h6, h8.2]; rfl
      isplitl [H7]
      · iexists y7
        isplitr; swap
        · iexact H7
        ipureintro
        exact ⟨rfl, z7⟩
      isplitl [H8]
      · iexists y8
        isplitr; swap
        · iexact H8
        ipureintro
        rw [z8, h8.2]; exact ⟨rfl, rfl⟩
      isplitl [H9]
      · iexists y9
        isplitr; swap
        · iexact H9
        ipureintro
        exact ⟨rfl, z9⟩
      isplitl [H10]
      · iexists y10
        isplitr; swap
        · iexact H10
        ipureintro
        exact ⟨rfl, z10⟩
      isplitl [H11]
      · iexists y11
        isplitr; swap
        · iexact H11
        ipureintro
        exact ⟨rfl, z11⟩
      · iexists y12
        isplitr; swap
        · iexact H12
        ipureintro
        exact ⟨rfl, z12⟩
end
end Cert.Proof.KernelIdeal.Val

end
-- ==== Proof.KernelIdeal.BodyVal.lean ====
/- The body at one head: what it leaves in the output is the last term of the sequence of outputs. -/
module

public import proofs.«01_k».proof.Proof.KernelIdeal.LoopVal

@[expose] public section

set_option maxRecDepth 16384

noncomputable section

namespace Cert.Proof.KernelIdeal.Val

open Cert.KernelIdeal Cert.KernelIdeal.Gen Cert.Proof.Walk Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The mask of a diagonal block: the key's chunk is at most the query's. -/
def V66 : IVec S1024x1024 1 :=
  k0_pay149 (iota .tc S1024x1024 32 [0] iota_S1024x1024_d0_w32) (iota .tc S1024x1024 32 [1] iota_S1024x1024_d1_w32) 64#32 k0_pay147 k0_pay148
    (Scalar.extui (Scalar.cmpi .sgt 64#32 0#32)) (Scalar.extui (Scalar.cmpi .slt 64#32 0#32))

section
variable (c : Dev nD) (arg1 : Memref sig .tc .vmem S4x64 .f32) (harg1 : arg1.IsWhole) (arg2 : Memref sig .tc .vmem S128x1 .f32) (harg2 : arg2.IsWhole) (arg3 : Memref sig .tc .vmem S2x128x16384 .bf16) (harg3 : arg3.IsWhole) (arg4 : Memref sig .tc .vmem S16384x128 .bf16) (harg4 : arg4.IsWhole) (arg5 : Memref sig .tc .vmem S144x16384 .bf16) (harg5 : arg5.IsWhole) (arg6 : Memref sig .tc .vmem S128x16384 .bf16) (harg6 : arg6.IsWhole) (arg7 : Memref sig .tc .vmem S2x1x1024 .f32) (harg7 : arg7.IsWhole) (arg8 : Memref sig .tc .vmem S2x2x144x1024 .f32) (harg8 : arg8.IsWhole) (arg9 : Memref sig .tc .vmem S2x1024x1024 .f32) (harg9 : arg9.IsWhole) (arg10 : Memref sig .tc .vmem S2x2x1024x1024 .bf16) (harg10 : arg10.IsWhole) (arg11 : Memref sig .tc .vmem S2x2x1x1024 .f32) (harg11 : arg11.IsWhole) (arg12 : Memref sig .tc .vmem S2x1x1024 .f32) (harg12 : arg12.IsWhole)

theorem offs_last : k0_off42 (done (Scf.trips k0_t1_loop.lb k0_t1_loop.ub k0_t1_loop.st)) = ![15 % 2, 0, 0, 0] ∧ k0_off43 (done (Scf.trips k0_t1_loop.lb k0_t1_loop.ub k0_t1_loop.st)) = ![15 % 2, 0, 128, 0] ∧ k0_off44 (done (Scf.trips k0_t1_loop.lb k0_t1_loop.ub k0_t1_loop.st)) = ![15 % 2, 1, 0, 0]
    ∧ k0_off45 (done (Scf.trips k0_t1_loop.lb k0_t1_loop.ub k0_t1_loop.st)) = ![15 % 2, 1, 128, 0] ∧ k0_off46 (done (Scf.trips k0_t1_loop.lb k0_t1_loop.ub k0_t1_loop.st)) = ![0, 1024 * 15] := by decide +kernel

/-- The last row's blocks, closed after the loop, make the last term of the sequence of outputs. -/
theorem oS_last (v66 : IVec S1024x1024 1) (X1 : FVec F S4x64 .f32) (X2 : FVec F S128x1 .f32) (X3 : FVec F S2x128x16384 .bf16)
    (X4 : FVec F S16384x128 .bf16) (X5 : FVec F S144x16384 .bf16) (O A : FVec F S128x16384 .bf16) (B : FVec F S2x2x144x1024 .f32)
    (h6 : A = oS v66 X1 X2 X3 X4 X5 O (Scf.trips k0_t1_loop.lb k0_t1_loop.ub k0_t1_loop.st)) (h8 : (8 : ℕ) = 8 ∧ B = accS v66 X3 X4 X5 (2 * (Scf.trips k0_t1_loop.lb k0_t1_loop.ub k0_t1_loop.st))) (hp : 15 % 2 < 2) :
    VecWindow.put A ![0, 1024 * 15] S128x1024.size (finW X1 X2 (15 % 2) hp B) = oS v66 X1 X2 X3 X4 X5 O 70 := by
  have ht : (Scf.trips k0_t1_loop.lb k0_t1_loop.ub k0_t1_loop.st) = 69 := by decide
  rw [h6, h8.2, ht]
  exact (if_pos (by rw [row_end]; rfl) : oS v66 X1 X2 X3 X4 X5 O (69 + 1) = _).symm

set_option maxHeartbeats 4000000 in
/-- What the body leaves in the output. -/
theorem body_val (i : grid0.Coords) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    iprop(hold c arg1 f1
    ∗ hold c arg2 f2
    ∗ hold c arg3 f3
    ∗ hold c arg4 f4
    ∗ hold c arg5 f5
    ∗ hold c arg6 f6
    ∗ hold c arg7 f7
    ∗ hold c arg8 f8
    ∗ hold c arg9 f9
    ∗ hold c arg10 f10
    ∗ hold c arg11 f11
    ∗ hold c arg12 f12) ⊢ wp frame (wpE (defs₀ (F := F)) 𝒱₀ (c : Thread nD τ) none) Set.univ
      (cc0_diff_attn (F := F) i arg1 harg1 arg2 harg2 arg3 harg3 arg4 harg4 arg5 harg5 arg6 harg6 arg7 harg7 arg8 harg8 arg9 harg9 arg10 harg10 arg11 harg11 arg12 harg12)
      (fun _ => iprop(hold c arg1 f1
    ∗ hold c arg2 f2
    ∗ hold c arg3 f3
    ∗ hold c arg4 f4
    ∗ hold c arg5 f5
    ∗ (∃ g, ⌜arg6.view.read (Elt F) g = oS V66 (arg1.view.read (Elt F) f1) (arg2.view.read (Elt F) f2) (arg3.view.read (Elt F) f3) (arg4.view.read (Elt F) f4) (arg5.view.read (Elt F) f5) (arg6.view.read (Elt F) f6) 70⌝ ∗ hold c arg6 g)
    ∗ (∃ g, hold c arg7 g) ∗ (∃ g, hold c arg8 g) ∗ (∃ g, hold c arg9 g) ∗ (∃ g, hold c arg10 g) ∗ (∃ g, hold c arg11 g) ∗ (∃ g, hold c arg12 g))) := by
  have hx1 : ∀ inb, arg1.view.readAt (Elt F) (Rect.unit (s := S4x64) ![0, 0] S4x64.size inb).toLoadRect f1 = (arg1.view.read (Elt F) f1) := fun inb => View.readAt_full arg1.view f1 inb
  have hx2 : ∀ inb, arg2.view.readAt (Elt F) (Rect.unit (s := S128x1) ![0, 0] S128x1.size inb).toLoadRect f2 = (arg2.view.read (Elt F) f2) := fun inb => View.readAt_full arg2.view f2 inb
  have hk : ∀ inb, arg4.view.readAt (Elt F) (Rect.unit (s := S16384x128) ![0, 0] S1024x128.size inb).toLoadRect f4 = kT (arg4.view.read (Elt F) f4) 1 := fun inb => View.readAt_unit arg4.view f4 inb rfl (inbK 1)
  have hq0 : ∀ inb, arg3.view.readAt (Elt F) (Rect.unit (s := S2x128x16384) ![0, 0, 0] S1x128x1024.size inb).toLoadRect f3 = qT (arg3.view.read (Elt F) f3) 1 0 := fun inb => View.readAt_unit arg3.view f3 inb rfl (inbQ 1 0)
  have hq1 : ∀ inb, arg3.view.readAt (Elt F) (Rect.unit (s := S2x128x16384) ![1, 0, 0] S1x128x1024.size inb).toLoadRect f3 = qT (arg3.view.read (Elt F) f3) 1 1 := fun inb => View.readAt_unit arg3.view f3 inb rfl (inbQ 1 1)
  have hc4 := cond4_end
  have hm0 : (7 : ℕ) = 7 ∧ (∀ inb, arg7.view.readAt (Elt F) (Rect.unit (s := S2x1x1024) ![0, 0, 0] S1x1x1024.size inb).toLoadRect (arg7.view.writes (Elt F) arg7.view.junk [⟨Rect.unit (s := S2x1x1024) ![0, 0, 0] S2x1x1024.size inb_S2x1x1024_S2x1x1024_0_0_0, k0_pay143⟩]) = mS V66 (arg3.view.read (Elt F) f3) (arg4.view.read (Elt F) f4) 0 (2 * 0)) ∧ (∀ inb, arg7.view.readAt (Elt F) (Rect.unit (s := S2x1x1024) ![1, 0, 0] S1x1x1024.size inb).toLoadRect (arg7.view.writes (Elt F) arg7.view.junk [⟨Rect.unit (s := S2x1x1024) ![0, 0, 0] S2x1x1024.size inb_S2x1x1024_S2x1x1024_0_0_0, k0_pay143⟩]) = mS V66 (arg3.view.read (Elt F) f3) (arg4.view.read (Elt F) f4) 1 (2 * 0)) := by
    refine ⟨rfl, fun inb => ?_, fun inb => ?_⟩
    · rw [View.readAt_unit arg7.view _ inb rfl inb, View.read_writes_full]; rfl
    · rw [View.readAt_unit arg7.view _ inb rfl inb, View.read_writes_full]; rfl
  have ha0 : (8 : ℕ) = 8 ∧ arg8.view.read (Elt F) (arg8.view.writes (Elt F) arg8.view.junk [⟨Rect.unit (s := S2x2x144x1024) ![0, 0, 0, 0] S2x2x144x1024.size inb_S2x2x144x1024_S2x2x144x1024_0_0_0_0, k0_pay144⟩]) = accS V66 (arg3.view.read (Elt F) f3) (arg4.view.read (Elt F) f4) (arg5.view.read (Elt F) f5) (2 * 0) := by
    rw [View.read_writes_full]; exact ⟨rfl, rfl⟩
  have hs0 : (9 : ℕ) = 9 ∧ (∀ inb, arg9.view.readAt (Elt F) (Rect.unit (s := S2x1024x1024) ![0, 0, 0] S1x1024x1024.size inb).toLoadRect (arg9.view.writes (Elt F) arg9.view.junk [⟨Rect.unit (s := S2x1024x1024) ![1, 0, 0] S1x1024x1024.size inb_S2x1024x1024_S1x1024x1024_1_0_0, sS (arg3.view.read (Elt F) f3) (arg4.view.read (Elt F) f4) (2 * 0 + 1) 1⟩, ⟨Rect.unit (s := S2x1024x1024) ![0, 0, 0] S1x1024x1024.size inb_S2x1024x1024_S1x1024x1024_0_0_0, sS (arg3.view.read (Elt F) f3) (arg4.view.read (Elt F) f4) (2 * 0 + 1) 0⟩]) = sS (arg3.view.read (Elt F) f3) (arg4.view.read (Elt F) f4) (2 * 0 + 1) 0) ∧ (∀ inb, arg9.view.readAt (Elt F) (Rect.unit (s := S2x1024x1024) ![1, 0, 0] S1x1024x1024.size inb).toLoadRect (arg9.view.writes (Elt F) arg9.view.junk [⟨Rect.unit (s := S2x1024x1024) ![1, 0, 0] S1x1024x1024.size inb_S2x1024x1024_S1x1024x1024_1_0_0, sS (arg3.view.read (Elt F) f3) (arg4.view.read (Elt F) f4) (2 * 0 + 1) 1⟩, ⟨Rect.unit (s := S2x1024x1024) ![0, 0, 0] S1x1024x1024.size inb_S2x1024x1024_S1x1024x1024_0_0_0, sS (arg3.view.read (Elt F) f3) (arg4.view.read (Elt F) f4) (2 * 0 + 1) 0⟩]) = sS (arg3.view.read (Elt F) f3) (arg4.view.read (Elt F) f4) (2 * 0 + 1) 1) := by
    refine ⟨rfl, fun inb => ?_, fun inb => ?_⟩
    · simp (disch := decide) only [readAt_same, readAt_skip]
    · simp (disch := decide) only [readAt_same, readAt_skip]
  have hp0 : (10 : ℕ) = 10 ∧ (∀ inb, arg10.view.readAt (Elt F) (Rect.unit (s := S2x2x1024x1024) ![1, 0, 0, 0] S1x1x1024x1024.size inb).toLoadRect (arg10.view.writes (Elt F) arg10.view.junk [⟨Rect.unit (s := S2x2x1024x1024) ![0, 0, 0, 0] S2x2x1024x1024.size inb_S2x2x1024x1024_S2x2x1024x1024_0_0_0_0, k0_pay145⟩]) = pS V66 (arg3.view.read (Elt F) f3) (arg4.view.read (Elt F) f4) 0 (2 * 0)) ∧ (∀ inb, arg10.view.readAt (Elt F) (Rect.unit (s := S2x2x1024x1024) ![1, 1, 0, 0] S1x1x1024x1024.size inb).toLoadRect (arg10.view.writes (Elt F) arg10.view.junk [⟨Rect.unit (s := S2x2x1024x1024) ![0, 0, 0, 0] S2x2x1024x1024.size inb_S2x2x1024x1024_S2x2x1024x1024_0_0_0_0, k0_pay145⟩]) = pS V66 (arg3.view.read (Elt F) f3) (arg4.view.read (Elt F) f4) 1 (2 * 0)) := by
    refine ⟨rfl, fun inb => ?_, fun inb => ?_⟩
    · rw [View.readAt_unit arg10.view _ inb rfl inb, View.read_writes_full]; rfl
    · rw [View.readAt_unit arg10.view _ inb rfl inb, View.read_writes_full]; rfl
  have hr0 : (11 : ℕ) = 11 ∧ (∀ inb, arg11.view.readAt (Elt F) (Rect.unit (s := S2x2x1x1024) ![1, 0, 0, 0] S1x1x1x1024.size inb).toLoadRect (arg11.view.writes (Elt F) arg11.view.junk [⟨Rect.unit (s := S2x2x1x1024) ![0, 0, 0, 0] S2x2x1x1024.size inb_S2x2x1x1024_S2x2x1x1024_0_0_0_0, k0_pay146⟩]) = aS V66 (arg3.view.read (Elt F) f3) (arg4.view.read (Elt F) f4) 0 (2 * 0)) ∧ (∀ inb, arg11.view.readAt (Elt F) (Rect.unit (s := S2x2x1x1024) ![1, 1, 0, 0] S1x1x1x1024.size inb).toLoadRect (arg11.view.writes (Elt F) arg11.view.junk [⟨Rect.unit (s := S2x2x1x1024) ![0, 0, 0, 0] S2x2x1x1024.size inb_S2x2x1x1024_S2x2x1x1024_0_0_0_0, k0_pay146⟩]) = aS V66 (arg3.view.read (Elt F) f3) (arg4.view.read (Elt F) f4) 1 (2 * 0)) := by
    refine ⟨rfl, fun inb => ?_, fun inb => ?_⟩
    · rw [View.readAt_unit arg11.view _ inb rfl inb, View.read_writes_full]; rfl
    · rw [View.readAt_unit arg11.view _ inb rfl inb, View.read_writes_full]; rfl
  have hb0 : (12 : ℕ) = 12 ∧ (∀ inb, arg12.view.readAt (Elt F) (Rect.unit (s := S2x1x1024) ![0, 0, 0] S1x1x1024.size inb).toLoadRect (arg12.view.writes (Elt F) arg12.view.junk [⟨Rect.unit (s := S2x1x1024) ![1, 0, 0] S1x1x1024.size inb_S2x1x1024_S1x1x1024_1_0_0, xS (arg3.view.read (Elt F) f3) (arg4.view.read (Elt F) f4) (2 * 0 + 1) 1⟩, ⟨Rect.unit (s := S2x1x1024) ![0, 0, 0] S1x1x1024.size inb_S2x1x1024_S1x1x1024_0_0_0, xS (arg3.view.read (Elt F) f3) (arg4.view.read (Elt F) f4) (2 * 0 + 1) 0⟩]) = xS (arg3.view.read (Elt F) f3) (arg4.view.read (Elt F) f4) (2 * 0 + 1) 0) ∧ (∀ inb, arg12.view.readAt (Elt F) (Rect.unit (s := S2x1x1024) ![1, 0, 0] S1x1x1024.size inb).toLoadRect (arg12.view.writes (Elt F) arg12.view.junk [⟨Rect.unit (s := S2x1x1024) ![1, 0, 0] S1x1x1024.size inb_S2x1x1024_S1x1x1024_1_0_0, xS (arg3.view.read (Elt F) f3) (arg4.view.read (Elt F) f4) (2 * 0 + 1) 1⟩, ⟨Rect.unit (s := S2x1x1024) ![0, 0, 0] S1x1x1024.size inb_S2x1x1024_S1x1x1024_0_0_0, xS (arg3.view.read (Elt F) f3) (arg4.view.read (Elt F) f4) (2 * 0 + 1) 0⟩]) = xS (arg3.view.read (Elt F) f3) (arg4.view.read (Elt F) f4) (2 * 0 + 1) 1) := by
    refine ⟨rfl, fun inb => ?_, fun inb => ?_⟩
    · simp (disch := decide) only [readAt_same, readAt_skip]
    · simp (disch := decide) only [readAt_same, readAt_skip]
  iintro ⟨H1, H2, H3, H4, H5, H6, H7, H8, H9, H10, H11, H12⟩
  sl_exec
  sl_step
  isplitl [H1]; · iexact H1
  isplitl [H2]; · iexact H2
  isplitl [H3]; · iexact H3
  isplitl [H4]; · iexact H4
  isplitl [H5]; · iexact H5
  isplitl [H6]
  · iexists _
    isplitr; swap
    · iexact H6
    ipureintro
    sl_unfold_words
    obtain ⟨e1, e2, e3, e4, e5⟩ := offs_last
    refine (fin_chain arg8.view _ arg6.view _ (15 % 2) 15 (by decide) e1 e2 e3 e4 e5
      (fun a => by rw [e1]; exact inb8n (by decide) (by decide) a) (fun a => by rw [e2]; exact inb8l (by decide) (by decide) a)
      (fun a => by rw [e3]; exact inb8n (by decide) (by decide) a) (fun a => by rw [e4]; exact inb8l (by decide) (by decide) a)
      (fun a => by rw [e5]; exact inb6 (by decide) a) (arg1.view.read (Elt F) f1) (arg2.view.read (Elt F) f2) _ ?_).trans
      (oS_last V66 (arg1.view.read (Elt F) f1) (arg2.view.read (Elt F) f2) (arg3.view.read (Elt F) f3) (arg4.view.read (Elt F) f4) (arg5.view.read (Elt F) f5) (arg6.view.read (Elt F) f6) _ _ (by assumption) (by assumption) (by decide))
    dsimp only [k0_off42, k0_off43, k0_off44, k0_off45, k0_off46]
    rfl
  isplitl [H7]; · iexists _; iexact H7
  isplitl [H8]; · iexists _; iexact H8
  isplitl [H9]; · iexists _; iexact H9
  isplitl [H10]; · iexists _; iexact H10
  isplitl [H11]; · iexists _; iexact H11
  iexists _; iexact H12
end
end Cert.Proof.KernelIdeal.Val

end
-- ==== Proof.KernelIdeal.Mask.lean ====
/- The mask of a diagonal block: key `y` is let through for query `x` where the key's chunk of 64 is not after the query's. -/
module

public import proofs.«01_k».proof.Proof.KernelIdeal.BodyVal
public import Idealize.ShloMosaic.Lib.Pointwise

@[expose] public section

set_option maxRecDepth 16384

noncomputable section

namespace Cert.Proof.KernelIdeal.Val

open Cert.KernelIdeal Cert.KernelIdeal.Gen
open Idealize.ShloMosaic Idealize.ShloMosaic.TcCoe

/-- Division by 64 rounded down, as the kernel computes it. -/
def fdivT (a : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi .sgt 64#32 0#32)) (Scalar.extui (Scalar.cmpi .slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

theorem fdivT_eq : ∀ a : Fin 1024, fdivT (BitVec.ofNat 32 a.val) = BitVec.ofNat 32 (a.val / 64) := by decide +kernel

theorem le_small (a b : Fin 16) : IntOp.cmpi CmpIPredicate.sle (BitVec.ofNat 32 a.val) (BitVec.ofNat 32 b.val) = 1#1 ↔ a.val ≤ b.val := by
  revert a b; decide +kernel

theorem V66_apply (y x : Fin 1024) : V66 (ix2 y x) = 1#1 ↔ y.val / 64 ≤ x.val / 64 := by
  have e : V66 (ix2 y x) = IntOp.cmpi CmpIPredicate.sle (fdivT (BitVec.ofNat 32 y.val)) (fdivT (BitVec.ofNat 32 x.val)) := by
    pointwise [V66, k0_pay149, k0_pay147, k0_pay148, fdivT]
  rw [e, fdivT_eq, fdivT_eq]
  exact le_small ⟨y.val / 64, by omega⟩ ⟨x.val / 64, by omega⟩

end Cert.Proof.KernelIdeal.Val

end
-- ==== Proof.KernelIdeal.Point.lean ====
/- The arithmetic of one step of the kernel read at an index, over the extended reals. -/
module

public import proofs.«01_k».proof.Proof.KernelIdeal.Spec
public import proofs.«01_k».proof.Proof.Softmax
public import Idealize.ShloMosaic.Lib.Pointwise

@[expose] public section

set_option maxRecDepth 16384

noncomputable section

namespace Cert.Proof.KernelIdeal

open Cert.KernelIdeal Cert.KernelIdeal.Gen Cert.Proof.Softmax
open Idealize.ShloMosaic Idealize.ShloMosaic.TcCoe

/-- The idealized mask constant is the least extended real. -/
theorem maskC_eq : (maskC : Ideal .f32) = (⊥ : EReal) := rfl

theorem scS_apply (kt : FVec Ideal S1024x128 .bf16) (qv : FVec Ideal S1x128x1024 .bf16) (y x : Fin 1024) :
    scS kt qv (ix3 (0 : Fin 1) y x) = ∑ d : Fin 128, kt (ix2 y d) * qv (ix3 (0 : Fin 1) d x) := by
  pointwise [scS, scT]

theorem ofBits_negInf : Ideal.ofBits .f32 0xFF800000#32 = ⊥ := by
  simp [Ideal.ofBits, Ideal.ieee]

theorem select_eq_zero (t : BitVec 32) (a b : EReal) : Scalar.select (Scalar.cmpi .eq t 0#32) a b = if t = 0#32 then a else b := by
  by_cases h : t = 0#32
  · simp [Scalar.select, Scalar.cmpi, IntOp.cmpi, h]
  · simp [Scalar.select, Scalar.cmpi, IntOp.cmpi, h, beq_eq_false_iff_ne.2 h]

theorem smS_apply (kt : FVec Ideal S1024x128 .bf16) (qv : FVec Ideal S1x128x1024 .bf16) (x : Fin 1024) :
    smS kt qv (ix3 (0 : Fin 1) (0 : Fin 1) x)
      = (Finset.univ : Finset (Fin 1024)).fold max ⊥ fun y => scS kt qv (ix3 (0 : Fin 1) y x) := by
  pointwise [smS, scS, colMax, scT, ofBits_negInf]

theorem msk_apply (v66 : IVec S1024x1024 1) (d : Bool) (s : FVec Ideal S1x1024x1024 .f32) (y x : Fin 1024) :
    msk v66 d s (ix2 y x) = if d = true ∧ v66 (ix2 y x) ≠ 1#1 then ⊥ else s (ix3 (0 : Fin 1) y x) := by
  cases d
  · pointwise [msk]
    simp
  · pointwise [msk]
    by_cases h : v66 (ix2 y x) = 1#1 <;> simp [Scalar.select, h, maskC_eq]

theorem mNew_apply (v66 : IVec S1024x1024 1) (d : Bool) (t : BitVec 32) (s : FVec Ideal S1x1024x1024 .f32) (sm m : FVec Ideal S1x1x1024 .f32)
    (x : Fin 1024) (hsm : d = false → sm (ix3 (0 : Fin 1) (0 : Fin 1) x) = (Finset.univ : Finset (Fin 1024)).fold max ⊥ fun y => s (ix3 (0 : Fin 1) y x)) :
    mSt v66 d t s sm m (ix3 (0 : Fin 1) (0 : Fin 1) x)
      = max (if t = 0#32 then ⊥ else m (ix3 (0 : Fin 1) (0 : Fin 1) x))
        ((Finset.univ : Finset (Fin 1024)).fold max ⊥ fun y => msk v66 d s (ix2 y x)) := by
  cases d
  · pointwise [mSt, mNew, mPrev, mxs, msk, hsm rfl]
    rw [select_eq_zero, maskC_eq]
  · pointwise [mSt, mNew, mPrev, mxs, colMax, ofBits_negInf]
    rw [select_eq_zero, maskC_eq]

theorem pNew_apply (v66 : IVec S1024x1024 1) (d : Bool) (t : BitVec 32) (s : FVec Ideal S1x1024x1024 .f32) (sm m : FVec Ideal S1x1x1024 .f32)
    (y x : Fin 1024) :
    pNew v66 d t s sm m (ix4 (0 : Fin 1) (0 : Fin 1) y x)
      = Ideal.exp2 (msk v66 d s (ix2 y x) - mSt v66 d t s sm m (ix3 (0 : Fin 1) (0 : Fin 1) x)) := by
  pointwise [pNew, mSt]
  rfl

theorem aNew_apply (v66 : IVec S1024x1024 1) (d : Bool) (t : BitVec 32) (s : FVec Ideal S1x1024x1024 .f32) (sm m : FVec Ideal S1x1x1024 .f32)
    (x : Fin 1024) :
    aNew v66 d t s sm m (ix4 (0 : Fin 1) (0 : Fin 1) (0 : Fin 1) x)
      = Ideal.exp2 ((if t = 0#32 then ⊥ else m (ix3 (0 : Fin 1) (0 : Fin 1) x)) - mSt v66 d t s sm m (ix3 (0 : Fin 1) (0 : Fin 1) x)) := by
  pointwise [aNew, mSt, mPrev]
  rw [select_eq_zero, maskC_eq]
  rfl

theorem accF_apply (vt : FVec Ideal S144x1024 .bf16) (a : FVec Ideal S1x1x1x1024 .f32) (acc : FVec Ideal S1x1x144x1024 .f32)
    (p : FVec Ideal S1x1x1024x1024 .bf16) (e : Fin 144) (x : Fin 1024) :
    accF vt a acc p (ix4 (0 : Fin 1) (0 : Fin 1) e x)
      = a (ix4 (0 : Fin 1) (0 : Fin 1) (0 : Fin 1) x) * acc (ix4 (0 : Fin 1) (0 : Fin 1) e x)
        + ∑ y : Fin 1024, vt (ix2 e y) * p (ix4 (0 : Fin 1) (0 : Fin 1) y x) := by
  pointwise [accF]

/-- The mixing weight from the four vectors. -/
def lamE (x1 : FVec Ideal S4x64 .f32) : EReal :=
  Ideal.exp (∑ d : Fin 64, x1 (ix2 (0 : Fin 4) d) * x1 (ix2 (1 : Fin 4) d)) - Ideal.exp (∑ d : Fin 64, x1 (ix2 (2 : Fin 4) d) * x1 (ix2 (3 : Fin 4) d))
    + Ideal.ofBits .f32 0x3E4CCCCD#32

theorem lam_apply (x1 : FVec Ideal S4x64 .f32) : k0_pay12 (F := Ideal) x1 (ix2 (0 : Fin 1) (0 : Fin 1)) = lamE x1 := by
  pointwise [k0_pay12, lamE]

theorem finF_apply (x1 : FVec Ideal S4x64 .f32) (x2 : FVec Ideal S128x1 .f32) (n0 : FVec Ideal S1x1x128x1024 .f32) (l0 : FVec Ideal S1x1x1x1024 .f32)
    (n1 : FVec Ideal S1x1x128x1024 .f32) (l1 : FVec Ideal S1x1x1x1024 .f32) (e : Fin 128) (x : Fin 1024) :
    finF x1 x2 n0 l0 n1 l1 (ix2 e x)
      = rmsE (fun e => Ideal.div (n0 (ix4 (0 : Fin 1) (0 : Fin 1) e x)) (l0 (ix4 (0 : Fin 1) (0 : Fin 1) (0 : Fin 1) x))
          - lamE x1 * Ideal.div (n1 (ix4 (0 : Fin 1) (0 : Fin 1) e x)) (l1 (ix4 (0 : Fin 1) (0 : Fin 1) (0 : Fin 1) x)))
          (x2 (ix2 e (0 : Fin 1))) e := by
  pointwise [finF, k0_pay1, k0_pay13, k0_pay14, lam_apply, rmsE]

end Cert.Proof.KernelIdeal

end
-- ==== Proof.KernelIdeal.Inv.lean ====
/- The running softmax kept by the kernel, over the extended reals: after every pair of tiles the maximum is a real and the
   accumulator's blocks are the weighted sums over the keys met so far; at the end of every row they are complete. -/
module

public import proofs.«01_k».proof.Proof.Softmax
public import proofs.«01_k».proof.Proof.KernelIdeal.Point
public import proofs.«01_k».proof.Proof.KernelIdeal.Seq

@[expose] public section

set_option maxRecDepth 16384

noncomputable section

namespace Cert.Proof.KernelIdeal

open Cert.KernelIdeal Cert.KernelIdeal.Gen Cert.Proof.Walk Cert.Proof.Softmax
open Idealize.ShloMosaic Idealize.ShloMosaic.TcCoe

/-! ## One block of the accumulator -/

theorem accPut_apply (p c : ℕ) (hp : p < 2) (hc : c < 2) (vt : FVec Ideal S144x1024 .bf16) (a : FVec Ideal S1x1x1x1024 .f32)
    (w : FVec Ideal S1x1x1024x1024 .bf16) (x : FVec Ideal S2x2x144x1024 .f32) (p' c' : Fin 2) (e : Fin 144) (j : Fin 1024) :
    accPut p c hp hc vt a w x (ix4 p' c' e j)
      = if p'.val = p ∧ c'.val = c then a (ix4 (0 : Fin 1) (0 : Fin 1) (0 : Fin 1) j) * x (ix4 p' c' e j)
        + ∑ y : Fin 1024, vt (ix2 e y) * w (ix4 (0 : Fin 1) (0 : Fin 1) y j)
      else x (ix4 p' c' e j) := by
  unfold accPut VecWindow.put
  by_cases h : p'.val = p ∧ c'.val = c
  · rw [if_pos h]
    obtain ⟨rfl, rfl⟩ := h
    have hin : ∀ a : Fin 4, (![p'.val, c'.val, 0, 0] : Fin 4 → ℕ) a ≤ ((ix4 p' c' e j : S2x2x144x1024.Idx) a).val
        ∧ ((ix4 p' c' e j : S2x2x144x1024.Idx) a).val < (![p'.val, c'.val, 0, 0] : Fin 4 → ℕ) a + S1x1x144x1024.size a := by
      intro a
      match a with
      | ⟨0, _⟩ => exact ⟨le_refl _, Nat.lt_succ_self _⟩
      | ⟨1, _⟩ => exact ⟨le_refl _, Nat.lt_succ_self _⟩
      | ⟨2, _⟩ => exact ⟨Nat.zero_le _, by have := e.isLt; show e.val < 0 + 144; omega⟩
      | ⟨3, _⟩ => exact ⟨Nat.zero_le _, by have := j.isLt; show j.val < 0 + 1024; omega⟩
    refine (dif_pos hin).trans ?_
    have hl : Rect.unitLocal (s := S2x2x144x1024) (off := ![p'.val, c'.val, 0, 0]) (size := S1x1x144x1024.size) (ix4 p' c' e j) hin
        = ix4 (0 : Fin 1) (0 : Fin 1) e j := by
      funext a; apply Fin.ext
      match a with
      | ⟨0, _⟩ => exact Nat.sub_self _
      | ⟨1, _⟩ => exact Nat.sub_self _
      | ⟨2, _⟩ => exact Nat.sub_zero _
      | ⟨3, _⟩ => exact Nat.sub_zero _
    rw [hl, accF_apply]
    congr 2
    show x _ = x _
    congr 1
    funext a; apply Fin.ext
    match a with
    | ⟨0, _⟩ => show p'.val + 1 * 0 = p'.val; omega
    | ⟨1, _⟩ => show c'.val + 1 * 0 = c'.val; omega
    | ⟨2, _⟩ => show 0 + 1 * e.val = e.val; omega
    | ⟨3, _⟩ => show 0 + 1 * j.val = j.val; omega
  · rw [if_neg h]
    refine dif_neg fun hall => h ?_
    have h0 := hall 0
    have h1 := hall 1
    have a0 : p ≤ p'.val ∧ p'.val < p + 1 := h0
    have a1 : c ≤ c'.val ∧ c'.val < c + 1 := h1
    omega

/-! ## Facts of the walk -/

theorem walk_lt : ∀ n : Fin 137, (q n).2 ≤ (q n).1 ∧ (q n).1 < 16 := by decide +kernel
theorem walk_zero : ∀ n : Fin 137, qt n = 0#32 ↔ (q n).2 = 0 := by decide +kernel
theorem walk_prev : ∀ n : Fin 136, (q (n + 1)).2 ≠ 0 → 0 < n.val ∧ q n = ((q (n + 1)).1, (q (n + 1)).2 - 1) := by decide +kernel
/-- The trip before which row `i` has been finished. -/
abbrev trip (i : ℕ) : ℕ := (i + 1) * (i + 2) / 2 / 2 + 1
theorem walk_row : ∀ i : Fin 16, (2 * trip i = (i + 1) * (i + 2) / 2 + 1
    ∨ (2 * trip i = (i + 1) * (i + 2) / 2 + 2 ∧ par ((i + 1) * (i + 2) / 2 + 1) ≠ i % 2)) ∧ q ((i + 1) * (i + 2) / 2) = (i.val, i.val)
    ∧ 0 < (i.val + 1) * (i.val + 2) / 2 ∧ (i.val + 1) * (i.val + 2) / 2 < 137 := by decide +kernel

section
variable (v66 : IVec S1024x1024 1) (X3 : FVec Ideal S2x128x16384 .bf16) (X4 : FVec Ideal S16384x128 .bf16) (X5 : FVec Ideal S144x16384 .bf16)
variable (Q : Fin 2 → ℕ → ℕ → ℝ) (K : ℕ → ℕ → ℝ) (W : ℕ → ℕ → ℝ)

/-- The score of key `y` for query `x`, component `c`. -/
def scR (c : Fin 2) (x y : ℕ) : ℝ := ∑ d : Fin 128, K y d * Q c d x
/-- Whether query `x` may see key `y`. -/
abbrev see (x y : ℕ) : Prop := y / 64 ≤ x / 64

variable (h3 : ∀ (c : Fin 2) (d : Fin 128) (x : Fin 16384), X3 (ix3 c d x) = ((Q c d x : ℝ) : EReal))
  (h4 : ∀ (y : Fin 16384) (d : Fin 128), X4 (ix2 y d) = ((K y d : ℝ) : EReal))
  (h5 : ∀ (e : Fin 144) (y : Fin 16384), X5 (ix2 e y) = ((W e y : ℝ) : EReal))
  (h66 : ∀ y x : Fin 1024, v66 (ix2 y x) = 1#1 ↔ y.val / 64 ≤ x.val / 64)

include h3 h4 in
theorem sS_real (n : ℕ) (hn : n < 137) (c : Fin 2) (y x : Fin 1024) :
    sS X3 X4 n c (ix3 (0 : Fin 1) y x) = ((scR Q K c (1024 * (q n).1 + x) (1024 * (q n).2 + y) : ℝ) : EReal) := by
  have hw := walk_lt ⟨n, hn⟩
  simp only at hw
  rw [sS, scS_apply, scR, coe_sum]
  refine Finset.sum_congr rfl fun d _ => ?_
  rw [EReal.coe_mul]
  have ht : tt n = (q n).2 := min_eq_left (by omega)
  have hi : ti n = (q n).1 := min_eq_left (by omega)
  have hy := y.isLt
  have hx := x.isLt
  have hd := d.isLt
  congr 1
  · rw [← h4 ⟨1024 * (q n).2 + y, by omega⟩ d]
    show X4 _ = X4 _
    congr 1
    funext a; apply Fin.ext
    match a with
    | ⟨0, _⟩ => show 1024 * tt n + 1 * y.val = 1024 * (q n).2 + y; rw [ht]; omega
    | ⟨1, _⟩ => show 0 + 1 * d.val = d.val; omega
  · rw [← h3 c d ⟨1024 * (q n).1 + x, by omega⟩]
    show X3 _ = X3 _
    congr 1
    funext a; apply Fin.ext
    match a with
    | ⟨0, _⟩ => show c.val + 1 * 0 = c.val; omega
    | ⟨1, _⟩ => show 0 + 1 * d.val = d.val; omega
    | ⟨2, _⟩ => show 1024 * ti n + 1 * x.val = 1024 * (q n).1 + x; rw [hi]; omega

include h5 in
theorem vT_real (n : ℕ) (hn : n < 137) (e : Fin 144) (y : Fin 1024) :
    vT X5 n (ix2 e y) = ((W e (1024 * (q n).2 + y) : ℝ) : EReal) := by
  have hw := walk_lt ⟨n, hn⟩
  simp only at hw
  have ht : tt n = (q n).2 := min_eq_left (by omega)
  have hy := y.isLt
  rw [← h5 e ⟨1024 * (q n).2 + y, by omega⟩]
  show X5 _ = X5 _
  congr 1
  funext a; apply Fin.ext
  match a with
  | ⟨0, _⟩ => show 0 + 1 * e.val = e.val; omega
  | ⟨1, _⟩ => show 1024 * tt n + 1 * y.val = 1024 * (q n).2 + y; rw [ht]; omega

include h3 h4 h66 in
theorem msk_real (n : ℕ) (hn : n < 137) (c : Fin 2) (y x : Fin 1024) :
    msk v66 (dg n) (sS X3 X4 n c) (ix2 y x)
      = ent (see (1024 * (q n).1 + x)) (scR Q K c (1024 * (q n).1 + x)) (1024 * (q n).2) y := by
  have hw := walk_lt ⟨n, hn⟩
  simp only at hw
  have hy := y.isLt
  have hx := x.isLt
  rw [msk_apply, sS_real X3 X4 Q K h3 h4 n hn, ent]
  by_cases hd : (q n).2 = (q n).1
  · have : dg n = true := decide_eq_true hd
    by_cases hm : y.val / 64 ≤ x.val / 64
    · rw [if_neg (by rw [this]; simp [(h66 y x).2 hm]), if_pos (show (1024 * (q n).2 + y) / 64 ≤ (1024 * (q n).1 + x) / 64 by omega)]
    · rw [if_pos ⟨this, fun h => hm ((h66 y x).1 h)⟩, if_neg (show ¬ (1024 * (q n).2 + y) / 64 ≤ (1024 * (q n).1 + x) / 64 by omega)]
  · have : dg n = false := decide_eq_false hd
    rw [if_neg (by rw [this]; simp), if_pos (show (1024 * (q n).2 + y) / 64 ≤ (1024 * (q n).1 + x) / 64 by omega)]

/-- What the kernel keeps after the `n`-th pair. -/
def Kept (n : ℕ) : Prop := ∀ (c : Fin 2) (x : Fin 1024), ∃ μ : ℝ, mS v66 X3 X4 c n (ix3 (0 : Fin 1) (0 : Fin 1) x) = (μ : EReal)
  ∧ ∀ e : Fin 144, accS v66 X3 X4 X5 (n + 1) (ix4 (⟨par n, par_lt n⟩ : Fin 2) c e x)
    = ((S (see (1024 * (q n).1 + x)) (scR Q K c (1024 * (q n).1 + x)) (W e) (1024 * (q n).2 + 1024) μ : ℝ) : EReal)

theorem accS_apply (n : ℕ) (p c : Fin 2) (e : Fin 144) (x : Fin 1024) :
    accS v66 X3 X4 X5 (n + 1) (ix4 p c e x)
      = if p.val = par n then aS v66 X3 X4 c n (ix4 (0 : Fin 1) (0 : Fin 1) (0 : Fin 1) x) * accS v66 X3 X4 X5 n (ix4 p c e x)
        + ∑ y : Fin 1024, vT X5 n (ix2 e y) * pS v66 X3 X4 c n (ix4 (0 : Fin 1) (0 : Fin 1) y x)
      else accS v66 X3 X4 X5 n (ix4 p c e x) := by
  rw [accS, accPut_apply, accPut_apply]
  match c with
  | ⟨0, _⟩ => simp
  | ⟨1, _⟩ => simp

include h3 h4 h5 h66 in
theorem kept_step (n : ℕ) (hn : n + 1 < 137) (hprev : 0 < n → Kept v66 X3 X4 X5 Q K W n) : Kept v66 X3 X4 X5 Q K W (n + 1) := by
  intro c x
  have hw := walk_lt ⟨n + 1, hn⟩
  have hz := walk_zero ⟨n + 1, hn⟩
  have hp := walk_prev ⟨n, by omega⟩
  simp only at hw hz hp
  have he : ∀ y : Fin 1024, msk v66 (dg (n + 1)) (sS X3 X4 (n + 1) c) (ix2 y x) = _ := fun y => msk_real v66 X3 X4 Q K h3 h4 h66 (n + 1) hn c y x
  have hm := mNew_apply v66 (dg (n + 1)) (qt (n + 1)) (sS X3 X4 (n + 1) c) (xS X3 X4 (n + 1) c) (mS v66 X3 X4 c n) x
    (fun _ => smS_apply _ _ _)
  -- the running maximum and the sums before the pair
  obtain ⟨mp, hmp, hold⟩ : ∃ mp : EReal, (if qt (n + 1) = 0#32 then ⊥ else mS v66 X3 X4 c n (ix3 (0 : Fin 1) (0 : Fin 1) x)) = mp
      ∧ ((1024 * (q (n + 1)).2 = 0 ∧ mp = ⊥) ∨ ∃ μ : ℝ, mp = μ ∧ ∀ e : Fin 144, accS v66 X3 X4 X5 (n + 1) (ix4 (⟨par (n + 1), par_lt (n + 1)⟩ : Fin 2) c e x)
        = ((S (see (1024 * (q (n + 1)).1 + x)) (scR Q K c (1024 * (q (n + 1)).1 + x)) (W e) (1024 * (q (n + 1)).2) μ : ℝ) : EReal)) := by
    by_cases h0 : (q (n + 1)).2 = 0
    · exact ⟨⊥, if_pos (hz.2 h0), .inl ⟨by omega, rfl⟩⟩
    · refine ⟨_, if_neg (fun h => h0 (hz.1 h)), .inr ?_⟩
      obtain ⟨hpos, hq⟩ := hp h0
      obtain ⟨μ, e1, e2⟩ := hprev hpos c x
      refine ⟨μ, e1, fun e => ?_⟩
      have hq1 : (q (n + 1)).1 = (q n).1 := by rw [hq]
      have hq2 : 1024 * (q (n + 1)).2 = 1024 * (q n).2 + 1024 := by rw [hq]; show _ = 1024 * ((q (n + 1)).2 - 1) + 1024; omega
      have hpar : (⟨par (n + 1), par_lt (n + 1)⟩ : Fin 2) = ⟨par n, par_lt n⟩ := Fin.ext (by show (q (n + 1)).1 % 2 = (q n).1 % 2; rw [hq1])
      rw [hpar, e2 e, hq1, hq2]
  rw [hmp] at hm
  obtain ⟨μ', hμ'⟩ := max_real (see (1024 * (q (n + 1)).1 + x)) (scR Q K c (1024 * (q (n + 1)).1 + x)) (1024 * (q (n + 1)).2) 1024
    (fun y => msk v66 (dg (n + 1)) (sS X3 X4 (n + 1) c) (ix2 y x)) he
    ⟨⟨0, by norm_num⟩, by show (1024 * (q (n + 1)).2 + 0) / 64 ≤ (1024 * (q (n + 1)).1 + x) / 64; omega⟩ mp
    (by rcases hold with ⟨_, h⟩ | ⟨μ, h, _⟩; exacts [.inl h, .inr ⟨μ, h⟩])
  rw [hμ'] at hm
  refine ⟨μ', hm, fun e => ?_⟩
  rw [accS_apply, if_pos rfl, aS, aNew_apply, hmp, hm]
  have hpy : ∀ y : Fin 1024, pS v66 X3 X4 c (n + 1) (ix4 (0 : Fin 1) (0 : Fin 1) y x)
      = Ideal.exp2 (msk v66 (dg (n + 1)) (sS X3 X4 (n + 1) c) (ix2 y x) - (μ' : EReal)) := fun y => by
    rw [pS, pNew_apply, hm]
  rw [Finset.sum_congr rfl fun y _ => by rw [hpy y]]
  refine step (see (1024 * (q (n + 1)).1 + x)) (scR Q K c (1024 * (q (n + 1)).1 + x)) (W e) (1024 * (q (n + 1)).2) 1024 μ' mp _ ?_ _ _ he
    (fun y => vT_real X5 W h5 (n + 1) hn e y)
  rcases hold with h | ⟨μ, h, h'⟩
  exacts [.inl h, .inr ⟨μ, h, h' e⟩]

include h3 h4 h5 h66 in
theorem kept : ∀ n : ℕ, 0 < n → n < 137 → Kept v66 X3 X4 X5 Q K W n
  | 0, h, _ => absurd h (lt_irrefl _)
  | n + 1, _, h => kept_step v66 X3 X4 X5 Q K W h3 h4 h5 h66 n h fun hp => kept n hp (by omega)

include h3 h4 h5 h66 in
/-- Row `i` when it is finished: complete weighted sums, under some maximum. -/
theorem row_done (i : Fin 16) (c : Fin 2) (x : Fin 1024) : ∃ μ : ℝ, ∀ e : Fin 144,
    accS v66 X3 X4 X5 (2 * trip i) (ix4 (⟨i % 2, mod2_lt _⟩ : Fin 2) c e x)
      = ((S (see (1024 * i + x)) (scR Q K c (1024 * i + x)) (W e) 16384 μ : ℝ) : EReal) := by
  obtain ⟨ht, hq, h0, hlt⟩ := walk_row i
  generalize hn : (i.val + 1) * (i.val + 2) / 2 = n at *
  obtain ⟨μ, _, h⟩ := kept v66 X3 X4 X5 Q K W h3 h4 h5 h66 n h0 hlt c x
  refine ⟨μ, fun e => ?_⟩
  have hp : (⟨i % 2, mod2_lt _⟩ : Fin 2) = ⟨par n, par_lt n⟩ := Fin.ext (by show i.val % 2 = (q n).1 % 2; rw [hq])
  have hx := x.isLt
  have hi := i.isLt
  have key : accS v66 X3 X4 X5 (n + 1) (ix4 (⟨i % 2, mod2_lt _⟩ : Fin 2) c e x)
      = ((S (see (1024 * i + x)) (scR Q K c (1024 * i + x)) (W e) 16384 μ : ℝ) : EReal) := by
    rw [hp, h e, hq, S_stop _ _ _ (1024 * i + 1024) 16384 μ (fun y hy => by show ¬ y / 64 ≤ (1024 * i.val + x) / 64; omega) (by omega)]
  rcases ht with ht | ⟨ht, hne⟩
  · rw [ht, key]
  · rw [ht, accS_apply, if_neg (fun hc => hne hc.symm), key]
end

end Cert.Proof.KernelIdeal

end
-- ==== Proof.KernelIdeal.Out.lean ====
/- The output after the whole run of one head, entry by entry: every column was closed once, when its row of tiles was
   finished, whatever the output held before. Over the extended reals the entry is the normalised difference of two
   weighted means of the values. -/
module

public import proofs.«01_k».proof.Proof.KernelIdeal.Inv

@[expose] public section

set_option maxRecDepth 16384

noncomputable section

namespace Cert.Proof.KernelIdeal

open Cert.KernelIdeal Cert.KernelIdeal.Gen Cert.Proof.Walk Cert.Proof.Softmax
open Idealize.ShloMosaic Idealize.ShloMosaic.TcCoe

theorem row_trip : ∀ k : Fin 70, ∀ i : Fin 16, row k = some i.val → k.val = trip i := by decide +kernel
theorem trip_row : ∀ i : Fin 16, row (trip i) = some i.val ∧ trip i < 70 := by decide +kernel

section
variable {F : FTy → Type} [FloatOps F] [Named F]
variable (v66 : IVec S1024x1024 1) (X1 : FVec F S4x64 .f32) (X2 : FVec F S128x1 .f32) (X3 : FVec F S2x128x16384 .bf16)
  (X4 : FVec F S16384x128 .bf16) (X5 : FVec F S144x16384 .bf16)

/-- The output, entry by entry. -/
def outS : FVec F S128x16384 .bf16 := fun j =>
  finW X1 X2 ((j 1).val / 1024 % 2) (mod2_lt _) (accS v66 X3 X4 X5 (2 * trip ((j 1).val / 1024)))
    (ix2 (j 0) (⟨(j 1).val % 1024, Nat.mod_lt _ (by norm_num)⟩ : Fin 1024))

theorem finW_congr {p p' : ℕ} (hp : p < 2) (hp' : p' < 2) (h : p = p') (x : FVec F S2x2x144x1024 .f32) :
    finW X1 X2 p hp x = finW X1 X2 p' hp' x := by subst h; rfl

theorem oS_apply (O : FVec F S128x16384 .bf16) (j : S128x16384.Idx) : ∀ k, k ≤ 70 → trip ((j 1).val / 1024) < k →
    oS v66 X1 X2 X3 X4 X5 O k j = outS v66 X1 X2 X3 X4 X5 j
  | 0, _, h => absurd h (Nat.not_lt_zero _)
  | k + 1, hk70, h => by
    have hj : (j 1).val < 16384 := (j 1).isLt
    have hi : (j 1).val / 1024 < 16 := by omega
    have hr := (trip_row ⟨_, hi⟩).1
    simp only at hr
    rw [oS]
    by_cases hs : (row k).isSome = true
    · rw [if_pos hs]
      by_cases he : rowN k = (j 1).val / 1024
      · have hin : ∀ a : Fin 2, (![0, 1024 * rowN k] : Fin 2 → ℕ) a ≤ (j a).val ∧ (j a).val < (![0, 1024 * rowN k] : Fin 2 → ℕ) a + S128x1024.size a := by
          intro a
          match a with
          | ⟨0, _⟩ => exact ⟨Nat.zero_le _, by show (j 0).val < 0 + 128; have : (j 0).val < 128 := (j 0).isLt; omega⟩
          | ⟨1, _⟩ => show 1024 * rowN k ≤ (j 1).val ∧ (j 1).val < 1024 * rowN k + 1024; omega
        refine (dif_pos hin).trans ?_
        have hk : k = trip ((j 1).val / 1024) := by
          obtain ⟨r, hrk⟩ := Option.isSome_iff_exists.1 hs
          have hre : r = (j 1).val / 1024 := by rw [← he, rowN, hrk]; rfl
          exact row_trip ⟨k, by omega⟩ ⟨(j 1).val / 1024, hi⟩ (hrk.trans (congrArg some hre))
        have hl : Rect.unitLocal (s := S128x16384) (off := ![0, 1024 * rowN k]) (size := S128x1024.size) j hin
            = ix2 (j 0) (⟨(j 1).val % 1024, Nat.mod_lt _ (by norm_num)⟩ : Fin 1024) := by
          funext a; apply Fin.ext
          match a with
          | ⟨0, _⟩ => exact Nat.sub_zero _
          | ⟨1, _⟩ => show (j 1).val - 1024 * rowN k = (j 1).val % 1024; omega
        rw [hl, outS, ← hk, finW_congr X1 X2 (mod2_lt (rowN k)) (mod2_lt ((j 1).val / 1024)) (by rw [he])]
        rfl
      · refine (dif_neg fun hall => he ?_).trans (oS_apply O j k (by omega) ?_)
        · have h1 := hall 1
          have h2 : 1024 * rowN k ≤ (j 1).val ∧ (j 1).val < 1024 * rowN k + 1024 := h1
          omega
        · rcases Nat.lt_succ_iff_lt_or_eq.1 h with h | h
          · exact h
          · exact absurd (by rw [← h, rowN, hr]; rfl) he
    · rw [if_neg hs]
      refine oS_apply O j k (by omega) ?_
      rcases Nat.lt_succ_iff_lt_or_eq.1 h with h | h
      · exact h
      · exact absurd (by rw [← h, hr]; rfl) hs

/-- After the whole run the output is `outS`, whatever it was. -/
theorem oS_eq (O : FVec F S128x16384 .bf16) : oS v66 X1 X2 X3 X4 X5 O 70 = outS v66 X1 X2 X3 X4 X5 :=
  funext fun j => oS_apply v66 X1 X2 X3 X4 X5 O j 70 (le_refl _) (trip_row ⟨(j 1).val / 1024, by have : (j 1).val < 16384 := (j 1).isLt; omega⟩).2
end

theorem finW_apply (x1 : FVec Ideal S4x64 .f32) (x2 : FVec Ideal S128x1 .f32) (p : ℕ) (hp : p < 2) (a : FVec Ideal S2x2x144x1024 .f32)
    (e : Fin 128) (x : Fin 1024) :
    finW x1 x2 p hp a (ix2 e x)
      = rmsE (fun e => Ideal.div (a (ix4 (⟨p, hp⟩ : Fin 2) (0 : Fin 2) (⟨e.val, by omega⟩ : Fin 144) x)) (a (ix4 (⟨p, hp⟩ : Fin 2) (0 : Fin 2) (128 : Fin 144) x))
          - lamE x1 * Ideal.div (a (ix4 (⟨p, hp⟩ : Fin 2) (1 : Fin 2) (⟨e.val, by omega⟩ : Fin 144) x)) (a (ix4 (⟨p, hp⟩ : Fin 2) (1 : Fin 2) (128 : Fin 144) x)))
          (x2 (ix2 e (0 : Fin 1))) e := by
  rw [finW, finF_apply]
  have hn : ∀ (c : Fin 2) (e : Fin 128), VecWindow.window a ![p, c.val, 0, 0] S1x1x128x1024.size (inb8n hp c.isLt) (ix4 (0 : Fin 1) (0 : Fin 1) e x)
      = a (ix4 (⟨p, hp⟩ : Fin 2) c (⟨e.val, by omega⟩ : Fin 144) x) := fun c e => by
    show a _ = a _
    congr 1; funext d; apply Fin.ext
    match d with
    | ⟨0, _⟩ => show p + 1 * 0 = p; omega
    | ⟨1, _⟩ => show c.val + 1 * 0 = c.val; omega
    | ⟨2, _⟩ => show 0 + 1 * e.val = e.val; omega
    | ⟨3, _⟩ => show 0 + 1 * x.val = x.val; omega
  have hl : ∀ c : Fin 2, VecWindow.window a ![p, c.val, 128, 0] S1x1x1x1024.size (inb8l hp c.isLt) (ix4 (0 : Fin 1) (0 : Fin 1) (0 : Fin 1) x)
      = a (ix4 (⟨p, hp⟩ : Fin 2) c (128 : Fin 144) x) := fun c => by
    show a _ = a _
    congr 1; funext d; apply Fin.ext
    match d with
    | ⟨0, _⟩ => show p + 1 * 0 = p; omega
    | ⟨1, _⟩ => show c.val + 1 * 0 = c.val; omega
    | ⟨2, _⟩ => show 128 + 1 * 0 = 128; omega
    | ⟨3, _⟩ => show 0 + 1 * x.val = x.val; omega
  have hn0 := fun e => hn 0 e
  have hn1 := fun e => hn 1 e
  have hl0 := hl 0
  have hl1 := hl 1
  simp only [Fin.val_zero, Fin.val_one] at hn0 hn1 hl0 hl1
  simp only [hn0, hn1, hl0, hl1]

section
variable (v66 : IVec S1024x1024 1) (X1 : FVec Ideal S4x64 .f32) (X2 : FVec Ideal S128x1 .f32)
  (X3 : FVec Ideal S2x128x16384 .bf16) (X4 : FVec Ideal S16384x128 .bf16) (X5 : FVec Ideal S144x16384 .bf16)
variable (Q : Fin 2 → ℕ → ℕ → ℝ) (K : ℕ → ℕ → ℝ) (W : ℕ → ℕ → ℝ)
variable (h3 : ∀ (c : Fin 2) (d : Fin 128) (x : Fin 16384), X3 (ix3 c d x) = ((Q c d x : ℝ) : EReal))
  (h4 : ∀ (y : Fin 16384) (d : Fin 128), X4 (ix2 y d) = ((K y d : ℝ) : EReal))
  (h5 : ∀ (e : Fin 144) (y : Fin 16384), X5 (ix2 e y) = ((W e y : ℝ) : EReal))
  (h66 : ∀ y x : Fin 1024, v66 (ix2 y x) = 1#1 ↔ y.val / 64 ≤ x.val / 64)
  (hone : W 128 = fun _ => 1)

include h3 h4 h5 h66 hone in
/-- One entry of the output. -/
theorem outS_apply (e : Fin 128) (X : Fin 16384) :
    outS v66 X1 X2 X3 X4 X5 (ix2 e X)
      = rmsE (fun e => ((mean (see X) (scR Q K 0 X) (W e) 16384 : ℝ) : EReal) - lamE X1 * ((mean (see X) (scR Q K 1 X) (W e) 16384 : ℝ) : EReal))
          (X2 (ix2 e (0 : Fin 1))) e := by
  have hX := X.isLt
  show finW X1 X2 (X.val / 1024 % 2) (mod2_lt _) (accS v66 X3 X4 X5 (2 * trip (X.val / 1024))) (ix2 e (⟨X.val % 1024, Nat.mod_lt _ (by norm_num)⟩ : Fin 1024)) = _
  rw [finW_apply]
  have hq : ∀ (c : Fin 2) (e : Fin 128), Ideal.div
      (accS v66 X3 X4 X5 (2 * trip (X.val / 1024)) (ix4 (⟨X.val / 1024 % 2, mod2_lt _⟩ : Fin 2) c (⟨e.val, by omega⟩ : Fin 144) (⟨X.val % 1024, Nat.mod_lt _ (by norm_num)⟩ : Fin 1024)))
      (accS v66 X3 X4 X5 (2 * trip (X.val / 1024)) (ix4 (⟨X.val / 1024 % 2, mod2_lt _⟩ : Fin 2) c (128 : Fin 144) (⟨X.val % 1024, Nat.mod_lt _ (by norm_num)⟩ : Fin 1024)))
      = ((mean (see X) (scR Q K c X) (W e) 16384 : ℝ) : EReal) := fun c e => by
    obtain ⟨μ, h⟩ := row_done v66 X3 X4 X5 Q K W h3 h4 h5 h66 (⟨X.val / 1024, by omega⟩ : Fin 16) c (⟨X.val % 1024, Nat.mod_lt _ (by norm_num)⟩ : Fin 1024)
    have hXe : 1024 * (X.val / 1024) + X.val % 1024 = X.val := Nat.div_add_mod _ _
    simp only [hXe] at h
    rw [h, h]
    show Ideal.div _ ((S (see X) (scR Q K c X) (W 128) 16384 μ : ℝ) : EReal) = _
    rw [hone]
    exact S_div _ _ _ _ μ ⟨0, by norm_num, by show 0 / 64 ≤ X.val / 64; omega⟩
  simp only [hq]
end

end Cert.Proof.KernelIdeal

end
-- ==== Proof.KernelIdeal.RunVal.lean ====
/- The launch over the eight heads: the result array holds, at the rows of a head, the output of that head. -/
module

public import proofs.«01_k».proof.Proof.KernelIdeal.BodyVal
public import proofs.«01_k».proof.Proof.KernelIdeal.Out
public import Idealize.ShloMosaic.Lib.Pipeline.ValueKit

@[expose] public section

set_option maxRecDepth 16384

noncomputable section

namespace Cert.Proof.KernelIdeal.Val

open Cert.KernelIdeal Cert.KernelIdeal.Gen Cert.Proof.Walk Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [Named F]

local notation "𝕄" => MT nD τ sig Unit (Elt F) ℕ (UR sig nD τ) ℕ

/-! ## The launch -/

section
variable (m : (ℓ : Loc nD τ sig) → Buf (Elt F) ℓ) (ρ : Dev nD → PrngReg)

/-- The output of one head, from the blocks its launch point reads. -/
def headOut (c : Dev nD) (t : Fin cfg0.N) : FVec F S128x16384 .bf16 :=
  outS V66 (iblk m c 0 t) (iblk m c 1 t) (iblk m c 2 t) (iblk m c 3 t) (iblk m c 4 t)

/-- The run's data: every input window leaves its block in place, the output window the output of the head. -/
def datsVal (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => headOut m c t
  Φ _ := Pipeline.ΦA spec0 c
  q _ := fullShare
  owed _ := 0

theorem before_val0 (c : Dev nD) (t : Fin cfg0.N) (d) : (datsVal m 0 c).before 0 t d = iblk m c 0 t :=
  before0_0_of m _ rfl (fun _ => by dsimp only [datsVal]) t d
theorem before_val1 (c : Dev nD) (t : Fin cfg0.N) (d) : (datsVal m 0 c).before 1 t d = iblk m c 1 t :=
  before0_1_of m _ rfl (fun _ => by dsimp only [datsVal]) t d
theorem before_val2 (c : Dev nD) (t : Fin cfg0.N) (d) : (datsVal m 0 c).before 2 t d = iblk m c 2 t :=
  before0_2_of m _ rfl (fun _ => by dsimp only [datsVal]) t d
theorem before_val3 (c : Dev nD) (t : Fin cfg0.N) (d) : (datsVal m 0 c).before 3 t d = iblk m c 3 t :=
  before0_3_of m _ rfl (fun _ => by dsimp only [datsVal]) t d
theorem before_val4 (c : Dev nD) (t : Fin cfg0.N) (d) : (datsVal m 0 c).before 4 t d = iblk m c 4 t :=
  before0_4_of m _ rfl (fun _ => by dsimp only [datsVal]) t d
theorem after_val0 (c : Dev nD) (t : Fin cfg0.N) : (datsVal m 0 c).after 0 t = iblk m c 0 t := by dsimp only [datsVal]
theorem after_val1 (c : Dev nD) (t : Fin cfg0.N) : (datsVal m 0 c).after 1 t = iblk m c 1 t := by dsimp only [datsVal]
theorem after_val2 (c : Dev nD) (t : Fin cfg0.N) : (datsVal m 0 c).after 2 t = iblk m c 2 t := by dsimp only [datsVal]
theorem after_val3 (c : Dev nD) (t : Fin cfg0.N) : (datsVal m 0 c).after 3 t = iblk m c 3 t := by dsimp only [datsVal]
theorem after_val4 (c : Dev nD) (t : Fin cfg0.N) : (datsVal m 0 c).after 4 t = iblk m c 4 t := by dsimp only [datsVal]
theorem after_val5 (c : Dev nD) (t : Fin cfg0.N) : (datsVal m 0 c).after 5 t = headOut m c t := by dsimp only [datsVal]

/-- A window's current staging memref. -/
abbrev st0 (t : Fin cfg0.N) : Memref sig .tc .vmem S4x64 .f32 := win0_0.stage (cfg0.slots t 0)
abbrev st1 (t : Fin cfg0.N) : Memref sig .tc .vmem S128x1 .f32 := win0_1.stage (cfg0.slots t 1)
abbrev st2 (t : Fin cfg0.N) : Memref sig .tc .vmem S2x128x16384 .bf16 := win0_2.stage (cfg0.slots t 2)
abbrev st3 (t : Fin cfg0.N) : Memref sig .tc .vmem S16384x128 .bf16 := win0_3.stage (cfg0.slots t 3)
abbrev st4 (t : Fin cfg0.N) : Memref sig .tc .vmem S144x16384 .bf16 := win0_4.stage (cfg0.slots t 4)
abbrev st5 (t : Fin cfg0.N) : Memref sig .tc .vmem S128x16384 .bf16 := win0_5.stage (cfg0.slots t 5)

/-- The body on a point's staging memrefs and the scratch buffers. -/
abbrev bodyAt (t : Fin cfg0.N) : Prog (TpuEff nD τ sig (Elt F) Λ₀ .tc) PUnit :=
  cc0_diff_attn (F := F) (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- The body table's entry is the kernel on the point's memrefs, in two steps: the table's function, then its
    application. -/
theorem defs_tc : (defs₀ (F := F)) .tc cfg0.body = fun a => cc0_diff_attn (F := F) (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := rfl
theorem prog_eq (t : Fin cfg0.N) : (defs₀ (F := F)) .tc cfg0.body (cfg0.bodyArgs t (cfg0.slots t)) = bodyAt (F := F) t :=
  (congrFun defs_tc _).trans rfl

/-- An equation read as an entailment. -/
theorem entails_of_eq {P Q : sProp 𝕄} (e : P = Q) : P ⊢ Q := e ▸ .rfl

/-- A scratch buffer at some contents, held whole or by its memref's elements. -/
theorem scratch_eq (c : Dev nD) (b : Ref sig .tc) (f : Buf (Elt F) ((c : Thread nD τ).loc b)) :
    ((((c : Thread nD τ).loc b) ↦{fullShare} f : sProp 𝕄)) = ((Memref.whole b).view.loc (c : Thread nD τ) ↦[(Memref.whole b).view.set]{fullShare} f : sProp 𝕄) := by
  rw [View.set_whole]

set_option maxHeartbeats 1000000 in
set_option backward.isDefEq.respectTransparency.types false in
theorem obligation_val (c : Dev nD) : BodyObligationLoose (datsVal (F := F) m 0 c) (defs₀ (F := F)) 𝒱₀ () Set.univ := fun t => by
  rw [bigSep_W0, bigSep_W0]
  simp only [before_val0, before_val1, before_val2, before_val3, before_val4, after_val0, after_val1, after_val2, after_val3, after_val4, after_val5]
  rw [show (datsVal m 0 c).Φ t.castSucc = Pipeline.ΦA spec0 c from rfl, show (datsVal m 0 c).Φ t.succ = Pipeline.ΦA spec0 c from rfl]
  unfold Dat.owesAt Pipeline.owesWithin
  rw [show (datsVal m 0 c).owed t.castSucc = 0 from rfl, show (datsVal m 0 c).owed t.succ = 0 from rfl]
  unfold Pipeline.ΦA
  rw [scopedRest0_eq]
  unfold owns
  iintro ⟨⟨⟨⟨%s0, H7⟩, ⟨%s1, H8⟩, ⟨%s2, H9⟩, ⟨%s3, H10⟩, ⟨%s4, H11⟩, ⟨%s5, H12⟩⟩, HR⟩, ⟨%W, -, HW⟩, ⟨%d0, %g0, %hg0, H1⟩, ⟨%d1, %g1, %hg1, H2⟩, ⟨%d2, %g2, %hg2, H3⟩, ⟨%d3, %g3, %hg3, H4⟩, ⟨%d4, %g4, %hg4, H5⟩, ⟨%d5, %g5, -, H6⟩⟩
  ihave H1' := (pointsTo_rep_entails (c : Thread nD τ) (st0 t) g0 fullShare) $$ H1
  rw [hg0]
  ihave H2' := (pointsTo_rep_entails (c : Thread nD τ) (st1 t) g1 fullShare) $$ H2
  rw [hg1]
  ihave H3' := (pointsTo_rep_entails (c : Thread nD τ) (st2 t) g2 fullShare) $$ H3
  rw [hg2]
  ihave H4' := (pointsTo_rep_entails (c : Thread nD τ) (st3 t) g3 fullShare) $$ H4
  rw [hg3]
  ihave H5' := (pointsTo_rep_entails (c : Thread nD τ) (st4 t) g4 fullShare) $$ H5
  rw [hg4]
  ihave H7' := (entails_of_eq (scratch_eq c cc0_scratch0 s0)) $$ H7
  ihave H8' := (entails_of_eq (scratch_eq c cc0_scratch1 s1)) $$ H8
  ihave H9' := (entails_of_eq (scratch_eq c cc0_scratch2 s2)) $$ H9
  ihave H10' := (entails_of_eq (scratch_eq c cc0_scratch3 s3)) $$ H10
  ihave H11' := (entails_of_eq (scratch_eq c cc0_scratch4 s4)) $$ H11
  ihave H12' := (entails_of_eq (scratch_eq c cc0_scratch5 s5)) $$ H12
  sl_rw [prog_eq t]
  iapply (wp_wand_r Idealize.ShloMosaic.frame (wpE (defs₀ (F := F)) 𝒱₀ (c : Thread nD τ) none) Set.univ)
  isplitl [H1' H2' H3' H4' H5' H6 H7' H8' H9' H10' H11' H12']
  · iapply (body_val c (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (grid0.coords t) _ _ _ _ _ g5 s0 s1 s2 s3 s4 s5)
    isplitl [H1']; · iexact H1'
    isplitl [H2']; · iexact H2'
    isplitl [H3']; · iexact H3'
    isplitl [H4']; · iexact H4'
    isplitl [H5']; · iexact H5'
    isplitl [H6]; · iexact H6
    isplitl [H7']; · iexact H7'
    isplitl [H8']; · iexact H8'
    isplitl [H9']; · iexact H9'
    isplitl [H10']; · iexact H10'
    isplitl [H11']; · iexact H11'
    iexact H12'
  · iintro %_ ⟨H1, H2, H3, H4, H5, ⟨%g5', %hg5, H6⟩, ⟨%s0', H7⟩, ⟨%s1', H8⟩, ⟨%s2', H9⟩, ⟨%s3', H10⟩, ⟨%s4', H11⟩, ⟨%s5', H12⟩⟩
    isplitl [H7 H8 H9 H10 H11 H12 HR]
    · isplitr [HR]
      · isplitl [H7]; · iexists s0'; iapply (entails_of_eq (scratch_eq c cc0_scratch0 s0').symm); iexact H7
        isplitl [H8]; · iexists s1'; iapply (entails_of_eq (scratch_eq c cc0_scratch1 s1').symm); iexact H8
        isplitl [H9]; · iexists s2'; iapply (entails_of_eq (scratch_eq c cc0_scratch2 s2').symm); iexact H9
        isplitl [H10]; · iexists s3'; iapply (entails_of_eq (scratch_eq c cc0_scratch3 s3').symm); iexact H10
        isplitl [H11]; · iexists s4'; iapply (entails_of_eq (scratch_eq c cc0_scratch4 s4').symm); iexact H11
        iexists s5'; iapply (entails_of_eq (scratch_eq c cc0_scratch5 s5').symm); iexact H12
      · iexact HR
    isplitl [HW]
    · iexists W; isplitr; · ipureintro; exact fun _ _ => Or.inl trivial
      iexact HW
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    iexists g5'
    isplitr
    · ipureintro
      simp only [View.read_rep] at hg5
      rw [hg5, oS_eq]; rfl
    iexact H6

/-- The result: at the rows of a head, the output of that head. -/
def result (c : Dev nD) : Buf (Elt F) ((c.tc : Thread nD τ).loc main_v30) := fun j =>
  headOut m c (⟨(j 0).val / 128, by have h : (j 0).val < 1024 := (j 0).isLt; show _ < grid0.N; rw [N_0]; omega⟩ : Fin cfg0.N)
    (ix2 (⟨(j 0).val % 128, Nat.mod_lt _ (by norm_num)⟩ : Fin 128) (j 1))

theorem out_val (c : Dev nD) : (datsVal m 0 c).arrAt 5 cfg0.N = result m c := by
  refine (datsVal m 0 c).arrAt_eq_of_covers 5 _ (by decide +kernel) fun t hf y => ?_
  blk_simp
  rw [after_val5]
  have e0 : ∀ t : Fin cfg0.N, win0_5.index t 0 = t.val := by decide +kernel
  have e1 : ∀ t : Fin cfg0.N, win0_5.index t 1 = 0 := by decide +kernel
  have hy0 : (y 0).val < 128 := (y 0).isLt
  have h0 : ((win0_5.blk t).view.emb y 0).val = t.val * 128 + (y 0).val := by
    blk_simp; rw [e0]
  have h1 : ((win0_5.blk t).view.emb y 1).val = (y 1).val := by
    blk_simp; rw [e1]; omega
  have ht : ∀ p, (⟨((win0_5.blk t).view.emb y 0).val / 128, p⟩ : Fin cfg0.N) = t := fun p => Fin.ext (by show ((win0_5.blk t).view.emb y 0).val / 128 = t.val; rw [h0]; omega)
  show _ = headOut m c ⟨((win0_5.blk t).view.emb y 0).val / 128, _⟩ (ix2 ⟨((win0_5.blk t).view.emb y 0).val % 128, _⟩ ((win0_5.blk t).view.emb y 1))
  rw [ht]
  refine congrArg (headOut m c t) (funext fun a => Fin.ext ?_)
  match a with
  | ⟨0, _⟩ => show (y 0).val = ((win0_5.blk t).view.emb y 0).val % 128; rw [h0]; omega
  | ⟨1, _⟩ => show (y 1).val = ((win0_5.blk t).view.emb y 1).val; rw [h1]

/-- The run: the result array, every argument array as it was launched, every counter at zero. -/
theorem run_val : θ_run defs (onTc (τ := τ) (main (F := F))) (s₀ m ρ) (fun r => (∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame cfgs (datsVal m) 0 launch0 defs₀ 𝒱₀ m ρ main
    (hbody := fun c => obligation_val m c) (hshare := fun c => (datsVal m 0 c).share_full fun _ => rfl)
    (howed := fun _ _ => rfl) (V := V m) (hmain := hmain m 𝒱₀) (hA := fun _ _ => rfl) (hΦ := fun _ _ => rfl) (Q' := _)
    (hQ' := fun r h => ⟨fun c => ⟨((h.1 c).1 5).trans (out_val m c), ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)

end

end Cert.Proof.KernelIdeal.Val

end
-- ==== Proof.KernelIdeal.HeadVal.lean ====
/- The output of one head over real queries, keys and values: the same entry as the reference's. -/
module

public import proofs.«01_k».proof.Proof.RefVal
public import proofs.«01_k».proof.Proof.KernelIdeal.Host
public import proofs.«01_k».proof.Proof.KernelIdeal.Mask
public import proofs.«01_k».proof.Proof.KernelIdeal.Out
public import proofs.«01_k».proof.Proof.KernelIdeal.RunVal

@[expose] public section

set_option maxRecDepth 16384

noncomputable section

namespace Cert.Proof.KernelIdeal.Head

open Cert.KernelIdeal Cert.KernelIdeal.Gen Cert.Proof.Softmax Cert.Proof.KernelIdeal.Host
open Idealize.ShloMosaic Idealize.ShloMosaic.TcCoe Idealize.SL

theorem wt_congr {P P' : ℕ → Prop} [DecidablePred P] [DecidablePred P'] {σ σ' : ℕ → ℝ} {μ : ℝ} {y : ℕ} (hP : P y ↔ P' y) (hσ : σ y = σ' y) :
    wt P σ μ y = wt P' σ' μ y := by
  unfold wt; rw [hσ]; exact if_congr hP rfl rfl

theorem mean_congr {P P' : ℕ → Prop} [DecidablePred P] [DecidablePred P'] {σ σ' v v' : ℕ → ℝ} {n : ℕ} (hP : ∀ y < n, P y ↔ P' y)
    (hσ : ∀ y < n, σ y = σ' y) (hv : ∀ y < n, v y = v' y) : mean P σ v n = mean P' σ' v' n := by
  have h1 : S P σ v n 0 = S P' σ' v' n 0 := Finset.sum_congr rfl fun y hy => by
    have := Finset.mem_range.1 hy
    rw [hv y this, wt_congr (hP y this) (hσ y this)]
  have h2 : S P σ (fun _ => 1) n 0 = S P' σ' (fun _ => 1) n 0 := Finset.sum_congr rfl fun y hy => by
    have := Finset.mem_range.1 hy
    rw [wt_congr (hP y this) (hσ y this)]
  rw [mean, mean, h1, h2]

/-- A sum over 128 whose terms vanish outside one half. -/
theorem sum_half (c : Fin 2) (F : ℕ → ℝ) (h0 : ∀ d, d < 128 → d / 64 ≠ c.val → F d = 0) : ∑ d : Fin 128, F d = ∑ d : Fin 64, F (64 * c.val + d.val) := by
  rw [← Finset.sum_range F, ← Finset.sum_range (fun d => F (64 * c.val + d)), show 128 = 64 + 64 from rfl, Finset.sum_range_add]
  match c with
  | 0 =>
    rw [Finset.sum_eq_zero (s := Finset.range 64) (f := fun x => F (64 + x)), add_zero]
    · exact Finset.sum_congr rfl fun d _ => by rw [show 64 * (0 : Fin 2).val + d = d from by simp]
    · intro d hd
      have := Finset.mem_range.1 hd
      exact h0 _ (by omega) (by show (64 + d) / 64 ≠ 0; omega)
  | 1 =>
    rw [Finset.sum_eq_zero (s := Finset.range 64) (f := F), zero_add]
    · rfl
    · intro d hd
      have := Finset.mem_range.1 hd
      exact h0 _ (by omega) (by show d / 64 ≠ 1; omega)

variable (q k : Cert.ReferenceIdeal.S1x16384x8x2x64.Idx → ℝ) (v : Cert.ReferenceIdeal.S1x16384x8x128.Idx → ℝ) (h : Fin 8)

/-- The queries of a head, component `c`'s coordinates kept and the other's cleared. -/
def Qh (c : Fin 2) (d X : ℕ) : ℝ :=
  if hX : X < 16384 then
    if d / 64 % 2 = c.val then q (ix5 (0 : Fin 1) (⟨X, hX⟩ : Fin 16384) h (⟨d / 64 % 2, by omega⟩ : Fin 2) (⟨d % 64, by omega⟩ : Fin 64)) * (1 / 8) / Real.log 2 else 0
  else 0

/-- The keys of a head, both components' coordinates. -/
def Kh (Y d : ℕ) : ℝ :=
  if hY : Y < 16384 then k (ix5 (0 : Fin 1) (⟨Y, hY⟩ : Fin 16384) h (⟨d / 64 % 2, by omega⟩ : Fin 2) (⟨d % 64, by omega⟩ : Fin 64)) else 0

/-- The values of a head, a row of ones and rows of zeros below. -/
def Wh (e Y : ℕ) : ℝ := if he : e < 128 then Cert.Proof.RefVal.vr v h ⟨e, he⟩ Y else if e - 128 < 1 then 1 else 0

theorem score_eq (c : Fin 2) (X : Fin 16384) (y : ℕ) (hy : y < 16384) :
    scR (Qh q h) (Kh k h) c X.val y = Cert.Proof.RefVal.sc q k h c X y / Real.log 2 := by
  rw [scR, sum_half c (fun d => Kh k h y d * Qh q h c d X.val) (fun d hd hc => by
    rw [Qh, dif_pos X.isLt, if_neg (by rw [Nat.mod_eq_of_lt (by omega)]; exact hc), mul_zero]),
    Cert.Proof.RefVal.sc, dif_pos hy, Finset.sum_div]
  refine Finset.sum_congr rfl fun d _ => ?_
  have hc := c.isLt
  have hd := d.isLt
  have h1 : (64 * c.val + d.val) / 64 % 2 = c.val := by omega
  have h2 : (64 * c.val + d.val) % 64 = d.val := by omega
  rw [Kh, dif_pos hy, Qh, dif_pos X.isLt, if_pos h1]
  have e1 : ∀ p, (⟨(64 * c.val + d.val) / 64 % 2, p⟩ : Fin 2) = c := fun p => Fin.ext h1
  have e2 : ∀ p, (⟨(64 * c.val + d.val) % 64, p⟩ : Fin 64) = d := fun p => Fin.ext h2
  rw [e1, e2]
  ring

theorem att_eq (c : Fin 2) (X : Fin 16384) (e : Fin 128) :
    mean (see X.val) (scR (Qh q h) (Kh k h) c X.val) (Wh v h e.val) 16384 = Cert.Proof.RefVal.att q k v h c X e := by
  refine mean_congr (fun y _ => Iff.rfl) (fun y hy => score_eq q k h c X y hy) fun y hy => ?_
  rw [Wh, dif_pos e.isLt]

theorem Wh_one : Wh v h 128 = fun _ => 1 := funext fun y => by
  rw [Wh, dif_neg (by omega), if_pos (by omega)]

/-! ## The launch's blocks -/

variable (m : (ℓ : Loc nD τ sig) → Buf (Elt Ideal) ℓ) (c : Dev nD) (t : Fin cfg0.N)

theorem ofBits_two : Ideal.ofBits .f32 0x40000000#32 = ((2 : ℝ) : EReal) := by
  simp [Ideal.ofBits, Ideal.ieee]
  rw [← EReal.coe_mul]; norm_num

theorem scaled (a : ℝ) : Ideal.div ((a : EReal) * Ideal.ofBits .f32 0x3E000000#32) (Ideal.log (Ideal.ofBits .f32 0x40000000#32)) = ((a * (1 / 8) / Real.log 2 : ℝ) : EReal) := by
  have hl : (0 : ℝ) < Real.log 2 := Real.log_pos (by norm_num)
  rw [ofBits_two, Cert.Proof.RefVal.ofBits_eighth, show Ideal.log ((2 : ℝ) : EReal) = ((Real.log 2 : ℝ) : EReal) from if_neg (by norm_num), ← EReal.coe_mul, Ideal.div_coe hl.ne', ← EReal.coe_mul]
  congr 1
  field_simp

theorem block_q (hq : ∀ i, m ((c.tc : Thread nD τ).loc main_arg0) i = ((q i : ℝ) : EReal)) (k' : Fin 2) (d : Fin 128) (X : Fin 16384) :
    iblk m c 2 t (ix3 k' d X) = ((Qh q ⟨t.val, lt8 t⟩ k' d X : ℝ) : EReal) := by
  have ht := lt8 t
  have hd := d.isLt
  have h1 : ∀ p, (⟨(t.val * 128 + d.val) / 128, p⟩ : Fin 8) = ⟨t.val, ht⟩ := fun p => Fin.ext (by show (t.val * 128 + d.val) / 128 = t.val; omega)
  have h2 : ∀ p p', (⟨(t.val * 128 + d.val) / 64 % 2, p⟩ : Fin 2) = ⟨d.val / 64 % 2, p'⟩ := fun p p' => Fin.ext (by show (t.val * 128 + d.val) / 64 % 2 = d.val / 64 % 2; omega)
  have h3 : ∀ p p', (⟨(t.val * 128 + d.val) % 64, p⟩ : Fin 64) = ⟨d.val % 64, p'⟩ := fun p p' => Fin.ext (by show (t.val * 128 + d.val) % 64 = d.val % 64; omega)
  rw [b2, q_read, Qh, dif_pos X.isLt]
  have hc : d.val / 64 % 2 < 2 := by omega
  match k' with
  | 0 =>
    rw [q17_apply0, q11_apply, q7_apply, q4_apply, hq, scaled, h1, h2 _ hc, h3 _ (by omega)]
    by_cases e : d.val / 64 % 2 = 0
    · rw [if_pos (Fin.ext e)]
      exact congrArg (fun z : ℝ => (z : EReal)) (if_pos e).symm
    · rw [if_neg (fun e' => e (congrArg Fin.val e'))]
      exact congrArg (fun z : ℝ => (z : EReal)) (if_neg e).symm
  | 1 =>
    rw [q17_apply1, q12_apply, q7_apply, q4_apply, hq, scaled, h1, h2 _ hc, h3 _ (by omega)]
    by_cases e : d.val / 64 % 2 = 1
    · rw [if_pos (Fin.ext e)]
      exact congrArg (fun z : ℝ => (z : EReal)) (if_pos e).symm
    · rw [if_neg (fun e' => e (congrArg Fin.val e'))]
      exact congrArg (fun z : ℝ => (z : EReal)) (if_neg e).symm

theorem block_k (hk : ∀ i, m ((c.tc : Thread nD τ).loc main_arg1) i = ((k i : ℝ) : EReal)) (Y : Fin 16384) (d : Fin 128) :
    iblk m c 3 t (ix2 Y d) = ((Kh k ⟨t.val, lt8 t⟩ Y d : ℝ) : EReal) := by
  have ht := lt8 t
  have hd := d.isLt
  have h1 : ∀ p, (⟨(t.val * 128 + d.val) / 128, p⟩ : Fin 8) = ⟨t.val, ht⟩ := fun p => Fin.ext (by show (t.val * 128 + d.val) / 128 = t.val; omega)
  have h2 : ∀ p p', (⟨(t.val * 128 + d.val) / 64 % 2, p⟩ : Fin 2) = ⟨d.val / 64 % 2, p'⟩ := fun p p' => Fin.ext (by show (t.val * 128 + d.val) / 64 % 2 = d.val / 64 % 2; omega)
  have h3 : ∀ p p', (⟨(t.val * 128 + d.val) % 64, p⟩ : Fin 64) = ⟨d.val % 64, p'⟩ := fun p p' => Fin.ext (by show (t.val * 128 + d.val) % 64 = d.val % 64; omega)
  rw [b3, k_apply, hk, Kh, dif_pos Y.isLt, h1, h2 _ (by omega), h3 _ (by omega)]

theorem block_v (hv : ∀ i, m ((c.tc : Thread nD τ).loc main_arg2) i = ((v i : ℝ) : EReal)) (e : Fin 144) (Y : Fin 16384) :
    iblk m c 4 t (ix2 e Y) = ((Wh v ⟨t.val, lt8 t⟩ e Y : ℝ) : EReal) := by
  have ht := lt8 t
  have he := e.isLt
  have h1 : ∀ p, (⟨(t.val * 144 + e.val) / 144, p⟩ : Fin 8) = ⟨t.val, ht⟩ := fun p => Fin.ext (by show (t.val * 144 + e.val) / 144 = t.val; omega)
  have h2 : ∀ p, (⟨(t.val * 144 + e.val) % 144, p⟩ : Fin 144) = e := fun p => Fin.ext (by show (t.val * 144 + e.val) % 144 = e.val; omega)
  rw [b4, v_read, v27_apply, h1, h2, v25_apply, Wh]
  by_cases h128 : e.val < 128
  · rw [dif_pos h128, dif_pos h128, v22_apply, hv, Cert.Proof.RefVal.vr, dif_pos Y.isLt]
  · rw [dif_neg h128, dif_neg h128]
    by_cases h0 : e.val - 128 < 1
    · rw [dif_pos h0, if_pos h0]; rfl
    · rw [dif_neg h0, if_neg h0]; rfl

theorem lam_congr (x1 : FVec Ideal S4x64 .f32) (x3 x4 x5 x6 : FVec Ideal Cert.ReferenceIdeal.S1x64 .f32) (h0 : ∀ d : Fin 64, x1 (ix2 (0 : Fin 4) d) = x3 (ix2 (0 : Fin 1) d))
    (h1 : ∀ d : Fin 64, x1 (ix2 (1 : Fin 4) d) = x4 (ix2 (0 : Fin 1) d)) (h2 : ∀ d : Fin 64, x1 (ix2 (2 : Fin 4) d) = x5 (ix2 (0 : Fin 1) d))
    (h3 : ∀ d : Fin 64, x1 (ix2 (3 : Fin 4) d) = x6 (ix2 (0 : Fin 1) d)) : lamE x1 = Cert.Proof.RefVal.lamR x3 x4 x5 x6 := by
  rw [lamE, Cert.Proof.RefVal.lamR]
  simp only [h0, h1, h2, h3]

theorem block_lam : lamE (iblk m c 0 t) = Cert.Proof.RefVal.lamR (m ((c.tc : Thread nD τ).loc main_arg3)) (m ((c.tc : Thread nD τ).loc main_arg4))
    (m ((c.tc : Thread nD τ).loc main_arg5)) (m ((c.tc : Thread nD τ).loc main_arg6)) :=
  lam_congr _ _ _ _ _ (fun d => (b0 m c t 0 d).trans (l0_apply m c d)) (fun d => (b0 m c t 1 d).trans (l1_apply m c d))
    (fun d => (b0 m c t 2 d).trans (l2_apply m c d)) (fun d => (b0 m c t 3 d).trans (l3_apply m c d))

/-- One entry of a head's output. -/
theorem head_entry (hq : ∀ i, m ((c.tc : Thread nD τ).loc main_arg0) i = ((q i : ℝ) : EReal)) (hk : ∀ i, m ((c.tc : Thread nD τ).loc main_arg1) i = ((k i : ℝ) : EReal))
    (hv : ∀ i, m ((c.tc : Thread nD τ).loc main_arg2) i = ((v i : ℝ) : EReal)) (e : Fin 128) (X : Fin 16384) :
    Val.headOut m c t (ix2 e X)
      = rmsE (fun e => ((Cert.Proof.RefVal.att q k v ⟨t.val, lt8 t⟩ 0 X e : ℝ) : EReal)
          - Cert.Proof.RefVal.lamR (m ((c.tc : Thread nD τ).loc main_arg3)) (m ((c.tc : Thread nD τ).loc main_arg4))
              (m ((c.tc : Thread nD τ).loc main_arg5)) (m ((c.tc : Thread nD τ).loc main_arg6)) * ((Cert.Proof.RefVal.att q k v ⟨t.val, lt8 t⟩ 1 X e : ℝ) : EReal))
          (m ((c.tc : Thread nD τ).loc main_arg7) (ix2 (0 : Fin 1) e)) e := by
  have h := outS_apply Val.V66 (iblk m c 0 t) (iblk m c 1 t) (iblk m c 2 t) (iblk m c 3 t) (iblk m c 4 t)
    (Qh q ⟨t.val, lt8 t⟩) (Kh k ⟨t.val, lt8 t⟩) (Wh v ⟨t.val, lt8 t⟩) (block_q q m c t hq) (block_k k m c t hk) (block_v v m c t hv)
    Val.V66_apply (Wh_one v _) e X
  rw [b1, g_apply, block_lam] at h
  simp only [att_eq] at h
  exact h

end Cert.Proof.KernelIdeal.Head

end
-- ==== Proof.Equal.lean ====
/- The two programs' results, equal at every index where the precondition holds. -/
module

public import proofs.«01_k».proof.Defs
public import proofs.«01_k».proof.Proof.Gen.ReferenceIdeal.Read
public import proofs.«01_k».proof.Proof.Pre
public import proofs.«01_k».proof.Proof.RefVal
public import proofs.«01_k».proof.Proof.KernelIdeal.HeadVal

@[expose] public section

set_option maxRecDepth 16384

noncomputable section

namespace Cert.Proof.Equal

open Cert.KernelIdeal Cert.KernelIdeal.Gen Cert.Proof.RefVal Cert.Proof.Softmax
open Idealize.ShloMosaic Idealize.ShloMosaic.TcCoe Idealize.SL

theorem ofBits_fifth : ∃ r : ℝ, Ideal.ofBits .f32 0x3E4CCCCD#32 = (r : EReal) := by
  refine ⟨(Ideal.ofBits .f32 0x3E4CCCCD#32).toReal, (EReal.coe_toReal ?_ ?_).symm⟩
  · simp [Ideal.ofBits, Ideal.ieee]
    rw [← EReal.coe_mul]
    exact EReal.coe_ne_top _
  · simp [Ideal.ofBits, Ideal.ieee]
    rw [← EReal.coe_mul]
    exact EReal.coe_ne_bot _

/-- The mixing weight of real vectors is real. -/
theorem lam_real (x3 x4 x5 x6 : FVec Ideal Cert.ReferenceIdeal.S1x64 .f32) (h3 : Pre.AllReal x3) (h4 : Pre.AllReal x4) (h5 : Pre.AllReal x5) (h6 : Pre.AllReal x6) :
    ∃ r : ℝ, lamR x3 x4 x5 x6 = (r : EReal) := by
  choose a3 e3 using h3
  choose a4 e4 using h4
  choose a5 e5 using h5
  choose a6 e6 using h6
  obtain ⟨r, hr⟩ := ofBits_fifth
  refine ⟨Real.exp (∑ d : Fin 64, a3 (ix2 (0 : Fin 1) d) * a4 (ix2 (0 : Fin 1) d)) - Real.exp (∑ d : Fin 64, a5 (ix2 (0 : Fin 1) d) * a6 (ix2 (0 : Fin 1) d)) + r, ?_⟩
  rw [lamR, hr]
  simp only [e3, e4, e5, e6, ← EReal.coe_mul]
  rw [← coe_sum, ← coe_sum, Ideal.exp_coe, Ideal.exp_coe, ← EReal.coe_sub, ← EReal.coe_add]

/-- One entry of the reference over the kernel's arguments is the entry the launch leaves. -/
theorem entry (m : (ℓ : Loc nD τ sig) → Buf (Elt Ideal) ℓ) (hpre : Cert.Pre_KernelIdeal_finite m) (c : Dev nD) (r : Fin 1024) (X : Fin 16384) :
    Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 r X)
      = Cert.Proof.KernelIdeal.Val.result m c (ix2 r X) := by
  obtain ⟨h0, h1, h2, h3, h4, h5, h6⟩ := Pre.real_args _ _ _ _ _ _ _ _ (hpre c)
  choose q hq using h0
  choose k hk using h1
  choose v hv using h2
  obtain ⟨lam, hlam⟩ := lam_real _ _ _ _ h3 h4 h5 h6
  have ht : r.val / 128 < cfg0.N := by
    show _ < grid0.N
    rw [N_0]
    omega
  have e : Cert.Proof.KernelIdeal.Val.result m c (ix2 r X)
      = Cert.Proof.KernelIdeal.Val.headOut m c (⟨r.val / 128, ht⟩ : Fin cfg0.N) (ix2 (⟨r.val % 128, by omega⟩ : Fin 128) X) := rfl
  exact (ref_real _ _ _ _ _ _ _ _ q k v lam hq hk hv hlam r X).trans
    ((Cert.Proof.KernelIdeal.Head.head_entry q k v m c (⟨r.val / 128, ht⟩ : Fin cfg0.N) hq hk hv (⟨r.val % 128, by omega⟩ : Fin 128) X).symm.trans e.symm)

theorem whole (m : (ℓ : Loc nD τ sig) → Buf (Elt Ideal) ℓ) (hpre : Cert.Pre_KernelIdeal_finite m) (c : Dev nD) :
    Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = Cert.Proof.KernelIdeal.Val.result m c := by
  refine funext fun (j : Cert.ReferenceIdeal.S1024x16384.Idx) => ?_
  have e : j = ix2 (j 0 : Fin 1024) (j 1 : Fin 16384) := by funext d; match d with
    | 0 => rfl
    | 1 => rfl
  rw [e]
  exact entry m hpre c _ _

end Cert.Proof.Equal

end
-- ==== Proof.Kernel.FrameRun.lean ====
/- The frame: the loop by an invariant that gives the carried words at every trip and says nothing of what the stored
   buffers hold, the body around it, and the launch over the eight heads. -/
module

public import proofs.«01_k».proof.Proof.Kernel.FrameTrip

@[expose] public section

set_option maxRecDepth 16384

noncomputable section

namespace Cert.Proof.Kernel

open Cert.Kernel Cert.Kernel.Gen Cert.Proof.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

theorem trips_eq : k0_t1_loop.trips = 69 := by decide

section
variable (c : Dev nD) (arg1 : Memref sig .tc .vmem S4x64 .f32) (harg1 : arg1.IsWhole) (arg2 : Memref sig .tc .vmem S128x1 .f32) (harg2 : arg2.IsWhole) (arg3 : Memref sig .tc .vmem S2x128x16384 .bf16) (harg3 : arg3.IsWhole) (arg4 : Memref sig .tc .vmem S16384x128 .bf16) (harg4 : arg4.IsWhole) (arg5 : Memref sig .tc .vmem S144x16384 .bf16) (harg5 : arg5.IsWhole) (arg6 : Memref sig .tc .vmem S128x16384 .bf16) (harg6 : arg6.IsWhole) (arg7 : Memref sig .tc .vmem S2x1x1024 .f32) (harg7 : arg7.IsWhole) (arg8 : Memref sig .tc .vmem S2x2x144x1024 .f32) (harg8 : arg8.IsWhole) (arg9 : Memref sig .tc .vmem S2x1024x1024 .f32) (harg9 : arg9.IsWhole) (arg10 : Memref sig .tc .vmem S2x2x1024x1024 .bf16) (harg10 : arg10.IsWhole) (arg11 : Memref sig .tc .vmem S2x2x1x1024 .f32) (harg11 : arg11.IsWhole) (arg12 : Memref sig .tc .vmem S2x1x1024 .f32) (harg12 : arg12.IsWhole)

/-- Before trip `k`: the words `carry k`, the inputs as they are, the rest at some contents. -/
abbrev resAny (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) : sProp 𝕄 :=
  iprop(hold c arg1 f1
    ∗ hold c arg2 f2
    ∗ hold c arg3 f3
    ∗ hold c arg4 f4
    ∗ hold c arg5 f5
    ∗ (∃ g, hold c arg6 g)
    ∗ (∃ g, hold c arg7 g)
    ∗ (∃ g, hold c arg8 g)
    ∗ (∃ g, hold c arg9 g)
    ∗ (∃ g, hold c arg10 g)
    ∗ (∃ g, hold c arg11 g)
    ∗ (∃ g, hold c arg12 g))

set_option warn.classDefReducibility false in
/-- The loop's invariant. -/
@[sl_loop] def loopAny (i : grid0.Coords) (v66 : IVec S1024x1024 1) (init : _) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 v66 init where
  inv k acc := iprop(⌜acc = carry k⌝ ∗ resAny c arg1 arg2 arg3 arg4 arg5 arg6 arg7 arg8 arg9 arg10 arg11 arg12 f1 f2 f3 f4 f5)
  step k acc := by
    have hk : k.val < 69 := lt_of_lt_of_eq k.isLt trips_eq
    iintro ⟨%ha, H1, H2, H3, H4, H5, ⟨%g6, H6⟩, ⟨%g7, H7⟩, ⟨%g8, H8⟩, ⟨%g9, H9⟩, ⟨%g10, H10⟩, ⟨%g11, H11⟩, ⟨%g12, H12⟩⟩
    subst ha
    iapply (wp_wand_r Idealize.ShloMosaic.frame (wpE (defs₀ (F := F)) 𝒱₀ (c : Thread nD τ) none) Set.univ)
    isplitl [H1 H2 H3 H4 H5 H6 H7 H8 H9 H10 H11 H12]
    · iapply (trip_any c arg1 harg1 arg2 harg2 arg3 harg3 arg4 harg4 arg5 harg5 arg6 harg6 arg7 harg7 arg8 harg8 arg9 harg9 arg10 harg10 arg11 harg11 arg12 harg12 i v66 k _ _ _ _ _ _ _ _ _ (chk4_carry ⟨k, hk⟩) (chk3_carry ⟨k, hk⟩) (chk2_carry ⟨k, hk⟩)
        (chk1_carry ⟨k, by omega⟩) f1 f2 f3 f4 f5 g6 g7 g8 g9 g10 g11 g12)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro %y ⟨%hy, H⟩
      isplitr
      · ipureintro; exact hy.trans (yld_carry ⟨k, hk⟩)
      · iexact H

set_option maxHeartbeats 4000000 in
/-- The body at one head. -/
theorem body_any (i : grid0.Coords) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    iprop(hold c arg1 f1
    ∗ hold c arg2 f2
    ∗ hold c arg3 f3
    ∗ hold c arg4 f4
    ∗ hold c arg5 f5
    ∗ hold c arg6 f6
    ∗ hold c arg7 f7
    ∗ hold c arg8 f8
    ∗ hold c arg9 f9
    ∗ hold c arg10 f10
    ∗ hold c arg11 f11
    ∗ hold c arg12 f12) ⊢ wp frame (wpE (defs₀ (F := F)) 𝒱₀ (c : Thread nD τ) none) Set.univ
      (cc0_diff_attn (F := F) i arg1 harg1 arg2 harg2 arg3 harg3 arg4 harg4 arg5 harg5 arg6 harg6 arg7 harg7 arg8 harg8 arg9 harg9 arg10 harg10 arg11 harg11 arg12 harg12)
      (fun _ => resAny c arg1 arg2 arg3 arg4 arg5 arg6 arg7 arg8 arg9 arg10 arg11 arg12 f1 f2 f3 f4 f5) := by
  iintro ⟨H1, H2, H3, H4, H5, H6, H7, H8, H9, H10, H11, H12⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12
end

/-! ## The launch -/

section
variable (m : (ℓ : Loc nD τ sig) → Buf (Elt F) ℓ) (ρ : Dev nD → PrngReg)

/-- The output window, whose contents this run does not speak of. -/
abbrev fgt : Fin cfg0.W → Bool := fun w => w == 5

/-- The run's data: every input window leaves its block in place; the output's entry is not read. -/
def datsAny (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

theorem before_any0 (c : Dev nD) (t : Fin cfg0.N) (d) : (datsAny m 0 c).before 0 t d = iblk m c 0 t :=
  before0_0_of m _ rfl (fun _ => by dsimp only [datsAny]) t d
theorem before_any1 (c : Dev nD) (t : Fin cfg0.N) (d) : (datsAny m 0 c).before 1 t d = iblk m c 1 t :=
  before0_1_of m _ rfl (fun _ => by dsimp only [datsAny]) t d
theorem before_any2 (c : Dev nD) (t : Fin cfg0.N) (d) : (datsAny m 0 c).before 2 t d = iblk m c 2 t :=
  before0_2_of m _ rfl (fun _ => by dsimp only [datsAny]) t d
theorem before_any3 (c : Dev nD) (t : Fin cfg0.N) (d) : (datsAny m 0 c).before 3 t d = iblk m c 3 t :=
  before0_3_of m _ rfl (fun _ => by dsimp only [datsAny]) t d
theorem before_any4 (c : Dev nD) (t : Fin cfg0.N) (d) : (datsAny m 0 c).before 4 t d = iblk m c 4 t :=
  before0_4_of m _ rfl (fun _ => by dsimp only [datsAny]) t d
theorem after_any0 (c : Dev nD) (t : Fin cfg0.N) : (datsAny m 0 c).after 0 t = iblk m c 0 t := by dsimp only [datsAny]
theorem after_any1 (c : Dev nD) (t : Fin cfg0.N) : (datsAny m 0 c).after 1 t = iblk m c 1 t := by dsimp only [datsAny]
theorem after_any2 (c : Dev nD) (t : Fin cfg0.N) : (datsAny m 0 c).after 2 t = iblk m c 2 t := by dsimp only [datsAny]
theorem after_any3 (c : Dev nD) (t : Fin cfg0.N) : (datsAny m 0 c).after 3 t = iblk m c 3 t := by dsimp only [datsAny]
theorem after_any4 (c : Dev nD) (t : Fin cfg0.N) : (datsAny m 0 c).after 4 t = iblk m c 4 t := by dsimp only [datsAny]

/-- A window's current staging memref. -/
abbrev st0 (t : Fin cfg0.N) : Memref sig .tc .vmem S4x64 .f32 := win0_0.stage (cfg0.slots t 0)
abbrev st1 (t : Fin cfg0.N) : Memref sig .tc .vmem S128x1 .f32 := win0_1.stage (cfg0.slots t 1)
abbrev st2 (t : Fin cfg0.N) : Memref sig .tc .vmem S2x128x16384 .bf16 := win0_2.stage (cfg0.slots t 2)
abbrev st3 (t : Fin cfg0.N) : Memref sig .tc .vmem S16384x128 .bf16 := win0_3.stage (cfg0.slots t 3)
abbrev st4 (t : Fin cfg0.N) : Memref sig .tc .vmem S144x16384 .bf16 := win0_4.stage (cfg0.slots t 4)
abbrev st5 (t : Fin cfg0.N) : Memref sig .tc .vmem S128x16384 .bf16 := win0_5.stage (cfg0.slots t 5)

/-- The body on a point's staging memrefs and the scratch buffers. -/
abbrev bodyAt (t : Fin cfg0.N) : Prog (TpuEff nD τ sig (Elt F) Λ₀ .tc) PUnit :=
  cc0_diff_attn (F := F) (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

/-- The body table's entry is the kernel on the point's memrefs, in two steps: the table's function, then its
    application. -/
theorem defs_tc : (defs₀ (F := F)) .tc cfg0.body = fun a => cc0_diff_attn (F := F) (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := rfl
theorem prog_eq (t : Fin cfg0.N) : (defs₀ (F := F)) .tc cfg0.body (cfg0.bodyArgs t (cfg0.slots t)) = bodyAt (F := F) t :=
  (congrFun defs_tc _).trans rfl

/-- An equation read as an entailment. -/
theorem entails_of_eq {P Q : sProp 𝕄} (e : P = Q) : P ⊢ Q := e ▸ .rfl

/-- A scratch buffer at some contents, held whole or by its memref's elements. -/
theorem scratch_eq (c : Dev nD) (b : Ref sig .tc) (f : Buf (Elt F) ((c : Thread nD τ).loc b)) :
    ((((c : Thread nD τ).loc b) ↦{fullShare} f : sProp 𝕄)) = ((Memref.whole b).view.loc (c : Thread nD τ) ↦[(Memref.whole b).view.set]{fullShare} f : sProp 𝕄) := by
  rw [View.set_whole]

set_option maxHeartbeats 1000000 in
set_option backward.isDefEq.respectTransparency.types false in
theorem obligation_any (c : Dev nD) : BodyObligationLoose (datsAny (F := F) m 0 c) (defs₀ (F := F)) 𝒱₀ () Set.univ fgt := fun t => by
  rw [bigSep_W0, bigSep_W0]
  simp only [show fgt 0 = false from rfl, show fgt 1 = false from rfl, show fgt 2 = false from rfl, show fgt 3 = false from rfl,
    show fgt 4 = false from rfl, show fgt 5 = true from rfl]
  simp only [before_any0, before_any1, before_any2, before_any3, before_any4, after_any0, after_any1, after_any2, after_any3, after_any4]
  rw [show (datsAny m 0 c).Φ t.castSucc = Pipeline.ΦA spec0 c from rfl, show (datsAny m 0 c).Φ t.succ = Pipeline.ΦA spec0 c from rfl]
  unfold Dat.owesAt Pipeline.owesWithin
  rw [show (datsAny m 0 c).owed t.castSucc = 0 from rfl, show (datsAny m 0 c).owed t.succ = 0 from rfl]
  unfold Pipeline.ΦA
  rw [scopedRest0_eq]
  unfold owns
  iintro ⟨⟨⟨⟨%s0, H7⟩, ⟨%s1, H8⟩, ⟨%s2, H9⟩, ⟨%s3, H10⟩, ⟨%s4, H11⟩, ⟨%s5, H12⟩⟩, HR⟩, ⟨%W, -, HW⟩, ⟨%d0, %g0, %hg0, H1⟩, ⟨%d1, %g1, %hg1, H2⟩, ⟨%d2, %g2, %hg2, H3⟩, ⟨%d3, %g3, %hg3, H4⟩, ⟨%d4, %g4, %hg4, H5⟩, ⟨%X5, %g5, -, H6⟩⟩
  ihave H1' := (pointsTo_rep_entails (c : Thread nD τ) (st0 t) g0 fullShare) $$ H1
  rw [hg0]
  ihave H2' := (pointsTo_rep_entails (c : Thread nD τ) (st1 t) g1 fullShare) $$ H2
  rw [hg1]
  ihave H3' := (pointsTo_rep_entails (c : Thread nD τ) (st2 t) g2 fullShare) $$ H3
  rw [hg2]
  ihave H4' := (pointsTo_rep_entails (c : Thread nD τ) (st3 t) g3 fullShare) $$ H4
  rw [hg3]
  ihave H5' := (pointsTo_rep_entails (c : Thread nD τ) (st4 t) g4 fullShare) $$ H5
  rw [hg4]
  ihave H7' := (entails_of_eq (scratch_eq c cc0_scratch0 s0)) $$ H7
  ihave H8' := (entails_of_eq (scratch_eq c cc0_scratch1 s1)) $$ H8
  ihave H9' := (entails_of_eq (scratch_eq c cc0_scratch2 s2)) $$ H9
  ihave H10' := (entails_of_eq (scratch_eq c cc0_scratch3 s3)) $$ H10
  ihave H11' := (entails_of_eq (scratch_eq c cc0_scratch4 s4)) $$ H11
  ihave H12' := (entails_of_eq (scratch_eq c cc0_scratch5 s5)) $$ H12
  sl_rw [prog_eq t]
  iapply (wp_wand_r Idealize.ShloMosaic.frame (wpE (defs₀ (F := F)) 𝒱₀ (c : Thread nD τ) none) Set.univ)
  isplitl [H1' H2' H3' H4' H5' H6 H7' H8' H9' H10' H11' H12']
  · iapply (body_any c (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (grid0.coords t) _ _ _ _ _ g5 s0 s1 s2 s3 s4 s5)
    isplitl [H1']; · iexact H1'
    isplitl [H2']; · iexact H2'
    isplitl [H3']; · iexact H3'
    isplitl [H4']; · iexact H4'
    isplitl [H5']; · iexact H5'
    isplitl [H6]; · iexact H6
    isplitl [H7']; · iexact H7'
    isplitl [H8']; · iexact H8'
    isplitl [H9']; · iexact H9'
    isplitl [H10']; · iexact H10'
    isplitl [H11']; · iexact H11'
    iexact H12'
  · iintro %_ ⟨H1, H2, H3, H4, H5, ⟨%g5', H6⟩, ⟨%s0', H7⟩, ⟨%s1', H8⟩, ⟨%s2', H9⟩, ⟨%s3', H10⟩, ⟨%s4', H11⟩, ⟨%s5', H12⟩⟩
    isplitl [H7 H8 H9 H10 H11 H12 HR]
    · isplitr [HR]
      · isplitl [H7]; · iexists s0'; iapply (entails_of_eq (scratch_eq c cc0_scratch0 s0').symm); iexact H7
        isplitl [H8]; · iexists s1'; iapply (entails_of_eq (scratch_eq c cc0_scratch1 s1').symm); iexact H8
        isplitl [H9]; · iexists s2'; iapply (entails_of_eq (scratch_eq c cc0_scratch2 s2').symm); iexact H9
        isplitl [H10]; · iexists s3'; iapply (entails_of_eq (scratch_eq c cc0_scratch3 s3').symm); iexact H10
        isplitl [H11]; · iexists s4'; iapply (entails_of_eq (scratch_eq c cc0_scratch4 s4').symm); iexact H11
        iexists s5'; iapply (entails_of_eq (scratch_eq c cc0_scratch5 s5').symm); iexact H12
      · iexact HR
    isplitl [HW]
    · iexists W; isplitr; · ipureintro; exact fun _ _ => Or.inl trivial
      iexact HW
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    iexists ((st5 t).view.read (Elt F) g5'); iexists g5'; isplitr; · ipureintro; rfl
    iexact H6

/-- The frame run: every argument array ends as it was launched, every counter at zero. -/
theorem run_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_forget cfgs (datsAny m) 0 launch0 defs₀ 𝒱₀ fgt m ρ main
    (hbody := fun c => obligation_any m c) (hshare := fun c => (datsAny m 0 c).share_full fun _ => rfl)
    (howed := fun _ _ => rfl) (V := V m) (hmain := hmain m 𝒱₀) (hA := fun _ _ => rfl) (hΦ := fun _ _ => rfl) (Q' := _)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)

end

end Cert.Proof.Kernel

end
-- ==== Proof.Post.Row.lean ====
/- One row of the output projection, the two norms and the feed-forward part, as plain sums. -/
module

public import Idealize.ShloMosaic.Lib.Pointwise

@[expose] public section

noncomputable section

namespace Cert.Proof.Post

open Idealize.ShloMosaic Idealize.ShloMosaic.TcCoe

/-- The mean of a row's 1024 entries. -/
def mean (y : Fin 1024 → EReal) : EReal := Ideal.div (∑ k, y k) (Ideal.ofBits .f32 0x44800000#32)

/-- A row normed, scaled by `g` and moved by `b`. -/
def norm (y g b : Fin 1024 → EReal) (j : Fin 1024) : EReal :=
  (y j - mean y) * Ideal.rsqrt (mean (fun k => (y k - mean y) * (y k - mean y)) + Ideal.ofBits .f32 0x3727C5AC#32) * g j + b j

/-- One entry of the gated hidden row. -/
def act (h wg wu : Fin 1024 → EReal) : EReal :=
  Ideal.div (∑ k, h k * wg k) (1 + Ideal.exp (-∑ k, h k * wg k)) * ∑ k, h k * wu k

/-- A sum of the scaled residual row and a row. -/
def resid (x y : Fin 1024 → EReal) (j : Fin 1024) : EReal := Ideal.ofBits .f32 0x3FB504F3#32 * x j + y j

/-- The row after the projection and the first norm. -/
def hid (x o : Fin 1024 → EReal) (wo : Fin 1024 → Fin 1024 → EReal) (g b : Fin 1024 → EReal) : Fin 1024 → EReal :=
  norm (resid x fun j => ∑ k, o k * wo k j) g b

/-- The row after the feed-forward part and the second norm. -/
def outRow (h : Fin 1024 → EReal) (wg wu : Fin 1024 → Fin 2816 → EReal) (wd : Fin 2816 → Fin 1024 → EReal) (g b : Fin 1024 → EReal) : Fin 1024 → EReal :=
  norm (resid h fun j => ∑ f, act h (fun k => wg k f) (fun k => wu k f) * wd f j) g b

/-- Dividing by a sum that is not zero and multiplying by its inverse agree. -/
theorem div_gate (s : EReal) : Ideal.div s (1 + Ideal.exp (-s)) = s * Ideal.div 1 (1 + Ideal.exp (-s)) := by
  have h : (1 : EReal) + Ideal.exp (-s) ≠ 0 := by
    intro h
    have h0 : (0 : EReal) ≤ Ideal.exp (-s) := by
      generalize -s = t
      induction t with
      | bot => simp
      | top => simp
      | coe r => rw [Ideal.exp_coe]; exact EReal.coe_nonneg.mpr (Real.exp_pos r).le
    have h1 : (1 : EReal) ≤ 1 + Ideal.exp (-s) := le_add_of_nonneg_right h0
    rw [h] at h1
    exact absurd h1 (by norm_num)
  rw [Ideal.div, Ideal.div, if_neg h, if_neg h, one_mul]

end Cert.Proof.Post

end
-- ==== Proof.Post.PayVal.lean ====
/- The values the third call's body computes, entry by entry. -/
module

public import proofs.«01_k».proof.Proof.Post.Row
public import proofs.«01_k».proof.Proof.Gen.PostIdeal.Frame
public import Idealize.ShloMosaic.Lib.Pointwise

@[expose] public section

set_option maxRecDepth 16384

noncomputable section

namespace Cert.Proof.Post.Ker

open Cert.PostIdeal Cert.PostIdeal.Gen
open Idealize.ShloMosaic Idealize.ShloMosaic.TcCoe Idealize.SL Idealize.SL.Sem

theorem chunk_apply (h : FVec Ideal S256x1024 .bf16) (a b : Vec Ideal S1x1024x256 .bf16) (p q : Fin 256) :
    k0_pay9 h a b (ix2 p q) = act (fun k => h (ix2 p k)) (fun k => a (ix3 (0 : Fin 1) k q)) (fun k => b (ix3 (0 : Fin 1) k q)) := by
  have e : k0_pay9 h a b (ix2 p q) = Ideal.div (∑ k : Fin 1024, h (ix2 p k) * a (ix3 (0 : Fin 1) k q)) (Ideal.ofBits .f32 0x3F800000#32 + Ideal.exp (Ideal.ofBits .f32 0x00000000#32 - ∑ k : Fin 1024, h (ix2 p k) * a (ix3 (0 : Fin 1) k q))) * ∑ k : Fin 1024, h (ix2 p k) * b (ix3 (0 : Fin 1) k q) := by
    pointwise [k0_pay9]
  rw [e, Ideal.ofBits_one_f32, Ideal.ofBits_zero_f32, zero_sub]
  rfl

theorem proj_apply (o : Vec Ideal S1024x256 .bf16) (w : Vec Ideal S1x1024x1024 .bf16) (p : Fin 256) (j : Fin 1024) :
    k0_pay3 o w (ix2 p j) = ∑ k : Fin 1024, o (ix2 k p) * w (ix3 (0 : Fin 1) k j) := by
  pointwise [k0_pay3]

theorem down_apply (v : Vec Ideal S256x2816 .bf16) (w : Vec Ideal S1x2816x1024 .bf16) (p : Fin 256) (j : Fin 1024) :
    k0_pay24 v w (ix2 p j) = ∑ f : Fin 2816, v (ix2 p f) * w (ix3 (0 : Fin 1) f j) := by
  pointwise [k0_pay24]

theorem ln_apply (ln : Vec Ideal S4x1024 .f32) (y x : FVec Ideal S256x1024 .f32) (p : Fin 256) (j : Fin 1024) :
    k0_pay5 (k0_pay2 ln) y x (ix2 p j)
      = norm (resid (fun k => x (ix2 p k)) fun k => y (ix2 p k)) (fun k => ln (ix2 (0 : Fin 4) k)) (fun k => ln (ix2 (1 : Fin 4) k)) j := by
  unfold norm mean resid
  pointwise [k0_pay5, k0_pay2]

theorem ln2_apply (ln : Vec Ideal S4x1024 .f32) (y x : FVec Ideal S256x1024 .f32) (p : Fin 256) (j : Fin 1024) :
    k0_pay1 (k0_pay51 (k0_pay2 ln) x y) (k0_pay52 (k0_pay2 ln)) (ix2 p j)
      = norm (resid (fun k => x (ix2 p k)) fun k => y (ix2 p k)) (fun k => ln (ix2 (2 : Fin 4) k)) (fun k => ln (ix2 (3 : Fin 4) k)) j := by
  unfold norm mean resid
  pointwise [k0_pay1, k0_pay51, k0_pay52, k0_pay2]

theorem pay4_eq (ln : Vec Ideal S4x1024 .f32) (o : Vec Ideal S1024x256 .bf16) (w : Vec Ideal S1x1024x1024 .bf16) (x : Vec Ideal S256x1024 .f32) :
    k0_pay4 ln o w x = k0_pay5 (k0_pay2 ln) (k0_pay3 o w) x := rfl

theorem pay50_eq (ln : Vec Ideal S4x1024 .f32) (x y : FVec Ideal S256x1024 .f32) :
    k0_pay50 (k0_pay2 ln) (k0_pay48 x y) (k0_pay49 (k0_pay2 ln)) = k0_pay1 (k0_pay51 (k0_pay2 ln) x y) (k0_pay52 (k0_pay2 ln)) := rfl

end Cert.Proof.Post.Ker

end
-- ==== Proof.Post.BlockVal.lean ====
/- What one grid point of the third call leaves in its output block. -/
module

public import proofs.«01_k».proof.Proof.Post.PayVal
public import Idealize.ShloMosaic.Lib.Pipeline.Value
public import Idealize.ShloMosaic.Lib.Pipeline.ValueKit

@[expose] public section

set_option maxRecDepth 16384

noncomputable section

namespace Cert.Proof.Post.Ker

open Cert.PostIdeal Cert.PostIdeal.Gen
open Idealize.ShloMosaic Idealize.ShloMosaic.TcCoe Idealize.SL Idealize.SL.Sem

section
variable (x0 : Vec Ideal S512x1024 .f32) (x1 : Vec Ideal S1024x512 .bf16) (x2 : Vec Ideal S1x1024x1024 .bf16) (x3 : Vec Ideal S1x1024x2816 .bf16) (x4 : Vec Ideal S1x1024x2816 .bf16) (x5 : Vec Ideal S1x2816x1024 .bf16) (x6 : Vec Ideal S4x1024 .f32)

/-- The hidden row of the block's row `r`. -/
def hidB (r : Fin 512) : Fin 1024 → EReal :=
  hid (fun k => x0 (ix2 r k)) (fun k => x1 (ix2 k r)) (fun k j => x2 (ix3 (0 : Fin 1) k j)) (fun k => x6 (ix2 (0 : Fin 4) k)) (fun k => x6 (ix2 (1 : Fin 4) k))

/-- The gated hidden rows of the block. -/
def actB : S512x2816.Idx → EReal := fun i =>
  act (hidB x0 x1 x2 x6 (i 0)) (fun k => x3 (ix3 (0 : Fin 1) k (i 1 : Fin 2816))) (fun k => x4 (ix3 (0 : Fin 1) k (i 1 : Fin 2816)))

/-- The output block. -/
def outB : S512x1024.Idx → EReal := fun i =>
  outRow (hidB x0 x1 x2 x6 (i 0)) (fun k f => x3 (ix3 (0 : Fin 1) k f)) (fun k f => x4 (ix3 (0 : Fin 1) k f)) (fun f j => x5 (ix3 (0 : Fin 1) f j))
    (fun k => x6 (ix2 (2 : Fin 4) k)) (fun k => x6 (ix2 (3 : Fin 4) k)) (i 1)

/-! ## Loads -/

theorem ld_two {n1 n2 k1 k2 o1 o2 : ℕ} {e : EltTy} (x : Vec Ideal ⟨2, ![n1, n2]⟩ e) (inb) (p : Fin k1) (q : Fin k2) (p' : Fin n1) (q' : Fin n2)
    (hp : p'.val = o1 + p.val) (hq : q'.val = o2 + q.val) :
    View.ld x (Rect.unit (s := ⟨2, ![n1, n2]⟩) ![o1, o2] ![k1, k2] inb) (ix2 p q) = x (ix2 p' q') :=
  View.ld_unit_apply_of x _ _ inb _ _ fun a => by
    match a with
    | ⟨0, _⟩ => exact hp
    | ⟨1, _⟩ => exact hq

theorem ld_three {n2 n3 k2 k3 o3 : ℕ} {e : EltTy} (x : Vec Ideal ⟨3, ![1, n2, n3]⟩ e) (inb) (p : Fin k2) (q : Fin k3) (p' : Fin n2) (q' : Fin n3)
    (hp : p'.val = p.val) (hq : q'.val = o3 + q.val) :
    View.ld x (Rect.unit (s := ⟨3, ![1, n2, n3]⟩) ![0, 0, o3] ![1, k2, k3] inb) (ix3 (0 : Fin 1) p q) = x (ix3 (0 : Fin 1) p' q') :=
  View.ld_unit_apply_of x _ _ inb _ _ fun a => by
    match a with
    | ⟨0, _⟩ => rfl
    | ⟨1, _⟩ => exact hp.trans (Nat.zero_add _).symm
    | ⟨2, _⟩ => exact hq

/-! ## The hidden rows -/

theorem hid_of (ln : Vec Ideal S4x1024 .f32) (o : Vec Ideal S1024x256 .bf16) (w : Vec Ideal S1x1024x1024 .bf16) (x : Vec Ideal S256x1024 .f32)
    (p : Fin 256) (r : Fin 512) (hl : ∀ a k, ln (ix2 a k) = x6 (ix2 a k)) (ho : ∀ k, o (ix2 k p) = x1 (ix2 k r)) (hw : ∀ k j, w (ix3 (0 : Fin 1) k j) = x2 (ix3 (0 : Fin 1) k j))
    (hx : ∀ k, x (ix2 p k) = x0 (ix2 r k)) (j : Fin 1024) :
    k0_pay5 (k0_pay2 ln) (k0_pay3 o w) x (ix2 p j) = hidB x0 x1 x2 x6 r j := by
  rw [ln_apply]
  unfold hidB hid
  simp only [proj_apply, hl, ho, hw, hx]

variable (c : Dev nD) (i : grid0.Coords) (arg1 : Memref sig .tc .vmem S512x1024 .f32) (harg1 : arg1.IsWhole) (arg2 : Memref sig .tc .vmem S1024x512 .bf16) (harg2 : arg2.IsWhole) (arg3 : Memref sig .tc .vmem S1x1024x1024 .bf16) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S4x1024 .f32) (harg7 : arg7.IsWhole) (arg8 : Memref sig .tc .vmem S512x1024 .f32) (harg8 : arg8.IsWhole) (arg9 : Memref sig .tc .vmem S512x2816 .bf16) (harg9 : arg9.IsWhole)

theorem rows0 (p : Fin 256) (j : Fin 1024) :
    kernelRun0_A.sl.r_2 c arg1 harg1 arg2 harg2 arg3 harg3 arg7 harg7 x0 x1 x2 x6 (ix2 p j) = hidB x0 x1 x2 x6 (⟨p.val, by omega⟩ : Fin 512) j := by
  unfold kernelRun0_A.sl.r_2
  rw [pay4_eq]
  simp only [View.readAt_eq_ld, Memref.IsWhole.read_unread]
  exact hid_of x0 x1 x2 x6 _ _ _ _ p _ (fun a k => ld_two _ _ _ _ _ _ (by omega) (by omega)) (fun k => ld_two _ _ _ _ _ _ (by omega) (by simp))
    (fun k j => ld_three _ _ _ _ _ _ rfl (by omega)) (fun k => ld_two _ _ _ _ _ _ (by simp) (by omega)) j

theorem rows1 (p : Fin 256) (j : Fin 1024) :
    kernelRun0_A.sl.r_3 c arg1 harg1 arg2 harg2 arg3 harg3 arg7 harg7 x0 x1 x2 x6 (ix2 p j) = hidB x0 x1 x2 x6 (⟨256 + p.val, by omega⟩ : Fin 512) j := by
  unfold kernelRun0_A.sl.r_3 kernelRun0_A.sl.r kernelRun0_A.sl.r_1
  simp only [View.readAt_eq_ld, Memref.IsWhole.read_unread]
  exact hid_of x0 x1 x2 x6 _ _ _ _ p _ (fun a k => ld_two _ _ _ _ _ _ (by omega) (by omega)) (fun k => ld_two _ _ _ _ _ _ (by omega) (by simp))
    (fun k j => ld_three _ _ _ _ _ _ rfl (by omega)) (fun k => ld_two _ _ _ _ _ _ (by simp) (by omega)) j

/-! ## The gated hidden rows the scratch buffer holds -/

/-- A stored chunk of columns, from column `f0` of the rows from `o`. -/
theorem piece {o f0 : ℕ} (inb) (h : FVec Ideal S256x1024 .bf16) (inb3 : ∀ a, (![0, 0, f0] : Fin 3 → ℕ) a + S1x1024x256.size a ≤ S1x1024x2816.size a) (ho : o + 256 ≤ 512) (hf : f0 + 256 ≤ 2816)
    (hh : ∀ (p : Fin 256) k, h (ix2 p k) = hidB x0 x1 x2 x6 (⟨o + p.val, by omega⟩ : Fin 512) k) (x : S256x256.Idx) :
    k0_pay9 h (View.readAt (Elt Ideal) arg4.view (Rect.unit (s := S1x1024x2816) ![0, 0, f0] S1x1024x256.size inb3).toLoadRect (harg4.unread x3))
      (View.readAt (Elt Ideal) arg5.view (Rect.unit (s := S1x1024x2816) ![0, 0, f0] S1x1024x256.size inb3).toLoadRect (harg5.unread x4)) x
      = actB x0 x1 x2 x3 x4 x6 ((Rect.unit (s := S512x2816) ![o, f0] S256x256.size inb).emb x) := by
  have core : ∀ p q : Fin 256, k0_pay9 h (View.readAt (Elt Ideal) arg4.view (Rect.unit (s := S1x1024x2816) ![0, 0, f0] S1x1024x256.size inb3).toLoadRect (harg4.unread x3)) (View.readAt (Elt Ideal) arg5.view (Rect.unit (s := S1x1024x2816) ![0, 0, f0] S1x1024x256.size inb3).toLoadRect (harg5.unread x4)) (ix2 p q) = actB x0 x1 x2 x3 x4 x6 (ix2 (⟨o + p.val, by omega⟩ : Fin 512) (⟨f0 + q.val, by omega⟩ : Fin 2816)) := by
    intro p q
    rw [chunk_apply]
    simp only [View.readAt_eq_ld, Memref.IsWhole.read_unread]
    show _ = act (hidB x0 x1 x2 x6 (⟨o + p.val, _⟩ : Fin 512)) (fun k => x3 (ix3 (0 : Fin 1) k (⟨f0 + q.val, _⟩ : Fin 2816))) (fun k => x4 (ix3 (0 : Fin 1) k (⟨f0 + q.val, _⟩ : Fin 2816)))
    have e1 : (fun k => h (ix2 p k)) = hidB x0 x1 x2 x6 (⟨o + p.val, by omega⟩ : Fin 512) := funext fun k => hh p k
    rw [e1]
    exact congrArg₂ (act _) (funext fun k => ld_three x3 inb3 k q _ _ rfl rfl) (funext fun k => ld_three x4 inb3 k q _ _ rfl rfl)
  have ex : x = ix2 (x 0 : Fin 256) (x 1 : Fin 256) := by
    funext d
    match d with
    | ⟨0, _⟩ => rfl
    | ⟨1, _⟩ => rfl
  have e : (Rect.unit (s := S512x2816) ![o, f0] S256x256.size inb).emb x = ix2 (⟨o + (x 0 : Fin 256).val, Nat.lt_of_lt_of_le (Nat.add_lt_add_left (x 0 : Fin 256).isLt o) ho⟩ : Fin 512) (⟨f0 + (x 1 : Fin 256).val, Nat.lt_of_lt_of_le (Nat.add_lt_add_left (x 1 : Fin 256).isLt f0) hf⟩ : Fin 2816) := by
    funext a
    apply Fin.ext
    match a with
    | ⟨0, _⟩ => exact Rect.idx_unit_val _ _ inb x 0
    | ⟨1, _⟩ => exact Rect.idx_unit_val _ _ inb x 1
  exact (congrArg _ ex).trans ((core (x 0) (x 1)).trans (congrArg (actB x0 x1 x2 x3 x4 x6) e.symm))

theorem low_pieces : ∀ pc ∈ kernelRun0_A.sl.HS0_11 c arg1 harg1 arg2 harg2 arg3 harg3 arg4 harg4 arg5 harg5 arg7 harg7 x0 x1 x2 x3 x4 x6, ∀ x : pc.1.shape.Idx, pc.2 x = actB x0 x1 x2 x3 x4 x6 (pc.1.emb x) := by
  have hh : ∀ (p : Fin 256) k, kernelRun0_A.sl.r_4 c arg1 harg1 arg2 harg2 arg3 harg3 arg7 harg7 x0 x1 x2 x6 (ix2 p k) = hidB x0 x1 x2 x6 (⟨0 + p.val, by omega⟩ : Fin 512) k := fun p k =>
    (rows0 x0 x1 x2 x6 c arg1 harg1 arg2 harg2 arg3 harg3 arg7 harg7 p k).trans (congrArg (fun r => hidB x0 x1 x2 x6 r k) (Fin.ext (Nat.zero_add _).symm))
  intro pc hp x
  simp only [kernelRun0_A.sl.HS0_11, List.mem_cons, List.mem_nil_iff, or_false] at hp
  rcases hp with rfl | rfl | rfl | rfl | rfl | rfl | rfl | rfl | rfl | rfl | rfl
  · exact piece x0 x1 x2 x3 x4 x6 arg4 harg4 arg5 harg5 (o := 0) (f0 := 2560) inb_S512x2816_S256x256_0_2560 (kernelRun0_A.sl.r_4 c arg1 harg1 arg2 harg2 arg3 harg3 arg7 harg7 x0 x1 x2 x6) inb_S1x1024x2816_S1x1024x256_0_0_2560 (by norm_num) (by norm_num) hh x
  · exact piece x0 x1 x2 x3 x4 x6 arg4 harg4 arg5 harg5 (o := 0) (f0 := 2304) inb_S512x2816_S256x256_0_2304 (kernelRun0_A.sl.r_4 c arg1 harg1 arg2 harg2 arg3 harg3 arg7 harg7 x0 x1 x2 x6) inb_S1x1024x2816_S1x1024x256_0_0_2304 (by norm_num) (by norm_num) hh x
  · exact piece x0 x1 x2 x3 x4 x6 arg4 harg4 arg5 harg5 (o := 0) (f0 := 2048) inb_S512x2816_S256x256_0_2048 (kernelRun0_A.sl.r_4 c arg1 harg1 arg2 harg2 arg3 harg3 arg7 harg7 x0 x1 x2 x6) inb_S1x1024x2816_S1x1024x256_0_0_2048 (by norm_num) (by norm_num) hh x
  · exact piece x0 x1 x2 x3 x4 x6 arg4 harg4 arg5 harg5 (o := 0) (f0 := 1792) inb_S512x2816_S256x256_0_1792 (kernelRun0_A.sl.r_4 c arg1 harg1 arg2 harg2 arg3 harg3 arg7 harg7 x0 x1 x2 x6) inb_S1x1024x2816_S1x1024x256_0_0_1792 (by norm_num) (by norm_num) hh x
  · exact piece x0 x1 x2 x3 x4 x6 arg4 harg4 arg5 harg5 (o := 0) (f0 := 1536) inb_S512x2816_S256x256_0_1536 (kernelRun0_A.sl.r_4 c arg1 harg1 arg2 harg2 arg3 harg3 arg7 harg7 x0 x1 x2 x6) inb_S1x1024x2816_S1x1024x256_0_0_1536 (by norm_num) (by norm_num) hh x
  · exact piece x0 x1 x2 x3 x4 x6 arg4 harg4 arg5 harg5 (o := 0) (f0 := 1280) inb_S512x2816_S256x256_0_1280 (kernelRun0_A.sl.r_4 c arg1 harg1 arg2 harg2 arg3 harg3 arg7 harg7 x0 x1 x2 x6) inb_S1x1024x2816_S1x1024x256_0_0_1280 (by norm_num) (by norm_num) hh x
  · exact piece x0 x1 x2 x3 x4 x6 arg4 harg4 arg5 harg5 (o := 0) (f0 := 1024) inb_S512x2816_S256x256_0_1024 (kernelRun0_A.sl.r_4 c arg1 harg1 arg2 harg2 arg3 harg3 arg7 harg7 x0 x1 x2 x6) inb_S1x1024x2816_S1x1024x256_0_0_1024 (by norm_num) (by norm_num) hh x
  · exact piece x0 x1 x2 x3 x4 x6 arg4 harg4 arg5 harg5 (o := 0) (f0 := 768) inb_S512x2816_S256x256_0_768 (kernelRun0_A.sl.r_4 c arg1 harg1 arg2 harg2 arg3 harg3 arg7 harg7 x0 x1 x2 x6) inb_S1x1024x2816_S1x1024x256_0_0_768 (by norm_num) (by norm_num) hh x
  · exact piece x0 x1 x2 x3 x4 x6 arg4 harg4 arg5 harg5 (o := 0) (f0 := 512) inb_S512x2816_S256x256_0_512 (kernelRun0_A.sl.r_4 c arg1 harg1 arg2 harg2 arg3 harg3 arg7 harg7 x0 x1 x2 x6) inb_S1x1024x2816_S1x1024x256_0_0_512 (by norm_num) (by norm_num) hh x
  · exact piece x0 x1 x2 x3 x4 x6 arg4 harg4 arg5 harg5 (o := 0) (f0 := 256) inb_S512x2816_S256x256_0_256 (kernelRun0_A.sl.r_4 c arg1 harg1 arg2 harg2 arg3 harg3 arg7 harg7 x0 x1 x2 x6) inb_S1x1024x2816_S1x1024x256_0_0_256 (by norm_num) (by norm_num) hh x
  · exact piece x0 x1 x2 x3 x4 x6 arg4 harg4 arg5 harg5 (o := 0) (f0 := 0) inb_S512x2816_S256x256_0_0 (kernelRun0_A.sl.r_4 c arg1 harg1 arg2 harg2 arg3 harg3 arg7 harg7 x0 x1 x2 x6) inb_S1x1024x2816_S1x1024x256_0_0_0 (by norm_num) (by norm_num) hh x

theorem all_pieces : ∀ pc ∈ kernelRun0_A.sl.HS0_22 c arg1 harg1 arg2 harg2 arg3 harg3 arg4 harg4 arg5 harg5 arg7 harg7 x0 x1 x2 x3 x4 x6, ∀ x : pc.1.shape.Idx, pc.2 x = actB x0 x1 x2 x3 x4 x6 (pc.1.emb x) := by
  have hh : ∀ (p : Fin 256) k, kernelRun0_A.sl.r_12 c arg1 harg1 arg2 harg2 arg3 harg3 arg7 harg7 x0 x1 x2 x6 (ix2 p k) = hidB x0 x1 x2 x6 (⟨256 + p.val, by omega⟩ : Fin 512) k := fun p k =>
    rows1 x0 x1 x2 x6 c arg1 harg1 arg2 harg2 arg3 harg3 arg7 harg7 p k
  intro pc hp x
  simp only [kernelRun0_A.sl.HS0_22, List.mem_cons] at hp
  rcases hp with rfl | rfl | rfl | rfl | rfl | rfl | rfl | rfl | rfl | rfl | rfl | hp
  on_goal 12 => exact low_pieces x0 x1 x2 x3 x4 x6 c arg1 harg1 arg2 harg2 arg3 harg3 arg4 harg4 arg5 harg5 arg7 harg7 pc hp x
  · exact piece x0 x1 x2 x3 x4 x6 arg4 harg4 arg5 harg5 (o := 256) (f0 := 2560) inb_S512x2816_S256x256_256_2560 (kernelRun0_A.sl.r_12 c arg1 harg1 arg2 harg2 arg3 harg3 arg7 harg7 x0 x1 x2 x6) inb_S1x1024x2816_S1x1024x256_0_0_2560 (by norm_num) (by norm_num) hh x
  · exact piece x0 x1 x2 x3 x4 x6 arg4 harg4 arg5 harg5 (o := 256) (f0 := 2304) inb_S512x2816_S256x256_256_2304 (kernelRun0_A.sl.r_12 c arg1 harg1 arg2 harg2 arg3 harg3 arg7 harg7 x0 x1 x2 x6) inb_S1x1024x2816_S1x1024x256_0_0_2304 (by norm_num) (by norm_num) hh x
  · exact piece x0 x1 x2 x3 x4 x6 arg4 harg4 arg5 harg5 (o := 256) (f0 := 2048) inb_S512x2816_S256x256_256_2048 (kernelRun0_A.sl.r_12 c arg1 harg1 arg2 harg2 arg3 harg3 arg7 harg7 x0 x1 x2 x6) inb_S1x1024x2816_S1x1024x256_0_0_2048 (by norm_num) (by norm_num) hh x
  · exact piece x0 x1 x2 x3 x4 x6 arg4 harg4 arg5 harg5 (o := 256) (f0 := 1792) inb_S512x2816_S256x256_256_1792 (kernelRun0_A.sl.r_12 c arg1 harg1 arg2 harg2 arg3 harg3 arg7 harg7 x0 x1 x2 x6) inb_S1x1024x2816_S1x1024x256_0_0_1792 (by norm_num) (by norm_num) hh x
  · exact piece x0 x1 x2 x3 x4 x6 arg4 harg4 arg5 harg5 (o := 256) (f0 := 1536) inb_S512x2816_S256x256_256_1536 (kernelRun0_A.sl.r_12 c arg1 harg1 arg2 harg2 arg3 harg3 arg7 harg7 x0 x1 x2 x6) inb_S1x1024x2816_S1x1024x256_0_0_1536 (by norm_num) (by norm_num) hh x
  · exact piece x0 x1 x2 x3 x4 x6 arg4 harg4 arg5 harg5 (o := 256) (f0 := 1280) inb_S512x2816_S256x256_256_1280 (kernelRun0_A.sl.r_12 c arg1 harg1 arg2 harg2 arg3 harg3 arg7 harg7 x0 x1 x2 x6) inb_S1x1024x2816_S1x1024x256_0_0_1280 (by norm_num) (by norm_num) hh x
  · exact piece x0 x1 x2 x3 x4 x6 arg4 harg4 arg5 harg5 (o := 256) (f0 := 1024) inb_S512x2816_S256x256_256_1024 (kernelRun0_A.sl.r_12 c arg1 harg1 arg2 harg2 arg3 harg3 arg7 harg7 x0 x1 x2 x6) inb_S1x1024x2816_S1x1024x256_0_0_1024 (by norm_num) (by norm_num) hh x
  · exact piece x0 x1 x2 x3 x4 x6 arg4 harg4 arg5 harg5 (o := 256) (f0 := 768) inb_S512x2816_S256x256_256_768 (kernelRun0_A.sl.r_12 c arg1 harg1 arg2 harg2 arg3 harg3 arg7 harg7 x0 x1 x2 x6) inb_S1x1024x2816_S1x1024x256_0_0_768 (by norm_num) (by norm_num) hh x
  · exact piece x0 x1 x2 x3 x4 x6 arg4 harg4 arg5 harg5 (o := 256) (f0 := 512) inb_S512x2816_S256x256_256_512 (kernelRun0_A.sl.r_12 c arg1 harg1 arg2 harg2 arg3 harg3 arg7 harg7 x0 x1 x2 x6) inb_S1x1024x2816_S1x1024x256_0_0_512 (by norm_num) (by norm_num) hh x
  · exact piece x0 x1 x2 x3 x4 x6 arg4 harg4 arg5 harg5 (o := 256) (f0 := 256) inb_S512x2816_S256x256_256_256 (kernelRun0_A.sl.r_12 c arg1 harg1 arg2 harg2 arg3 harg3 arg7 harg7 x0 x1 x2 x6) inb_S1x1024x2816_S1x1024x256_0_0_256 (by norm_num) (by norm_num) hh x
  · exact piece x0 x1 x2 x3 x4 x6 arg4 harg4 arg5 harg5 (o := 256) (f0 := 0) inb_S512x2816_S256x256_256_0 (kernelRun0_A.sl.r_12 c arg1 harg1 arg2 harg2 arg3 harg3 arg7 harg7 x0 x1 x2 x6) inb_S1x1024x2816_S1x1024x256_0_0_0 (by norm_num) (by norm_num) hh x

theorem full (y : S512x2816.Idx) : ∃ pc ∈ kernelRun0_A.sl.HS0_22 c arg1 harg1 arg2 harg2 arg3 harg3 arg4 harg4 arg5 harg5 arg7 harg7 x0 x1 x2 x3 x4 x6, y ∈ pc.1.set :=
  View.cover_of_tiledL (kernelRun0_A.sl.HS0_22 c arg1 harg1 arg2 harg2 arg3 harg3 arg4 harg4 arg5 harg5 arg7 harg7 x0 x1 x2 x3 x4 x6) S256x256.size (by sl_kernel_rfl) y

/-- A chunk of the second half has no row of the first. -/
theorem high {f0 : ℕ} (inb) (y : S512x2816.Idx) (hy : y ∈ (Rect.unit (s := S512x2816) ![256, f0] S256x256.size inb).set) : 256 ≤ (y 0 : Fin 512).val := by
  exact (Rect.mem_set_unit.mp hy 0).1

/-- The chunks of the first half cover its rows. -/
theorem lowCover (y : S512x2816.Idx) (h : (y 0 : Fin 512).val < 256) : ∃ pc ∈ kernelRun0_A.sl.HS0_11 c arg1 harg1 arg2 harg2 arg3 harg3 arg4 harg4 arg5 harg5 arg7 harg7 x0 x1 x2 x3 x4 x6, y ∈ pc.1.set := by
  obtain ⟨pc, hp, hy⟩ := full x0 x1 x2 x3 x4 x6 c arg1 harg1 arg2 harg2 arg3 harg3 arg4 harg4 arg5 harg5 arg7 harg7 y
  simp only [kernelRun0_A.sl.HS0_22, List.mem_cons] at hp
  rcases hp with rfl | rfl | rfl | rfl | rfl | rfl | rfl | rfl | rfl | rfl | rfl | hp
  on_goal 12 => exact ⟨pc, hp, hy⟩
  · exact absurd (high (f0 := 2560) inb_S512x2816_S256x256_256_2560 y hy) (Nat.not_le.mpr h)
  · exact absurd (high (f0 := 2304) inb_S512x2816_S256x256_256_2304 y hy) (Nat.not_le.mpr h)
  · exact absurd (high (f0 := 2048) inb_S512x2816_S256x256_256_2048 y hy) (Nat.not_le.mpr h)
  · exact absurd (high (f0 := 1792) inb_S512x2816_S256x256_256_1792 y hy) (Nat.not_le.mpr h)
  · exact absurd (high (f0 := 1536) inb_S512x2816_S256x256_256_1536 y hy) (Nat.not_le.mpr h)
  · exact absurd (high (f0 := 1280) inb_S512x2816_S256x256_256_1280 y hy) (Nat.not_le.mpr h)
  · exact absurd (high (f0 := 1024) inb_S512x2816_S256x256_256_1024 y hy) (Nat.not_le.mpr h)
  · exact absurd (high (f0 := 768) inb_S512x2816_S256x256_256_768 y hy) (Nat.not_le.mpr h)
  · exact absurd (high (f0 := 512) inb_S512x2816_S256x256_256_512 y hy) (Nat.not_le.mpr h)
  · exact absurd (high (f0 := 256) inb_S512x2816_S256x256_256_256 y hy) (Nat.not_le.mpr h)
  · exact absurd (high (f0 := 0) inb_S512x2816_S256x256_256_0 y hy) (Nat.not_le.mpr h)

theorem gated0 (p : Fin 256) (f : Fin 2816) : kernelRun0_A.sl.v250 c arg1 harg1 arg2 harg2 arg3 harg3 arg4 harg4 arg5 harg5 arg7 harg7 arg9 x0 x1 x2 x3 x4 x6 (ix2 p f) = actB x0 x1 x2 x3 x4 x6 (ix2 (⟨p.val, by omega⟩ : Fin 512) f) := by
  unfold kernelRun0_A.sl.v250
  rw [View.readCov_eq_canon']
  have e : (Rect.unit (s := S512x2816) ![0, 0] S256x2816.size inb_S512x2816_S256x2816_0_0).toLoadRect.idx (ix2 p f) = ix2 (⟨p.val, by omega⟩ : Fin 512) f := by
    funext a
    apply Fin.ext
    match a with
    | ⟨0, _⟩ => show 0 + 1 * p.val = p.val; omega
    | ⟨1, _⟩ => show 0 + 1 * f.val = f.val; omega
  refine (congrArg (View.canon _) e).trans ?_
  exact View.canon_apply_of_pieces (actB x0 x1 x2 x3 x4 x6) _ (low_pieces x0 x1 x2 x3 x4 x6 c arg1 harg1 arg2 harg2 arg3 harg3 arg4 harg4 arg5 harg5 arg7 harg7) _
    (lowCover x0 x1 x2 x3 x4 x6 c arg1 harg1 arg2 harg2 arg3 harg3 arg4 harg4 arg5 harg5 arg7 harg7 (ix2 (⟨p.val, by omega⟩ : Fin 512) f) p.isLt)

theorem gated1 (p : Fin 256) (f : Fin 2816) : kernelRun0_A.sl.v442 c arg1 harg1 arg2 harg2 arg3 harg3 arg4 harg4 arg5 harg5 arg7 harg7 arg9 x0 x1 x2 x3 x4 x6 (ix2 p f) = actB x0 x1 x2 x3 x4 x6 (ix2 (⟨256 + p.val, by omega⟩ : Fin 512) f) := by
  unfold kernelRun0_A.sl.v442
  rw [View.readCov_eq_canon']
  have e : (Rect.unit (s := S512x2816) ![256, 0] S256x2816.size inb_S512x2816_S256x2816_256_0).toLoadRect.idx (ix2 p f) = ix2 (⟨256 + p.val, by omega⟩ : Fin 512) f := by
    funext a
    apply Fin.ext
    match a with
    | ⟨0, _⟩ => show 256 + 1 * p.val = 256 + p.val; omega
    | ⟨1, _⟩ => show 0 + 1 * f.val = f.val; omega
  refine (congrArg (View.canon _) e).trans ?_
  exact View.canon_apply_of_pieces (actB x0 x1 x2 x3 x4 x6) _ (all_pieces x0 x1 x2 x3 x4 x6 c arg1 harg1 arg2 harg2 arg3 harg3 arg4 harg4 arg5 harg5 arg7 harg7) _
    (full x0 x1 x2 x3 x4 x6 c arg1 harg1 arg2 harg2 arg3 harg3 arg4 harg4 arg5 harg5 arg7 harg7 _)

/-! ## The output block -/

/-- A row of the output, from the hidden row and the gated hidden row. -/
theorem out_of (ln : Vec Ideal S4x1024 .f32) (h : FVec Ideal S256x1024 .f32) (a : Vec Ideal S256x2816 .bf16) (w : Vec Ideal S1x2816x1024 .bf16) (p : Fin 256) (r : Fin 512)
    (hl : ∀ a k, ln (ix2 a k) = x6 (ix2 a k)) (hh : ∀ k, h (ix2 p k) = hidB x0 x1 x2 x6 r k) (ha : ∀ f, a (ix2 p f) = actB x0 x1 x2 x3 x4 x6 (ix2 r f))
    (hw : ∀ f j, w (ix3 (0 : Fin 1) f j) = x5 (ix3 (0 : Fin 1) f j)) (j : Fin 1024) :
    k0_pay1 (k0_pay51 (k0_pay2 ln) h (k0_pay24 a w)) (k0_pay52 (k0_pay2 ln)) (ix2 p j) = outB x0 x1 x2 x3 x4 x5 x6 (ix2 r j) := by
  rw [ln2_apply]
  show _ = outRow (hidB x0 x1 x2 x6 r) _ _ _ _ _ j
  unfold outRow
  simp only [down_apply, hl, hh, ha, hw]
  rfl

theorem out0 (p : Fin 256) (j : Fin 1024) :
    k0_pay50 (kernelRun0_A.sl.r c arg7 harg7 x6) (kernelRun0_A.sl.r_24 c arg1 harg1 arg2 harg2 arg3 harg3 arg4 harg4 arg5 harg5 arg6 harg6 arg7 harg7 arg9 x0 x1 x2 x3 x4 x5 x6) (kernelRun0_A.sl.r_25 c arg7 harg7 x6) (ix2 p j)
      = outB x0 x1 x2 x3 x4 x5 x6 (ix2 (⟨p.val, by omega⟩ : Fin 512) j) := by
  unfold kernelRun0_A.sl.r_24 kernelRun0_A.sl.r_25 kernelRun0_A.sl.r kernelRun0_A.sl.r_11
  rw [pay50_eq]
  refine out_of x0 x1 x2 x3 x4 x5 x6 _ _ _ _ p _ ?_ (fun k => rows0 x0 x1 x2 x6 c arg1 harg1 arg2 harg2 arg3 harg3 arg7 harg7 p k)
    (fun f => gated0 x0 x1 x2 x3 x4 x6 c arg1 harg1 arg2 harg2 arg3 harg3 arg4 harg4 arg5 harg5 arg7 harg7 arg9 p f) ?_ j
  · intro a k
    rw [View.readAt_eq_ld, Memref.IsWhole.read_unread]
    exact ld_two _ _ _ _ _ _ (by omega) (by omega)
  · intro f j
    rw [View.readAt_eq_ld, Memref.IsWhole.read_unread]
    exact ld_three _ _ _ _ _ _ rfl (by omega)

theorem out1 (p : Fin 256) (j : Fin 1024) :
    k0_pay1 (kernelRun0_A.sl.r_26 c arg1 harg1 arg2 harg2 arg3 harg3 arg4 harg4 arg5 harg5 arg6 harg6 arg7 harg7 arg9 x0 x1 x2 x3 x4 x5 x6) (kernelRun0_A.sl.r_27 c arg7 harg7 x6) (ix2 p j)
      = outB x0 x1 x2 x3 x4 x5 x6 (ix2 (⟨256 + p.val, by omega⟩ : Fin 512) j) := by
  unfold kernelRun0_A.sl.r_26 kernelRun0_A.sl.r_27 kernelRun0_A.sl.r kernelRun0_A.sl.r_23
  refine out_of x0 x1 x2 x3 x4 x5 x6 _ _ _ _ p _ ?_ (fun k => rows1 x0 x1 x2 x6 c arg1 harg1 arg2 harg2 arg3 harg3 arg7 harg7 p k)
    (fun f => gated1 x0 x1 x2 x3 x4 x6 c arg1 harg1 arg2 harg2 arg3 harg3 arg4 harg4 arg5 harg5 arg7 harg7 arg9 p f) ?_ j
  · intro a k
    rw [View.readAt_eq_ld, Memref.IsWhole.read_unread]
    exact ld_two _ _ _ _ _ _ (by omega) (by omega)
  · intro f j
    rw [View.readAt_eq_ld, Memref.IsWhole.read_unread]
    exact ld_three _ _ _ _ _ _ rfl (by omega)

/-- A half of the output block, from row `o`. -/
theorem half {o : ℕ} (inb) (ho : o + 256 ≤ 512) (v : FVec Ideal S256x1024 .f32) (hv : ∀ (p : Fin 256) (j : Fin 1024), v (ix2 p j) = outB x0 x1 x2 x3 x4 x5 x6 (ix2 (⟨o + p.val, by omega⟩ : Fin 512) j)) (x : S256x1024.Idx) :
    v x = outB x0 x1 x2 x3 x4 x5 x6 ((Rect.unit (s := S512x1024) ![o, 0] S256x1024.size inb).emb x) := by
  have ex : x = ix2 (x 0 : Fin 256) (x 1 : Fin 1024) := by
    funext d
    match d with
    | ⟨0, _⟩ => rfl
    | ⟨1, _⟩ => rfl
  have e : (Rect.unit (s := S512x1024) ![o, 0] S256x1024.size inb).emb x = ix2 (⟨o + (x 0 : Fin 256).val, Nat.lt_of_lt_of_le (Nat.add_lt_add_left (x 0 : Fin 256).isLt o) ho⟩ : Fin 512) (x 1 : Fin 1024) := by
    funext a
    apply Fin.ext
    match a with
    | ⟨0, _⟩ => exact Rect.idx_unit_val _ _ inb x 0
    | ⟨1, _⟩ => exact (Rect.idx_unit_val _ _ inb x 1).trans (Nat.zero_add _)
  exact (congrArg _ ex).trans ((hv (x 0) (x 1)).trans (congrArg (outB x0 x1 x2 x3 x4 x5 x6) e.symm))

theorem block_out (arg8 : Memref sig .tc .vmem S512x1024 .f32) (harg8 : arg8.IsWhole) (harg9 : arg9.IsWhole) :
    out0_A_7 c i arg1 harg1 arg2 harg2 arg3 harg3 arg4 harg4 arg5 harg5 arg6 harg6 arg7 harg7 arg8 harg8 arg9 harg9 x0 x1 x2 x3 x4 x5 x6 = outB x0 x1 x2 x3 x4 x5 x6 := by
  unfold out0_A_7
  rw [View.read_writes_junk_eq_canon]
  funext y
  refine View.canon_apply_of_pieces (outB x0 x1 x2 x3 x4 x5 x6) _ ?_ y (cover0_A_7 c i arg1 harg1 arg2 harg2 arg3 harg3 arg4 harg4 arg5 harg5 arg6 harg6 arg7 harg7 arg8 harg8 arg9 harg9 x0 x1 x2 x3 x4 x5 x6 y)
  intro pc hp x
  unfold kernelRun0_A at hp
  simp only [List.mem_cons, List.mem_nil_iff, or_false] at hp
  rcases hp with rfl | rfl
  · exact half x0 x1 x2 x3 x4 x5 x6 inb_S512x1024_S256x1024_256_0 (by norm_num) _ (fun p j => out1 x0 x1 x2 x3 x4 x5 x6 c arg1 harg1 arg2 harg2 arg3 harg3 arg4 harg4 arg5 harg5 arg6 harg6 arg7 harg7 arg9 p j) x
  · exact half x0 x1 x2 x3 x4 x5 x6 inb_S512x1024_S256x1024_0_0 (by norm_num) _ (fun p j => (out0 x0 x1 x2 x3 x4 x5 x6 c arg1 harg1 arg2 harg2 arg3 harg3 arg4 harg4 arg5 harg5 arg6 harg6 arg7 harg7 arg9 p j).trans
      (congrArg (fun r => outB x0 x1 x2 x3 x4 x5 x6 (ix2 r j)) (Fin.ext (Nat.zero_add _).symm))) x

end

end Cert.Proof.Post.Ker

end
-- ==== Proof.Post.RefVal.lean ====
/- What the third call's reference computes, entry by entry. -/
module

public import proofs.«01_k».proof.Proof.Post.Row
public import proofs.«01_k».proof.Proof.Gen.PostReferenceIdeal.Run
public import proofs.«01_k».proof.Proof.Gen.PostReferenceIdeal.Read
public import Idealize.ShloMosaic.Lib.Pointwise

@[expose] public section

set_option maxRecDepth 16384

noncomputable section

namespace Cert.Proof.Post.Ref

open Cert.PostReferenceIdeal Cert.PostReferenceIdeal.Gen Cert.PostReferenceIdeal.Read
open Idealize.ShloMosaic Idealize.ShloMosaic.TcCoe

variable (x0 : FVec Ideal S16384x1024 .f32) (x1 : FVec Ideal S1024x16384 .bf16) (x2 : FVec Ideal S1x1024x1024 .bf16)
  (x3 x4 : FVec Ideal S2x1024x2816 .bf16) (x5 : FVec Ideal S2x2816x1024 .bf16) (x6 x7 x8 x9 : FVec Ideal S2x1024 .f32)

/-- The reference's hidden row `r`. -/
def hidR (r : Fin 16384) : Fin 1024 → EReal :=
  hid (fun k => x0 (ix2 r k)) (fun k => x1 (ix2 k r)) (fun k j => x2 (ix3 (0 : Fin 1) k j)) (fun k => x6 (ix2 (0 : Fin 2) k)) (fun k => x7 (ix2 (0 : Fin 2) k))

theorem v6_apply (r : Fin 16384) (j : Fin 1024) :
    val_main_v6 (F := Ideal) x0 x1 x2 (ix2 r j) = resid (fun k => x0 (ix2 r k)) (fun j => ∑ k, x1 (ix2 k r) * x2 (ix3 (0 : Fin 1) k j)) j := by
  unfold resid
  pointwise [val_main_v6, val_main_v5, val_main_v4, val_main_cst, val_main_v3, val_main_v2, val_main_v1, val_main_v0]

theorem v32_apply (r : Fin 16384) (j : Fin 1024) :
    val_main_v32 (F := Ideal) x0 x1 x2 x6 x7 (ix2 r j) = hidR x0 x1 x2 x6 x7 r j := by
  unfold hidR hid
  rw [show (resid (fun k => x0 (ix2 r k)) fun j => ∑ k, x1 (ix2 k r) * x2 (ix3 (0 : Fin 1) k j)) = fun j => val_main_v6 (F := Ideal) x0 x1 x2 (ix2 r j) from funext fun j => (v6_apply x0 x1 x2 r j).symm]
  unfold norm mean
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst_3, val_main_cst_4]

/-- One entry of the reference's gated hidden row. -/
def actR (r : Fin 16384) (f : Fin 2816) : EReal :=
  act (hidR x0 x1 x2 x6 x7 r) (fun k => x3 (ix3 (0 : Fin 2) k f)) (fun k => x4 (ix3 (0 : Fin 2) k f))

theorem v44_apply (r : Fin 16384) (f : Fin 2816) :
    val_main_v44 (F := Ideal) x0 x1 x2 x3 x6 x7 (ix2 r f) = ∑ k, hidR x0 x1 x2 x6 x7 r k * x3 (ix3 (0 : Fin 2) k f) := by
  have e : val_main_v44 (F := Ideal) x0 x1 x2 x3 x6 x7 (ix2 r f) = ∑ k : Fin 1024, val_main_v32 (F := Ideal) x0 x1 x2 x6 x7 (ix2 r k) * x3 (ix3 (0 : Fin 2) k f) := by
    pointwise [val_main_v44, val_main_v37, val_main_v36, val_main_v35]
  rw [e]
  exact Finset.sum_congr rfl fun k _ => by rw [v32_apply]

theorem v46_apply (r : Fin 16384) (f : Fin 2816) :
    val_main_v46 (F := Ideal) x0 x1 x2 x4 x6 x7 (ix2 r f) = ∑ k, hidR x0 x1 x2 x6 x7 r k * x4 (ix3 (0 : Fin 2) k f) := by
  have e : val_main_v46 (F := Ideal) x0 x1 x2 x4 x6 x7 (ix2 r f) = ∑ k : Fin 1024, val_main_v32 (F := Ideal) x0 x1 x2 x6 x7 (ix2 r k) * x4 (ix3 (0 : Fin 2) k f) := by
    pointwise [val_main_v46, val_main_v40, val_main_v39, val_main_v38]
  rw [e]
  exact Finset.sum_congr rfl fun k _ => by rw [v32_apply]

theorem v47_apply (r : Fin 16384) (f : Fin 2816) :
    val_main_v47 (F := Ideal) x0 x1 x2 x3 x4 x6 x7 (ix2 r f) = actR x0 x1 x2 x3 x4 x6 x7 r f := by
  have e : val_main_v47 (F := Ideal) x0 x1 x2 x3 x4 x6 x7 (ix2 r f)
      = val_main_v44 (F := Ideal) x0 x1 x2 x3 x6 x7 (ix2 r f) * Ideal.div (Ideal.ofBits .f32 0x3F800000#32) (Ideal.ofBits .f32 0x3F800000#32 + Ideal.exp (-val_main_v44 (F := Ideal) x0 x1 x2 x3 x6 x7 (ix2 r f)))
        * val_main_v46 (F := Ideal) x0 x1 x2 x4 x6 x7 (ix2 r f) := by
    pointwise [val_main_v47, val_main_v45, val_main_call0_v5, val_main_call0_v4, val_main_call0_v3, val_main_call0_v2, val_main_call0_v1, val_main_call0_v0, val_main_call0_cst, val_main_call0_cst_0]
  rw [e, Ideal.ofBits_one_f32, v44_apply, v46_apply, ← div_gate]
  rfl

theorem v49_apply (r : Fin 16384) (j : Fin 1024) :
    val_main_v49 (F := Ideal) x0 x1 x2 x3 x4 x5 x6 x7 (ix2 r j)
      = resid (hidR x0 x1 x2 x6 x7 r) (fun j => ∑ f, actR x0 x1 x2 x3 x4 x6 x7 r f * x5 (ix3 (0 : Fin 2) f j)) j := by
  have e : val_main_v49 (F := Ideal) x0 x1 x2 x3 x4 x5 x6 x7 (ix2 r j)
      = Ideal.ofBits .f32 0x3FB504F3#32 * val_main_v32 (F := Ideal) x0 x1 x2 x6 x7 (ix2 r j)
        + ∑ f : Fin 2816, val_main_v47 (F := Ideal) x0 x1 x2 x3 x4 x6 x7 (ix2 r f) * x5 (ix3 (0 : Fin 2) f j) := by
    pointwise [val_main_v49, val_main_v48, val_main_v43, val_main_v42, val_main_v41, val_main_v34, val_main_v33, val_main_cst_5]
  rw [e, v32_apply]
  unfold resid
  exact congrArg _ (Finset.sum_congr rfl fun f _ => by rw [v47_apply])

/-- One entry of the reference's result. -/
theorem ref_apply (r : Fin 16384) (j : Fin 1024) :
    val_main_v75 (F := Ideal) x0 x1 x2 x3 x4 x5 x6 x7 x8 x9 (ix2 r j)
      = outRow (hidR x0 x1 x2 x6 x7 r) (fun k f => x3 (ix3 (0 : Fin 2) k f)) (fun k f => x4 (ix3 (0 : Fin 2) k f)) (fun f j => x5 (ix3 (0 : Fin 2) f j))
        (fun k => x8 (ix2 (0 : Fin 2) k)) (fun k => x9 (ix2 (0 : Fin 2) k)) j := by
  have h : (resid (hidR x0 x1 x2 x6 x7 r) fun j => ∑ f, act (hidR x0 x1 x2 x6 x7 r) (fun k => x3 (ix3 (0 : Fin 2) k f)) (fun k => x4 (ix3 (0 : Fin 2) k f)) * x5 (ix3 (0 : Fin 2) f j))
      = fun j => val_main_v49 (F := Ideal) x0 x1 x2 x3 x4 x5 x6 x7 (ix2 r j) := funext fun j => (v49_apply x0 x1 x2 x3 x4 x5 x6 x7 r j).symm
  unfold outRow
  rw [h]
  unfold norm mean
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_6, val_main_cst_7, val_main_cst_8, val_main_cst_9, val_main_cst_10]

end Cert.Proof.Post.Ref

end
-- ==== Proof.Post.RunVal.lean ====
/- The launch of the third call: the result array holds, at every row, what the reference computes. -/
module

public import proofs.«01_k».proof.Proof.Post.BlockVal
public import proofs.«01_k».proof.Proof.Post.RefVal
public import Idealize.ShloMosaic.Lib.Pointwise
public import Idealize.ShloMosaic.Lib.Claim
public import Idealize.ShloMosaic.Lib.StableHlo.RunRead

@[expose] public section

set_option maxRecDepth 16384

noncomputable section

namespace Cert.Proof.Post.Ker

open Cert.PostIdeal Cert.PostIdeal.Gen
open Idealize.ShloMosaic Idealize.ShloMosaic.TcCoe Idealize.SL Idealize.SL.Sem

variable (m : (ℓ : Loc nD τ sig) → Buf (Elt Ideal) ℓ) (ρ : Dev nD → PrngReg) (c : Dev nD)

/-! ## The blocks -/

theorem e0 : ∀ t : Fin cfg0.N, win0_0.index t = ![t.val, 0] := by decide +kernel
theorem e1 : ∀ t : Fin cfg0.N, win0_1.index t = ![0, t.val] := by decide +kernel
theorem e2 : ∀ t : Fin cfg0.N, win0_2.index t = ![0, 0, 0] := by decide +kernel
theorem e3 : ∀ t : Fin cfg0.N, win0_3.index t = ![0, 0, 0] := by decide +kernel
theorem e4 : ∀ t : Fin cfg0.N, win0_4.index t = ![0, 0, 0] := by decide +kernel
theorem e5 : ∀ t : Fin cfg0.N, win0_5.index t = ![0, 0, 0] := by decide +kernel
theorem e6 : ∀ t : Fin cfg0.N, win0_6.index t = ![0, 0] := by decide +kernel
theorem lt32 (t : Fin cfg0.N) : t.val < 32 := lt_of_lt_of_eq t.isLt N_0

theorem r0 (x : main_arg0.ty.Contents (Elt Ideal)) (t : Fin cfg0.N) (r : Fin 512) (k : Fin 1024) :
    ((cfg0.win 0).blk t).view.read (Elt Ideal) x (ix2 r k) = x (ix2 (⟨t.val * 512 + r.val, by have := lt32 t; omega⟩ : Fin 16384) k) := by
  blk_simp
  blk_ext [e0]

theorem r1 (x : main_arg1.ty.Contents (Elt Ideal)) (t : Fin cfg0.N) (k : Fin 1024) (r : Fin 512) :
    ((cfg0.win 1).blk t).view.read (Elt Ideal) x (ix2 k r) = x (ix2 k (⟨t.val * 512 + r.val, by have := lt32 t; omega⟩ : Fin 16384)) := by
  blk_simp
  blk_ext [e1]

theorem r2 (x : main_arg2.ty.Contents (Elt Ideal)) (t : Fin cfg0.N) (k j : Fin 1024) :
    ((cfg0.win 2).blk t).view.read (Elt Ideal) x (ix3 (0 : Fin 1) k j) = x (ix3 (0 : Fin 1) k j) := by
  blk_simp
  blk_ext [e2]

theorem r3 (x : main_arg3.ty.Contents (Elt Ideal)) (t : Fin cfg0.N) (k : Fin 1024) (f : Fin 2816) :
    ((cfg0.win 3).blk t).view.read (Elt Ideal) x (ix3 (0 : Fin 1) k f) = x (ix3 (0 : Fin 2) k f) := by
  blk_simp
  blk_ext [e3]

theorem r4 (x : main_arg4.ty.Contents (Elt Ideal)) (t : Fin cfg0.N) (k : Fin 1024) (f : Fin 2816) :
    ((cfg0.win 4).blk t).view.read (Elt Ideal) x (ix3 (0 : Fin 1) k f) = x (ix3 (0 : Fin 2) k f) := by
  blk_simp
  blk_ext [e4]

theorem r5 (x : main_arg5.ty.Contents (Elt Ideal)) (t : Fin cfg0.N) (f : Fin 2816) (j : Fin 1024) :
    ((cfg0.win 5).blk t).view.read (Elt Ideal) x (ix3 (0 : Fin 1) f j) = x (ix3 (0 : Fin 2) f j) := by
  blk_simp
  blk_ext [e5]

theorem r6 (x : main_v12.ty.Contents (Elt Ideal)) (t : Fin cfg0.N) (a : Fin 4) (k : Fin 1024) :
    ((cfg0.win 6).blk t).view.read (Elt Ideal) x (ix2 a k) = x (ix2 a k) := by
  blk_simp
  blk_ext [e6]

/-! ## The four rows of gains and biases -/

/-- The last host operation puts the four rows one below the other. -/
theorem last_row (W : Valuation τ sig (Elt Ideal)) : StableHlo.after (hostOps0.drop 12) W (Proc.devRef .tc main_v12)
    = concatenate S4x1024 0 [⟨S1x1024, (W (Proc.devRef .tc main_v8) : FVec Ideal S1x1024 .f32)⟩, ⟨S1x1024, (W (Proc.devRef .tc main_v9) : FVec Ideal S1x1024 .f32)⟩, ⟨S1x1024, (W (Proc.devRef .tc main_v10) : FVec Ideal S1x1024 .f32)⟩, ⟨S1x1024, (W (Proc.devRef .tc main_v11) : FVec Ideal S1x1024 .f32)⟩] concatenates_S1x1024_S1x1024_S1x1024_S1x1024_S4x1024_d0 := by
  simp only [hostOps0, List.drop_succ_cons, List.drop_zero, StableHlo.after_cons, StableHlo.after_nil]
  exact StableHlo.nary_result' _ _ _ _ _

/-- The rows before they are put together. -/
def rowsAt : Valuation τ sig (Elt Ideal) := StableHlo.after (hostOps0.take 12) (fun b => m (c, b))

theorem v12_read : V m c main_v12 = concatenate S4x1024 0 [⟨S1x1024, (rowsAt m c (Proc.devRef .tc main_v8) : FVec Ideal S1x1024 .f32)⟩, ⟨S1x1024, (rowsAt m c (Proc.devRef .tc main_v9) : FVec Ideal S1x1024 .f32)⟩, ⟨S1x1024, (rowsAt m c (Proc.devRef .tc main_v10) : FVec Ideal S1x1024 .f32)⟩, ⟨S1x1024, (rowsAt m c (Proc.devRef .tc main_v11) : FVec Ideal S1x1024 .f32)⟩] concatenates_S1x1024_S1x1024_S1x1024_S1x1024_S4x1024_d0 :=
  last_row (rowsAt m c)

/-- An entry of four rows put one below the other. -/
theorem four (x y z w : FVec Ideal S1x1024 .f32) (k : Fin 1024) (C : FVec Ideal S4x1024 .f32)
    (h : C = concatenate S4x1024 0 [⟨S1x1024, x⟩, ⟨S1x1024, y⟩, ⟨S1x1024, z⟩, ⟨S1x1024, w⟩] concatenates_S1x1024_S1x1024_S1x1024_S1x1024_S4x1024_d0) :
    C (ix2 (0 : Fin 4) k) = x (ix2 (0 : Fin 1) k) ∧ C (ix2 (1 : Fin 4) k) = y (ix2 (0 : Fin 1) k) ∧ C (ix2 (2 : Fin 4) k) = z (ix2 (0 : Fin 1) k) ∧ C (ix2 (3 : Fin 4) k) = w (ix2 (0 : Fin 1) k) := by
  subst h
  refine ⟨?_, ?_, ?_, ?_⟩
  all_goals pointwise

theorem v8_read (k : Fin 1024) : (rowsAt m c (Proc.devRef .tc main_v8) : FVec Ideal S1x1024 .f32) (ix2 (0 : Fin 1) k) = m ((c.tc : Thread nD τ).loc main_arg6) (ix2 (0 : Fin 2) k) := by
  simp only [rowsAt, hostOps0, List.take_succ_cons, List.take_zero]
  entry_read
  pointwise

theorem v9_read (k : Fin 1024) : (rowsAt m c (Proc.devRef .tc main_v9) : FVec Ideal S1x1024 .f32) (ix2 (0 : Fin 1) k) = m ((c.tc : Thread nD τ).loc main_arg7) (ix2 (0 : Fin 2) k) := by
  simp only [rowsAt, hostOps0, List.take_succ_cons, List.take_zero]
  entry_read
  pointwise

theorem v10_read (k : Fin 1024) : (rowsAt m c (Proc.devRef .tc main_v10) : FVec Ideal S1x1024 .f32) (ix2 (0 : Fin 1) k) = m ((c.tc : Thread nD τ).loc main_arg8) (ix2 (0 : Fin 2) k) := by
  simp only [rowsAt, hostOps0, List.take_succ_cons, List.take_zero]
  entry_read
  pointwise

theorem v11_read (k : Fin 1024) : (rowsAt m c (Proc.devRef .tc main_v11) : FVec Ideal S1x1024 .f32) (ix2 (0 : Fin 1) k) = m ((c.tc : Thread nD τ).loc main_arg9) (ix2 (0 : Fin 2) k) := by
  simp only [rowsAt, hostOps0, List.take_succ_cons, List.take_zero]
  entry_read
  pointwise

theorem v12_0 (k : Fin 1024) : V m c main_v12 (ix2 (0 : Fin 4) k) = m ((c.tc : Thread nD τ).loc main_arg6) (ix2 (0 : Fin 2) k) :=
  (four _ _ _ _ k _ (v12_read m c)).1.trans (v8_read m c k)

theorem v12_1 (k : Fin 1024) : V m c main_v12 (ix2 (1 : Fin 4) k) = m ((c.tc : Thread nD τ).loc main_arg7) (ix2 (0 : Fin 2) k) :=
  (four _ _ _ _ k _ (v12_read m c)).2.1.trans (v9_read m c k)

theorem v12_2 (k : Fin 1024) : V m c main_v12 (ix2 (2 : Fin 4) k) = m ((c.tc : Thread nD τ).loc main_arg8) (ix2 (0 : Fin 2) k) :=
  (four _ _ _ _ k _ (v12_read m c)).2.2.1.trans (v10_read m c k)

theorem v12_3 (k : Fin 1024) : V m c main_v12 (ix2 (3 : Fin 4) k) = m ((c.tc : Thread nD τ).loc main_arg9) (ix2 (0 : Fin 2) k) :=
  (four _ _ _ _ k _ (v12_read m c)).2.2.2.trans (v11_read m c k)

/-! ## The arguments the launch reads, as the blocks find them -/

theorem b0 (t : Fin cfg0.N) (r : Fin 512) (k : Fin 1024) : iblk m c 0 t (ix2 r k) = m ((c.tc : Thread nD τ).loc main_arg0) (ix2 (⟨t.val * 512 + r.val, by have := lt32 t; omega⟩ : Fin 16384) k) :=
  (r0 (V m c main_arg0) t r k).trans (congrFun (V_main_arg0 m c) _)
theorem b1 (t : Fin cfg0.N) (k : Fin 1024) (r : Fin 512) : iblk m c 1 t (ix2 k r) = m ((c.tc : Thread nD τ).loc main_arg1) (ix2 k (⟨t.val * 512 + r.val, by have := lt32 t; omega⟩ : Fin 16384)) :=
  (r1 (V m c main_arg1) t k r).trans (congrFun (V_main_arg1 m c) _)
theorem b2 (t : Fin cfg0.N) (k j : Fin 1024) : iblk m c 2 t (ix3 (0 : Fin 1) k j) = m ((c.tc : Thread nD τ).loc main_arg2) (ix3 (0 : Fin 1) k j) :=
  (r2 (V m c main_arg2) t k j).trans (congrFun (V_main_arg2 m c) _)
theorem b3 (t : Fin cfg0.N) (k : Fin 1024) (f : Fin 2816) : iblk m c 3 t (ix3 (0 : Fin 1) k f) = m ((c.tc : Thread nD τ).loc main_arg3) (ix3 (0 : Fin 2) k f) :=
  (r3 (V m c main_arg3) t k f).trans (congrFun (V_main_arg3 m c) _)
theorem b4 (t : Fin cfg0.N) (k : Fin 1024) (f : Fin 2816) : iblk m c 4 t (ix3 (0 : Fin 1) k f) = m ((c.tc : Thread nD τ).loc main_arg4) (ix3 (0 : Fin 2) k f) :=
  (r4 (V m c main_arg4) t k f).trans (congrFun (V_main_arg4 m c) _)
theorem b5 (t : Fin cfg0.N) (f : Fin 2816) (j : Fin 1024) : iblk m c 5 t (ix3 (0 : Fin 1) f j) = m ((c.tc : Thread nD τ).loc main_arg5) (ix3 (0 : Fin 2) f j) :=
  (r5 (V m c main_arg5) t f j).trans (congrFun (V_main_arg5 m c) _)
theorem b6 (t : Fin cfg0.N) (a : Fin 4) (k : Fin 1024) : iblk m c 6 t (ix2 a k) = V m c main_v12 (ix2 a k) := r6 (V m c main_v12) t a k

theorem b6_0 (t : Fin cfg0.N) (k : Fin 1024) : iblk m c 6 t (ix2 (0 : Fin 4) k) = m ((c.tc : Thread nD τ).loc main_arg6) (ix2 (0 : Fin 2) k) := (b6 m c t 0 k).trans (v12_0 m c k)
theorem b6_1 (t : Fin cfg0.N) (k : Fin 1024) : iblk m c 6 t (ix2 (1 : Fin 4) k) = m ((c.tc : Thread nD τ).loc main_arg7) (ix2 (0 : Fin 2) k) := (b6 m c t 1 k).trans (v12_1 m c k)
theorem b6_2 (t : Fin cfg0.N) (k : Fin 1024) : iblk m c 6 t (ix2 (2 : Fin 4) k) = m ((c.tc : Thread nD τ).loc main_arg8) (ix2 (0 : Fin 2) k) := (b6 m c t 2 k).trans (v12_2 m c k)
theorem b6_3 (t : Fin cfg0.N) (k : Fin 1024) : iblk m c 6 t (ix2 (3 : Fin 4) k) = m ((c.tc : Thread nD τ).loc main_arg9) (ix2 (0 : Fin 2) k) := (b6 m c t 3 k).trans (v12_3 m c k)

/-! ## The result -/

/-- What the reference computes from the arguments of the launch. -/
def result : Buf (Elt Ideal) ((c.tc : Thread nD τ).loc main_v13) :=
  Cert.PostReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- A block of the output is the reference's rows. -/
theorem block_row (t : Fin cfg0.N) (r : Fin 512) (j : Fin 1024) :
    outsAt0 m c t (ix2 r j) = result m c (ix2 (⟨t.val * 512 + r.val, by have := lt32 t; omega⟩ : Fin 16384) j) := by
  unfold outsAt0
  rw [block_out]
  unfold result
  rw [Ref.ref_apply]
  show outRow (hidB _ _ _ _ r) _ _ _ _ _ j = _
  unfold hidB Ref.hidR
  simp only [b0 m c, b1 m c, b2 m c, b3 m c, b4 m c, b5 m c, b6_0 m c, b6_1 m c, b6_2 m c, b6_3 m c]

theorem out_val : (dats m 0 c).arrAt 7 cfg0.N = result m c := by
  refine (dats m 0 c).arrAt_eq_of_covers 7 _ (by decide +kernel) fun t hf y => ?_
  blk_simp
  rw [after0_7]
  have f0 : ∀ t : Fin cfg0.N, win0_7.index t 0 = t.val := by decide +kernel
  have f1 : ∀ t : Fin cfg0.N, win0_7.index t 1 = 0 := by decide +kernel
  have hy : y = ix2 (y 0 : Fin 512) (y 1 : Fin 1024) := by
    funext d
    match d with
    | ⟨0, _⟩ => rfl
    | ⟨1, _⟩ => rfl
  have h0 : ((win0_7.blk t).view.emb y 0).val = t.val * 512 + (y 0).val := by
    blk_simp; rw [f0]
  have h1 : ((win0_7.blk t).view.emb y 1).val = (y 1).val := by
    blk_simp; rw [f1]; omega
  refine (congrArg (outsAt0 m c t) hy).trans ((block_row m c t (y 0) (y 1)).trans ?_)
  refine congrArg (result m c) (funext fun a => Fin.ext ?_)
  match a with
  | ⟨0, _⟩ => exact h0.symm
  | ⟨1, _⟩ => exact h1.symm

/-- The run: the result array, and every argument array as it was launched. -/
theorem run_val : θ_run defs (onTc (τ := τ) (main (F := Ideal))) ⟨m, fun _ => 0, ρ⟩ (fun r => ∀ c : Dev nD,
      r.2.mem ((c.tc : Thread nD τ).loc main_v13) = result m c) :=
  (θ_run defs _ _).mono (fun _ h c => ((h c).1 7).trans (out_val m c)) (run_main m ρ)

end Cert.Proof.Post.Ker

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Equal
public import proofs.«01_k».proof.Proof.Kernel.FrameRun
public import proofs.«01_k».proof.Proof.KernelIdeal.RunVal
public import proofs.«01_k».proof.Proof.Post.RunVal

@[expose] public section

noncomputable section

namespace Cert.Proof

open Idealize.ShloMosaic Idealize.SL Idealize.SL.Sem

/-- `Cert.quiescent_Kernel`: the run of `Cert.Proof.Kernel.run_any`. -/
theorem frame_p : Cert.quiescent_Kernel := fun m ρ _ => Cert.Proof.Kernel.run_any (F := Bits) m ρ

/-- `Cert.quiescent_KernelIdeal`: what `run_val` says of the arguments and the counters. -/
theorem frame_i : Cert.quiescent_KernelIdeal := fun m ρ _ =>
  (θ_run Cert.KernelIdeal.defs _ _).mono (fun _ h => ⟨fun c => (h.1 c).2, h.2⟩) (Cert.Proof.KernelIdeal.Val.run_val m ρ)

/-- `Cert.quiescent_ReferenceIdeal`: the reference is host operations only, and declares no semaphore. -/
theorem frame_r : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named mask is the printed constant at the bits and minus infinity at the ideal. -/
theorem names : Cert.preserves_Kernel_KernelIdeal :=
  IdealRules.named_const.statement Cert.KernelIdeal.κ "mask" .f32 0xF149F2CA#32 ⊥ rfl

/-- Over real arguments the launch leaves what the reference computes. -/
theorem values : Cert.algebraic_KernelIdeal_ReferenceIdeal_pre_finite := fun m g m' g' hpre hargs =>
  ⟨fun c => Cert.Proof.KernelIdeal.Val.result m c,
    (θ_run Cert.KernelIdeal.defs _ _).mono (fun _ h => h.1) (Cert.Proof.KernelIdeal.Val.run_val m g),
    (θ_run Cert.ReferenceIdeal.defs _ _).mono
      (fun _ h c => ⟨by
        obtain ⟨h0, h1, h2, h3, h4, h5, h6, h7⟩ := hargs c
        refine ((h c).1.trans (Cert.ReferenceIdeal.Read.val_main_v61_eq m' c)).trans ?_
        rw [h0, h1, h2, h3, h4, h5, h6, h7]
        exact Equal.whole m hpre c, (h c).2⟩)
      (Cert.ReferenceIdeal.Value.run (F := Ideal) m' g')⟩

/-- `Cert.quiescent_Post`. -/
theorem frame_post : Cert.quiescent_Post := fun m ρ _ => Cert.Post.Gen.frame m ρ

/-- `Cert.quiescent_PostIdeal`. -/
theorem frame_postIdeal : Cert.quiescent_PostIdeal := fun m ρ _ => Cert.PostIdeal.Gen.frame m ρ

/-- `Cert.quiescent_PostReferenceIdeal`: host operations only, and no semaphore declared. -/
theorem frame_postReference : Cert.quiescent_PostReferenceIdeal := fun m ρ _ =>
  (θ_run Cert.PostReferenceIdeal.defs _ _).mono
    (fun r h => ⟨fun c => (h c).2, Idealize.ShloMosaic.sem_eq_zero_of_no_sems (by decide) r.2⟩)
    (Cert.PostReferenceIdeal.Value.run (F := Ideal) m ρ)

/-- Over any arguments the third call's launch leaves what its reference computes. -/
theorem values_post : Cert.algebraic_PostIdeal_PostReferenceIdeal := fun m g m' g' _ hargs =>
  ⟨fun c => Cert.Proof.Post.Ker.result m c,
    (θ_run Cert.PostIdeal.defs _ _).mono (fun _ h c => ⟨h.1 c, h.2 c⟩) (θ_run_and (Cert.Proof.Post.Ker.run_val m g) (Cert.PostIdeal.Gen.unchanged m g)),
    (θ_run Cert.PostReferenceIdeal.defs _ _).mono
      (fun _ h c => ⟨by
        obtain ⟨h0, h1, h2, h3, h4, h5, h6, h7, h8, h9⟩ := hargs c
        refine ((h c).1.trans (Cert.PostReferenceIdeal.Read.val_main_v75_eq (fun b => m' (c, b)))).trans ?_
        show Cert.PostReferenceIdeal.Read.val_main_v75 (F := Ideal) (m' ((c.tc : Thread Cert.PostReferenceIdeal.nD Cert.PostReferenceIdeal.τ).loc Cert.PostReferenceIdeal.main_arg0)) (m' ((c.tc : Thread Cert.PostReferenceIdeal.nD Cert.PostReferenceIdeal.τ).loc Cert.PostReferenceIdeal.main_arg1)) (m' ((c.tc : Thread Cert.PostReferenceIdeal.nD Cert.PostReferenceIdeal.τ).loc Cert.PostReferenceIdeal.main_arg2)) (m' ((c.tc : Thread Cert.PostReferenceIdeal.nD Cert.PostReferenceIdeal.τ).loc Cert.PostReferenceIdeal.main_arg3)) (m' ((c.tc : Thread Cert.PostReferenceIdeal.nD Cert.PostReferenceIdeal.τ).loc Cert.PostReferenceIdeal.main_arg4)) (m' ((c.tc : Thread Cert.PostReferenceIdeal.nD Cert.PostReferenceIdeal.τ).loc Cert.PostReferenceIdeal.main_arg5)) (m' ((c.tc : Thread Cert.PostReferenceIdeal.nD Cert.PostReferenceIdeal.τ).loc Cert.PostReferenceIdeal.main_arg6)) (m' ((c.tc : Thread Cert.PostReferenceIdeal.nD Cert.PostReferenceIdeal.τ).loc Cert.PostReferenceIdeal.main_arg7)) (m' ((c.tc : Thread Cert.PostReferenceIdeal.nD Cert.PostReferenceIdeal.τ).loc Cert.PostReferenceIdeal.main_arg8)) (m' ((c.tc : Thread Cert.PostReferenceIdeal.nD Cert.PostReferenceIdeal.τ).loc Cert.PostReferenceIdeal.main_arg9)) = _
        rw [h0, h1, h2, h3, h4, h5, h6, h7, h8, h9]
        rfl, (h c).2⟩)
      (Cert.PostReferenceIdeal.Value.run (F := Ideal) m' g')⟩

theorem claim : Cert.Claim :=
  ⟨Cert.Kernel.Gen.facts, Cert.KernelIdeal.Gen.facts, Cert.ReferenceIdeal.Gen.facts, Cert.Post.Gen.facts, Cert.PostIdeal.Gen.facts, Cert.PostReferenceIdeal.Gen.facts, Cert.Pre_finite.Gen.facts, frame_p, frame_i,
    fun m ρ _ => frame_i m ρ trivial, frame_r, fun m ρ _ => frame_r m ρ trivial, frame_post, frame_postIdeal, frame_postReference, names, values, values_post⟩

end Cert.Proof

end
